-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S2x16 : Shape := ⟨2, ![2, 16]⟩
abbrev S_ : Shape := ⟨0, ![]⟩
abbrev S256x1024 : Shape := ⟨2, ![256, 1024]⟩
abbrev S256x128 : Shape := ⟨2, ![256, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S16x1024 : Shape := ⟨2, ![16, 1024]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S1x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c0_i32_203 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_202 : BitVec 32 := 16#32
  let v372 : BitVec 32 := Scalar.muli v2 c16_i32_202
  let v373 : BitVec 32 := Scalar.addi c0_i32_203 v372
  let v374 : Index := Scalar.indexCast v373
  let c0_204 : Index := 0#32
  ![v374.toNat, 0]
def k0_off2 (d0 : Dev nD) (c1_i32_208 : BitVec 32) : Fin 2 → Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v382 : BitVec 32 := Scalar.addi v2 c1_i32_208
  let c16_i32_209 : BitVec 32 := 16#32
  let c0_i32_210 : BitVec 32 := 0#32
  let v383 : BitVec 1 := Scalar.cmpi .eq c16_i32_209 c0_i32_210
  let c1_i32_211 : BitVec 32 := 1#32
  let v384 : BitVec 32 := Scalar.select v383 c1_i32_211 c16_i32_209
  let v385 : BitVec 32 := Scalar.remsi v382 v384
  let c0_i32_213 : BitVec 32 := 0#32
  let v387 : BitVec 1 := Scalar.cmpi .slt v385 c0_i32_213
  let c0_i32_214 : BitVec 32 := 0#32
  let v388 : BitVec 1 := Scalar.cmpi .slt v384 c0_i32_214
  let v389 : BitVec 1 := Scalar.xori v387 v388
  let c0_i32_212 : BitVec 32 := 0#32
  let v386 : BitVec 1 := Scalar.cmpi .ne v385 c0_i32_212
  let v390 : BitVec 1 := Scalar.andi v389 v386
  let v391 : BitVec 32 := Scalar.addi v385 v384
  let v392 : BitVec 32 := Scalar.select v390 v391 v385
  ![0, v392.toNat]
def k0_off3 (d0 : Dev nD) : Fin 2 → Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off4 (d0 : Dev nD) (c0_i32_218 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_217 : BitVec 32 := 16#32
  let v395 : BitVec 32 := Scalar.muli v2 c16_i32_217
  let v396 : BitVec 32 := Scalar.addi c0_i32_218 v395
  let c0_i32_223 : BitVec 32 := 0#32
  ![v396.toNat, 0]
def k0_off5 (d0 : Dev nD) (c0_i32_216 : BitVec 32) (c1_i32_208 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v382 : BitVec 32 := Scalar.addi v2 c1_i32_208
  let c16_i32_209 : BitVec 32 := 16#32
  let c0_i32_210 : BitVec 32 := 0#32
  let v383 : BitVec 1 := Scalar.cmpi .eq c16_i32_209 c0_i32_210
  let c1_i32_211 : BitVec 32 := 1#32
  let v384 : BitVec 32 := Scalar.select v383 c1_i32_211 c16_i32_209
  let v385 : BitVec 32 := Scalar.remsi v382 v384
  let c0_i32_213 : BitVec 32 := 0#32
  let v387 : BitVec 1 := Scalar.cmpi .slt v385 c0_i32_213
  let c0_i32_214 : BitVec 32 := 0#32
  let v388 : BitVec 1 := Scalar.cmpi .slt v384 c0_i32_214
  let v389 : BitVec 1 := Scalar.xori v387 v388
  let c0_i32_212 : BitVec 32 := 0#32
  let v386 : BitVec 1 := Scalar.cmpi .ne v385 c0_i32_212
  let v390 : BitVec 1 := Scalar.andi v389 v386
  let v391 : BitVec 32 := Scalar.addi v385 v384
  let v392 : BitVec 32 := Scalar.select v390 v391 v385
  let c16_i32_215 : BitVec 32 := 16#32
  let v393 : BitVec 32 := Scalar.muli v392 c16_i32_215
  let v394 : BitVec 32 := Scalar.addi c0_i32_216 v393
  let c0_i32_224 : BitVec 32 := 0#32
  ![v394.toNat, 0]
def k0_dev16 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_208 : BitVec 32 := 1#32
  let v382 : BitVec 32 := Scalar.addi v2 c1_i32_208
  let c16_i32_209 : BitVec 32 := 16#32
  let c0_i32_210 : BitVec 32 := 0#32
  let v383 : BitVec 1 := Scalar.cmpi .eq c16_i32_209 c0_i32_210
  let c1_i32_211 : BitVec 32 := 1#32
  let v384 : BitVec 32 := Scalar.select v383 c1_i32_211 c16_i32_209
  let v385 : BitVec 32 := Scalar.remsi v382 v384
  let c0_i32_213 : BitVec 32 := 0#32
  let v387 : BitVec 1 := Scalar.cmpi .slt v385 c0_i32_213
  let c0_i32_214 : BitVec 32 := 0#32
  let v388 : BitVec 1 := Scalar.cmpi .slt v384 c0_i32_214
  let v389 : BitVec 1 := Scalar.xori v387 v388
  let c0_i32_212 : BitVec 32 := 0#32
  let v386 : BitVec 1 := Scalar.cmpi .ne v385 c0_i32_212
  let v390 : BitVec 1 := Scalar.andi v389 v386
  let v391 : BitVec 32 := Scalar.addi v385 v384
  let v392 : BitVec 32 := Scalar.select v390 v391 v385
  let c1_i32_221 : BitVec 32 := 1#32
  let v397 : BitVec 32 := Scalar.muli v392 c1_i32_221
  let v398 : BitVec 32 := Scalar.addi c0_i32_222 v397
  v398.toNat
def k0_dev17 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_225 : BitVec 32 := 2#32
  let v405 : BitVec 32 := Scalar.addi v2 c2_i32_225
  let c16_i32_226 : BitVec 32 := 16#32
  let c0_i32_227 : BitVec 32 := 0#32
  let v406 : BitVec 1 := Scalar.cmpi .eq c16_i32_226 c0_i32_227
  let c1_i32_228 : BitVec 32 := 1#32
  let v407 : BitVec 32 := Scalar.select v406 c1_i32_228 c16_i32_226
  let v408 : BitVec 32 := Scalar.remsi v405 v407
  let c0_i32_230 : BitVec 32 := 0#32
  let v410 : BitVec 1 := Scalar.cmpi .slt v408 c0_i32_230
  let c0_i32_231 : BitVec 32 := 0#32
  let v411 : BitVec 1 := Scalar.cmpi .slt v407 c0_i32_231
  let v412 : BitVec 1 := Scalar.xori v410 v411
  let c0_i32_229 : BitVec 32 := 0#32
  let v409 : BitVec 1 := Scalar.cmpi .ne v408 c0_i32_229
  let v413 : BitVec 1 := Scalar.andi v412 v409
  let v414 : BitVec 32 := Scalar.addi v408 v407
  let v415 : BitVec 32 := Scalar.select v413 v414 v408
  let c1_i32_238 : BitVec 32 := 1#32
  let v420 : BitVec 32 := Scalar.muli v415 c1_i32_238
  let v421 : BitVec 32 := Scalar.addi c0_i32_239 v420
  v421.toNat
def k0_dev18 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_242 : BitVec 32 := 3#32
  let v428 : BitVec 32 := Scalar.addi v2 c3_i32_242
  let c16_i32_243 : BitVec 32 := 16#32
  let c0_i32_244 : BitVec 32 := 0#32
  let v429 : BitVec 1 := Scalar.cmpi .eq c16_i32_243 c0_i32_244
  let c1_i32_245 : BitVec 32 := 1#32
  let v430 : BitVec 32 := Scalar.select v429 c1_i32_245 c16_i32_243
  let v431 : BitVec 32 := Scalar.remsi v428 v430
  let c0_i32_247 : BitVec 32 := 0#32
  let v433 : BitVec 1 := Scalar.cmpi .slt v431 c0_i32_247
  let c0_i32_248 : BitVec 32 := 0#32
  let v434 : BitVec 1 := Scalar.cmpi .slt v430 c0_i32_248
  let v435 : BitVec 1 := Scalar.xori v433 v434
  let c0_i32_246 : BitVec 32 := 0#32
  let v432 : BitVec 1 := Scalar.cmpi .ne v431 c0_i32_246
  let v436 : BitVec 1 := Scalar.andi v435 v432
  let v437 : BitVec 32 := Scalar.addi v431 v430
  let v438 : BitVec 32 := Scalar.select v436 v437 v431
  let c1_i32_255 : BitVec 32 := 1#32
  let v443 : BitVec 32 := Scalar.muli v438 c1_i32_255
  let v444 : BitVec 32 := Scalar.addi c0_i32_256 v443
  v444.toNat
def k0_dev19 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_259 : BitVec 32 := 4#32
  let v451 : BitVec 32 := Scalar.addi v2 c4_i32_259
  let c16_i32_260 : BitVec 32 := 16#32
  let c0_i32_261 : BitVec 32 := 0#32
  let v452 : BitVec 1 := Scalar.cmpi .eq c16_i32_260 c0_i32_261
  let c1_i32_262 : BitVec 32 := 1#32
  let v453 : BitVec 32 := Scalar.select v452 c1_i32_262 c16_i32_260
  let v454 : BitVec 32 := Scalar.remsi v451 v453
  let c0_i32_264 : BitVec 32 := 0#32
  let v456 : BitVec 1 := Scalar.cmpi .slt v454 c0_i32_264
  let c0_i32_265 : BitVec 32 := 0#32
  let v457 : BitVec 1 := Scalar.cmpi .slt v453 c0_i32_265
  let v458 : BitVec 1 := Scalar.xori v456 v457
  let c0_i32_263 : BitVec 32 := 0#32
  let v455 : BitVec 1 := Scalar.cmpi .ne v454 c0_i32_263
  let v459 : BitVec 1 := Scalar.andi v458 v455
  let v460 : BitVec 32 := Scalar.addi v454 v453
  let v461 : BitVec 32 := Scalar.select v459 v460 v454
  let c1_i32_272 : BitVec 32 := 1#32
  let v466 : BitVec 32 := Scalar.muli v461 c1_i32_272
  let v467 : BitVec 32 := Scalar.addi c0_i32_273 v466
  v467.toNat
def k0_dev20 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_276 : BitVec 32 := 5#32
  let v474 : BitVec 32 := Scalar.addi v2 c5_i32_276
  let c16_i32_277 : BitVec 32 := 16#32
  let c0_i32_278 : BitVec 32 := 0#32
  let v475 : BitVec 1 := Scalar.cmpi .eq c16_i32_277 c0_i32_278
  let c1_i32_279 : BitVec 32 := 1#32
  let v476 : BitVec 32 := Scalar.select v475 c1_i32_279 c16_i32_277
  let v477 : BitVec 32 := Scalar.remsi v474 v476
  let c0_i32_281 : BitVec 32 := 0#32
  let v479 : BitVec 1 := Scalar.cmpi .slt v477 c0_i32_281
  let c0_i32_282 : BitVec 32 := 0#32
  let v480 : BitVec 1 := Scalar.cmpi .slt v476 c0_i32_282
  let v481 : BitVec 1 := Scalar.xori v479 v480
  let c0_i32_280 : BitVec 32 := 0#32
  let v478 : BitVec 1 := Scalar.cmpi .ne v477 c0_i32_280
  let v482 : BitVec 1 := Scalar.andi v481 v478
  let v483 : BitVec 32 := Scalar.addi v477 v476
  let v484 : BitVec 32 := Scalar.select v482 v483 v477
  let c1_i32_289 : BitVec 32 := 1#32
  let v489 : BitVec 32 := Scalar.muli v484 c1_i32_289
  let v490 : BitVec 32 := Scalar.addi c0_i32_290 v489
  v490.toNat
def k0_dev21 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_293 : BitVec 32 := 6#32
  let v497 : BitVec 32 := Scalar.addi v2 c6_i32_293
  let c16_i32_294 : BitVec 32 := 16#32
  let c0_i32_295 : BitVec 32 := 0#32
  let v498 : BitVec 1 := Scalar.cmpi .eq c16_i32_294 c0_i32_295
  let c1_i32_296 : BitVec 32 := 1#32
  let v499 : BitVec 32 := Scalar.select v498 c1_i32_296 c16_i32_294
  let v500 : BitVec 32 := Scalar.remsi v497 v499
  let c0_i32_298 : BitVec 32 := 0#32
  let v502 : BitVec 1 := Scalar.cmpi .slt v500 c0_i32_298
  let c0_i32_299 : BitVec 32 := 0#32
  let v503 : BitVec 1 := Scalar.cmpi .slt v499 c0_i32_299
  let v504 : BitVec 1 := Scalar.xori v502 v503
  let c0_i32_297 : BitVec 32 := 0#32
  let v501 : BitVec 1 := Scalar.cmpi .ne v500 c0_i32_297
  let v505 : BitVec 1 := Scalar.andi v504 v501
  let v506 : BitVec 32 := Scalar.addi v500 v499
  let v507 : BitVec 32 := Scalar.select v505 v506 v500
  let c1_i32_306 : BitVec 32 := 1#32
  let v512 : BitVec 32 := Scalar.muli v507 c1_i32_306
  let v513 : BitVec 32 := Scalar.addi c0_i32_307 v512
  v513.toNat
def k0_dev22 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_310 : BitVec 32 := 7#32
  let v520 : BitVec 32 := Scalar.addi v2 c7_i32_310
  let c16_i32_311 : BitVec 32 := 16#32
  let c0_i32_312 : BitVec 32 := 0#32
  let v521 : BitVec 1 := Scalar.cmpi .eq c16_i32_311 c0_i32_312
  let c1_i32_313 : BitVec 32 := 1#32
  let v522 : BitVec 32 := Scalar.select v521 c1_i32_313 c16_i32_311
  let v523 : BitVec 32 := Scalar.remsi v520 v522
  let c0_i32_315 : BitVec 32 := 0#32
  let v525 : BitVec 1 := Scalar.cmpi .slt v523 c0_i32_315
  let c0_i32_316 : BitVec 32 := 0#32
  let v526 : BitVec 1 := Scalar.cmpi .slt v522 c0_i32_316
  let v527 : BitVec 1 := Scalar.xori v525 v526
  let c0_i32_314 : BitVec 32 := 0#32
  let v524 : BitVec 1 := Scalar.cmpi .ne v523 c0_i32_314
  let v528 : BitVec 1 := Scalar.andi v527 v524
  let v529 : BitVec 32 := Scalar.addi v523 v522
  let v530 : BitVec 32 := Scalar.select v528 v529 v523
  let c1_i32_323 : BitVec 32 := 1#32
  let v535 : BitVec 32 := Scalar.muli v530 c1_i32_323
  let v536 : BitVec 32 := Scalar.addi c0_i32_324 v535
  v536.toNat
def k0_dev23 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_327 : BitVec 32 := 8#32
  let v543 : BitVec 32 := Scalar.addi v2 c8_i32_327
  let c16_i32_328 : BitVec 32 := 16#32
  let c0_i32_329 : BitVec 32 := 0#32
  let v544 : BitVec 1 := Scalar.cmpi .eq c16_i32_328 c0_i32_329
  let c1_i32_330 : BitVec 32 := 1#32
  let v545 : BitVec 32 := Scalar.select v544 c1_i32_330 c16_i32_328
  let v546 : BitVec 32 := Scalar.remsi v543 v545
  let c0_i32_332 : BitVec 32 := 0#32
  let v548 : BitVec 1 := Scalar.cmpi .slt v546 c0_i32_332
  let c0_i32_333 : BitVec 32 := 0#32
  let v549 : BitVec 1 := Scalar.cmpi .slt v545 c0_i32_333
  let v550 : BitVec 1 := Scalar.xori v548 v549
  let c0_i32_331 : BitVec 32 := 0#32
  let v547 : BitVec 1 := Scalar.cmpi .ne v546 c0_i32_331
  let v551 : BitVec 1 := Scalar.andi v550 v547
  let v552 : BitVec 32 := Scalar.addi v546 v545
  let v553 : BitVec 32 := Scalar.select v551 v552 v546
  let c1_i32_340 : BitVec 32 := 1#32
  let v558 : BitVec 32 := Scalar.muli v553 c1_i32_340
  let v559 : BitVec 32 := Scalar.addi c0_i32_341 v558
  v559.toNat
def k0_dev24 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_344 : BitVec 32 := 9#32
  let v566 : BitVec 32 := Scalar.addi v2 c9_i32_344
  let c16_i32_345 : BitVec 32 := 16#32
  let c0_i32_346 : BitVec 32 := 0#32
  let v567 : BitVec 1 := Scalar.cmpi .eq c16_i32_345 c0_i32_346
  let c1_i32_347 : BitVec 32 := 1#32
  let v568 : BitVec 32 := Scalar.select v567 c1_i32_347 c16_i32_345
  let v569 : BitVec 32 := Scalar.remsi v566 v568
  let c0_i32_349 : BitVec 32 := 0#32
  let v571 : BitVec 1 := Scalar.cmpi .slt v569 c0_i32_349
  let c0_i32_350 : BitVec 32 := 0#32
  let v572 : BitVec 1 := Scalar.cmpi .slt v568 c0_i32_350
  let v573 : BitVec 1 := Scalar.xori v571 v572
  let c0_i32_348 : BitVec 32 := 0#32
  let v570 : BitVec 1 := Scalar.cmpi .ne v569 c0_i32_348
  let v574 : BitVec 1 := Scalar.andi v573 v570
  let v575 : BitVec 32 := Scalar.addi v569 v568
  let v576 : BitVec 32 := Scalar.select v574 v575 v569
  let c1_i32_357 : BitVec 32 := 1#32
  let v581 : BitVec 32 := Scalar.muli v576 c1_i32_357
  let v582 : BitVec 32 := Scalar.addi c0_i32_358 v581
  v582.toNat
def k0_dev25 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_361 : BitVec 32 := 10#32
  let v589 : BitVec 32 := Scalar.addi v2 c10_i32_361
  let c16_i32_362 : BitVec 32 := 16#32
  let c0_i32_363 : BitVec 32 := 0#32
  let v590 : BitVec 1 := Scalar.cmpi .eq c16_i32_362 c0_i32_363
  let c1_i32_364 : BitVec 32 := 1#32
  let v591 : BitVec 32 := Scalar.select v590 c1_i32_364 c16_i32_362
  let v592 : BitVec 32 := Scalar.remsi v589 v591
  let c0_i32_366 : BitVec 32 := 0#32
  let v594 : BitVec 1 := Scalar.cmpi .slt v592 c0_i32_366
  let c0_i32_367 : BitVec 32 := 0#32
  let v595 : BitVec 1 := Scalar.cmpi .slt v591 c0_i32_367
  let v596 : BitVec 1 := Scalar.xori v594 v595
  let c0_i32_365 : BitVec 32 := 0#32
  let v593 : BitVec 1 := Scalar.cmpi .ne v592 c0_i32_365
  let v597 : BitVec 1 := Scalar.andi v596 v593
  let v598 : BitVec 32 := Scalar.addi v592 v591
  let v599 : BitVec 32 := Scalar.select v597 v598 v592
  let c1_i32_374 : BitVec 32 := 1#32
  let v604 : BitVec 32 := Scalar.muli v599 c1_i32_374
  let v605 : BitVec 32 := Scalar.addi c0_i32_375 v604
  v605.toNat
def k0_dev26 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_378 : BitVec 32 := 11#32
  let v612 : BitVec 32 := Scalar.addi v2 c11_i32_378
  let c16_i32_379 : BitVec 32 := 16#32
  let c0_i32_380 : BitVec 32 := 0#32
  let v613 : BitVec 1 := Scalar.cmpi .eq c16_i32_379 c0_i32_380
  let c1_i32_381 : BitVec 32 := 1#32
  let v614 : BitVec 32 := Scalar.select v613 c1_i32_381 c16_i32_379
  let v615 : BitVec 32 := Scalar.remsi v612 v614
  let c0_i32_383 : BitVec 32 := 0#32
  let v617 : BitVec 1 := Scalar.cmpi .slt v615 c0_i32_383
  let c0_i32_384 : BitVec 32 := 0#32
  let v618 : BitVec 1 := Scalar.cmpi .slt v614 c0_i32_384
  let v619 : BitVec 1 := Scalar.xori v617 v618
  let c0_i32_382 : BitVec 32 := 0#32
  let v616 : BitVec 1 := Scalar.cmpi .ne v615 c0_i32_382
  let v620 : BitVec 1 := Scalar.andi v619 v616
  let v621 : BitVec 32 := Scalar.addi v615 v614
  let v622 : BitVec 32 := Scalar.select v620 v621 v615
  let c1_i32_391 : BitVec 32 := 1#32
  let v627 : BitVec 32 := Scalar.muli v622 c1_i32_391
  let v628 : BitVec 32 := Scalar.addi c0_i32_392 v627
  v628.toNat
def k0_dev27 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_395 : BitVec 32 := 12#32
  let v635 : BitVec 32 := Scalar.addi v2 c12_i32_395
  let c16_i32_396 : BitVec 32 := 16#32
  let c0_i32_397 : BitVec 32 := 0#32
  let v636 : BitVec 1 := Scalar.cmpi .eq c16_i32_396 c0_i32_397
  let c1_i32_398 : BitVec 32 := 1#32
  let v637 : BitVec 32 := Scalar.select v636 c1_i32_398 c16_i32_396
  let v638 : BitVec 32 := Scalar.remsi v635 v637
  let c0_i32_400 : BitVec 32 := 0#32
  let v640 : BitVec 1 := Scalar.cmpi .slt v638 c0_i32_400
  let c0_i32_401 : BitVec 32 := 0#32
  let v641 : BitVec 1 := Scalar.cmpi .slt v637 c0_i32_401
  let v642 : BitVec 1 := Scalar.xori v640 v641
  let c0_i32_399 : BitVec 32 := 0#32
  let v639 : BitVec 1 := Scalar.cmpi .ne v638 c0_i32_399
  let v643 : BitVec 1 := Scalar.andi v642 v639
  let v644 : BitVec 32 := Scalar.addi v638 v637
  let v645 : BitVec 32 := Scalar.select v643 v644 v638
  let c1_i32_408 : BitVec 32 := 1#32
  let v650 : BitVec 32 := Scalar.muli v645 c1_i32_408
  let v651 : BitVec 32 := Scalar.addi c0_i32_409 v650
  v651.toNat
def k0_dev28 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_412 : BitVec 32 := 13#32
  let v658 : BitVec 32 := Scalar.addi v2 c13_i32_412
  let c16_i32_413 : BitVec 32 := 16#32
  let c0_i32_414 : BitVec 32 := 0#32
  let v659 : BitVec 1 := Scalar.cmpi .eq c16_i32_413 c0_i32_414
  let c1_i32_415 : BitVec 32 := 1#32
  let v660 : BitVec 32 := Scalar.select v659 c1_i32_415 c16_i32_413
  let v661 : BitVec 32 := Scalar.remsi v658 v660
  let c0_i32_417 : BitVec 32 := 0#32
  let v663 : BitVec 1 := Scalar.cmpi .slt v661 c0_i32_417
  let c0_i32_418 : BitVec 32 := 0#32
  let v664 : BitVec 1 := Scalar.cmpi .slt v660 c0_i32_418
  let v665 : BitVec 1 := Scalar.xori v663 v664
  let c0_i32_416 : BitVec 32 := 0#32
  let v662 : BitVec 1 := Scalar.cmpi .ne v661 c0_i32_416
  let v666 : BitVec 1 := Scalar.andi v665 v662
  let v667 : BitVec 32 := Scalar.addi v661 v660
  let v668 : BitVec 32 := Scalar.select v666 v667 v661
  let c1_i32_425 : BitVec 32 := 1#32
  let v673 : BitVec 32 := Scalar.muli v668 c1_i32_425
  let v674 : BitVec 32 := Scalar.addi c0_i32_426 v673
  v674.toNat
def k0_dev29 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_429 : BitVec 32 := 14#32
  let v681 : BitVec 32 := Scalar.addi v2 c14_i32_429
  let c16_i32_430 : BitVec 32 := 16#32
  let c0_i32_431 : BitVec 32 := 0#32
  let v682 : BitVec 1 := Scalar.cmpi .eq c16_i32_430 c0_i32_431
  let c1_i32_432 : BitVec 32 := 1#32
  let v683 : BitVec 32 := Scalar.select v682 c1_i32_432 c16_i32_430
  let v684 : BitVec 32 := Scalar.remsi v681 v683
  let c0_i32_434 : BitVec 32 := 0#32
  let v686 : BitVec 1 := Scalar.cmpi .slt v684 c0_i32_434
  let c0_i32_435 : BitVec 32 := 0#32
  let v687 : BitVec 1 := Scalar.cmpi .slt v683 c0_i32_435
  let v688 : BitVec 1 := Scalar.xori v686 v687
  let c0_i32_433 : BitVec 32 := 0#32
  let v685 : BitVec 1 := Scalar.cmpi .ne v684 c0_i32_433
  let v689 : BitVec 1 := Scalar.andi v688 v685
  let v690 : BitVec 32 := Scalar.addi v684 v683
  let v691 : BitVec 32 := Scalar.select v689 v690 v684
  let c1_i32_442 : BitVec 32 := 1#32
  let v696 : BitVec 32 := Scalar.muli v691 c1_i32_442
  let v697 : BitVec 32 := Scalar.addi c0_i32_443 v696
  v697.toNat
def k0_dev30 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_446 : BitVec 32 := 15#32
  let v704 : BitVec 32 := Scalar.addi v2 c15_i32_446
  let c16_i32_447 : BitVec 32 := 16#32
  let c0_i32_448 : BitVec 32 := 0#32
  let v705 : BitVec 1 := Scalar.cmpi .eq c16_i32_447 c0_i32_448
  let c1_i32_449 : BitVec 32 := 1#32
  let v706 : BitVec 32 := Scalar.select v705 c1_i32_449 c16_i32_447
  let v707 : BitVec 32 := Scalar.remsi v704 v706
  let c0_i32_451 : BitVec 32 := 0#32
  let v709 : BitVec 1 := Scalar.cmpi .slt v707 c0_i32_451
  let c0_i32_452 : BitVec 32 := 0#32
  let v710 : BitVec 1 := Scalar.cmpi .slt v706 c0_i32_452
  let v711 : BitVec 1 := Scalar.xori v709 v710
  let c0_i32_450 : BitVec 32 := 0#32
  let v708 : BitVec 1 := Scalar.cmpi .ne v707 c0_i32_450
  let v712 : BitVec 1 := Scalar.andi v711 v708
  let v713 : BitVec 32 := Scalar.addi v707 v706
  let v714 : BitVec 32 := Scalar.select v712 v713 v707
  let c1_i32_459 : BitVec 32 := 1#32
  let v719 : BitVec 32 := Scalar.muli v714 c1_i32_459
  let v720 : BitVec 32 := Scalar.addi c0_i32_460 v719
  v720.toNat
def k0_off6 (d0 : Dev nD) (c1_i32_534 : BitVec 32) : Fin 2 → Nat :=
  let c1_i32_546 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v901 : BitVec 32 := Scalar.addi v2 c1_i32_534
  let c16_i32_535 : BitVec 32 := 16#32
  let c0_i32_536 : BitVec 32 := 0#32
  let v902 : BitVec 1 := Scalar.cmpi .eq c16_i32_535 c0_i32_536
  let c1_i32_537 : BitVec 32 := 1#32
  let v903 : BitVec 32 := Scalar.select v902 c1_i32_537 c16_i32_535
  let v904 : BitVec 32 := Scalar.remsi v901 v903
  let c0_i32_539 : BitVec 32 := 0#32
  let v906 : BitVec 1 := Scalar.cmpi .slt v904 c0_i32_539
  let c0_i32_540 : BitVec 32 := 0#32
  let v907 : BitVec 1 := Scalar.cmpi .slt v903 c0_i32_540
  let v908 : BitVec 1 := Scalar.xori v906 v907
  let c0_i32_538 : BitVec 32 := 0#32
  let v905 : BitVec 1 := Scalar.cmpi .ne v904 c0_i32_538
  let v909 : BitVec 1 := Scalar.andi v908 v905
  let v910 : BitVec 32 := Scalar.addi v904 v903
  let v911 : BitVec 32 := Scalar.select v909 v910 v904
  ![1, v911.toNat]
def k0_off7 (d0 : Dev nD) : Fin 2 → Nat :=
  let c1_i32_545 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_dev31 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_534 : BitVec 32 := 1#32
  let v901 : BitVec 32 := Scalar.addi v2 c1_i32_534
  let c16_i32_535 : BitVec 32 := 16#32
  let c0_i32_536 : BitVec 32 := 0#32
  let v902 : BitVec 1 := Scalar.cmpi .eq c16_i32_535 c0_i32_536
  let c1_i32_537 : BitVec 32 := 1#32
  let v903 : BitVec 32 := Scalar.select v902 c1_i32_537 c16_i32_535
  let v904 : BitVec 32 := Scalar.remsi v901 v903
  let c0_i32_539 : BitVec 32 := 0#32
  let v906 : BitVec 1 := Scalar.cmpi .slt v904 c0_i32_539
  let c0_i32_540 : BitVec 32 := 0#32
  let v907 : BitVec 1 := Scalar.cmpi .slt v903 c0_i32_540
  let v908 : BitVec 1 := Scalar.xori v906 v907
  let c0_i32_538 : BitVec 32 := 0#32
  let v905 : BitVec 1 := Scalar.cmpi .ne v904 c0_i32_538
  let v909 : BitVec 1 := Scalar.andi v908 v905
  let v910 : BitVec 32 := Scalar.addi v904 v903
  let v911 : BitVec 32 := Scalar.select v909 v910 v904
  let c1_i32_547 : BitVec 32 := 1#32
  let v916 : BitVec 32 := Scalar.muli v911 c1_i32_547
  let v917 : BitVec 32 := Scalar.addi c0_i32_548 v916
  v917.toNat
def k0_dev32 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_551 : BitVec 32 := 2#32
  let v924 : BitVec 32 := Scalar.addi v2 c2_i32_551
  let c16_i32_552 : BitVec 32 := 16#32
  let c0_i32_553 : BitVec 32 := 0#32
  let v925 : BitVec 1 := Scalar.cmpi .eq c16_i32_552 c0_i32_553
  let c1_i32_554 : BitVec 32 := 1#32
  let v926 : BitVec 32 := Scalar.select v925 c1_i32_554 c16_i32_552
  let v927 : BitVec 32 := Scalar.remsi v924 v926
  let c0_i32_556 : BitVec 32 := 0#32
  let v929 : BitVec 1 := Scalar.cmpi .slt v927 c0_i32_556
  let c0_i32_557 : BitVec 32 := 0#32
  let v930 : BitVec 1 := Scalar.cmpi .slt v926 c0_i32_557
  let v931 : BitVec 1 := Scalar.xori v929 v930
  let c0_i32_555 : BitVec 32 := 0#32
  let v928 : BitVec 1 := Scalar.cmpi .ne v927 c0_i32_555
  let v932 : BitVec 1 := Scalar.andi v931 v928
  let v933 : BitVec 32 := Scalar.addi v927 v926
  let v934 : BitVec 32 := Scalar.select v932 v933 v927
  let c1_i32_564 : BitVec 32 := 1#32
  let v939 : BitVec 32 := Scalar.muli v934 c1_i32_564
  let v940 : BitVec 32 := Scalar.addi c0_i32_565 v939
  v940.toNat
def k0_dev33 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_568 : BitVec 32 := 3#32
  let v947 : BitVec 32 := Scalar.addi v2 c3_i32_568
  let c16_i32_569 : BitVec 32 := 16#32
  let c0_i32_570 : BitVec 32 := 0#32
  let v948 : BitVec 1 := Scalar.cmpi .eq c16_i32_569 c0_i32_570
  let c1_i32_571 : BitVec 32 := 1#32
  let v949 : BitVec 32 := Scalar.select v948 c1_i32_571 c16_i32_569
  let v950 : BitVec 32 := Scalar.remsi v947 v949
  let c0_i32_573 : BitVec 32 := 0#32
  let v952 : BitVec 1 := Scalar.cmpi .slt v950 c0_i32_573
  let c0_i32_574 : BitVec 32 := 0#32
  let v953 : BitVec 1 := Scalar.cmpi .slt v949 c0_i32_574
  let v954 : BitVec 1 := Scalar.xori v952 v953
  let c0_i32_572 : BitVec 32 := 0#32
  let v951 : BitVec 1 := Scalar.cmpi .ne v950 c0_i32_572
  let v955 : BitVec 1 := Scalar.andi v954 v951
  let v956 : BitVec 32 := Scalar.addi v950 v949
  let v957 : BitVec 32 := Scalar.select v955 v956 v950
  let c1_i32_581 : BitVec 32 := 1#32
  let v962 : BitVec 32 := Scalar.muli v957 c1_i32_581
  let v963 : BitVec 32 := Scalar.addi c0_i32_582 v962
  v963.toNat
def k0_dev34 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_585 : BitVec 32 := 4#32
  let v970 : BitVec 32 := Scalar.addi v2 c4_i32_585
  let c16_i32_586 : BitVec 32 := 16#32
  let c0_i32_587 : BitVec 32 := 0#32
  let v971 : BitVec 1 := Scalar.cmpi .eq c16_i32_586 c0_i32_587
  let c1_i32_588 : BitVec 32 := 1#32
  let v972 : BitVec 32 := Scalar.select v971 c1_i32_588 c16_i32_586
  let v973 : BitVec 32 := Scalar.remsi v970 v972
  let c0_i32_590 : BitVec 32 := 0#32
  let v975 : BitVec 1 := Scalar.cmpi .slt v973 c0_i32_590
  let c0_i32_591 : BitVec 32 := 0#32
  let v976 : BitVec 1 := Scalar.cmpi .slt v972 c0_i32_591
  let v977 : BitVec 1 := Scalar.xori v975 v976
  let c0_i32_589 : BitVec 32 := 0#32
  let v974 : BitVec 1 := Scalar.cmpi .ne v973 c0_i32_589
  let v978 : BitVec 1 := Scalar.andi v977 v974
  let v979 : BitVec 32 := Scalar.addi v973 v972
  let v980 : BitVec 32 := Scalar.select v978 v979 v973
  let c1_i32_598 : BitVec 32 := 1#32
  let v985 : BitVec 32 := Scalar.muli v980 c1_i32_598
  let v986 : BitVec 32 := Scalar.addi c0_i32_599 v985
  v986.toNat
def k0_dev35 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_602 : BitVec 32 := 5#32
  let v993 : BitVec 32 := Scalar.addi v2 c5_i32_602
  let c16_i32_603 : BitVec 32 := 16#32
  let c0_i32_604 : BitVec 32 := 0#32
  let v994 : BitVec 1 := Scalar.cmpi .eq c16_i32_603 c0_i32_604
  let c1_i32_605 : BitVec 32 := 1#32
  let v995 : BitVec 32 := Scalar.select v994 c1_i32_605 c16_i32_603
  let v996 : BitVec 32 := Scalar.remsi v993 v995
  let c0_i32_607 : BitVec 32 := 0#32
  let v998 : BitVec 1 := Scalar.cmpi .slt v996 c0_i32_607
  let c0_i32_608 : BitVec 32 := 0#32
  let v999 : BitVec 1 := Scalar.cmpi .slt v995 c0_i32_608
  let v1000 : BitVec 1 := Scalar.xori v998 v999
  let c0_i32_606 : BitVec 32 := 0#32
  let v997 : BitVec 1 := Scalar.cmpi .ne v996 c0_i32_606
  let v1001 : BitVec 1 := Scalar.andi v1000 v997
  let v1002 : BitVec 32 := Scalar.addi v996 v995
  let v1003 : BitVec 32 := Scalar.select v1001 v1002 v996
  let c1_i32_615 : BitVec 32 := 1#32
  let v1008 : BitVec 32 := Scalar.muli v1003 c1_i32_615
  let v1009 : BitVec 32 := Scalar.addi c0_i32_616 v1008
  v1009.toNat
def k0_dev36 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_619 : BitVec 32 := 6#32
  let v1016 : BitVec 32 := Scalar.addi v2 c6_i32_619
  let c16_i32_620 : BitVec 32 := 16#32
  let c0_i32_621 : BitVec 32 := 0#32
  let v1017 : BitVec 1 := Scalar.cmpi .eq c16_i32_620 c0_i32_621
  let c1_i32_622 : BitVec 32 := 1#32
  let v1018 : BitVec 32 := Scalar.select v1017 c1_i32_622 c16_i32_620
  let v1019 : BitVec 32 := Scalar.remsi v1016 v1018
  let c0_i32_624 : BitVec 32 := 0#32
  let v1021 : BitVec 1 := Scalar.cmpi .slt v1019 c0_i32_624
  let c0_i32_625 : BitVec 32 := 0#32
  let v1022 : BitVec 1 := Scalar.cmpi .slt v1018 c0_i32_625
  let v1023 : BitVec 1 := Scalar.xori v1021 v1022
  let c0_i32_623 : BitVec 32 := 0#32
  let v1020 : BitVec 1 := Scalar.cmpi .ne v1019 c0_i32_623
  let v1024 : BitVec 1 := Scalar.andi v1023 v1020
  let v1025 : BitVec 32 := Scalar.addi v1019 v1018
  let v1026 : BitVec 32 := Scalar.select v1024 v1025 v1019
  let c1_i32_632 : BitVec 32 := 1#32
  let v1031 : BitVec 32 := Scalar.muli v1026 c1_i32_632
  let v1032 : BitVec 32 := Scalar.addi c0_i32_633 v1031
  v1032.toNat
def k0_dev37 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_636 : BitVec 32 := 7#32
  let v1039 : BitVec 32 := Scalar.addi v2 c7_i32_636
  let c16_i32_637 : BitVec 32 := 16#32
  let c0_i32_638 : BitVec 32 := 0#32
  let v1040 : BitVec 1 := Scalar.cmpi .eq c16_i32_637 c0_i32_638
  let c1_i32_639 : BitVec 32 := 1#32
  let v1041 : BitVec 32 := Scalar.select v1040 c1_i32_639 c16_i32_637
  let v1042 : BitVec 32 := Scalar.remsi v1039 v1041
  let c0_i32_641 : BitVec 32 := 0#32
  let v1044 : BitVec 1 := Scalar.cmpi .slt v1042 c0_i32_641
  let c0_i32_642 : BitVec 32 := 0#32
  let v1045 : BitVec 1 := Scalar.cmpi .slt v1041 c0_i32_642
  let v1046 : BitVec 1 := Scalar.xori v1044 v1045
  let c0_i32_640 : BitVec 32 := 0#32
  let v1043 : BitVec 1 := Scalar.cmpi .ne v1042 c0_i32_640
  let v1047 : BitVec 1 := Scalar.andi v1046 v1043
  let v1048 : BitVec 32 := Scalar.addi v1042 v1041
  let v1049 : BitVec 32 := Scalar.select v1047 v1048 v1042
  let c1_i32_649 : BitVec 32 := 1#32
  let v1054 : BitVec 32 := Scalar.muli v1049 c1_i32_649
  let v1055 : BitVec 32 := Scalar.addi c0_i32_650 v1054
  v1055.toNat
def k0_dev38 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_653 : BitVec 32 := 8#32
  let v1062 : BitVec 32 := Scalar.addi v2 c8_i32_653
  let c16_i32_654 : BitVec 32 := 16#32
  let c0_i32_655 : BitVec 32 := 0#32
  let v1063 : BitVec 1 := Scalar.cmpi .eq c16_i32_654 c0_i32_655
  let c1_i32_656 : BitVec 32 := 1#32
  let v1064 : BitVec 32 := Scalar.select v1063 c1_i32_656 c16_i32_654
  let v1065 : BitVec 32 := Scalar.remsi v1062 v1064
  let c0_i32_658 : BitVec 32 := 0#32
  let v1067 : BitVec 1 := Scalar.cmpi .slt v1065 c0_i32_658
  let c0_i32_659 : BitVec 32 := 0#32
  let v1068 : BitVec 1 := Scalar.cmpi .slt v1064 c0_i32_659
  let v1069 : BitVec 1 := Scalar.xori v1067 v1068
  let c0_i32_657 : BitVec 32 := 0#32
  let v1066 : BitVec 1 := Scalar.cmpi .ne v1065 c0_i32_657
  let v1070 : BitVec 1 := Scalar.andi v1069 v1066
  let v1071 : BitVec 32 := Scalar.addi v1065 v1064
  let v1072 : BitVec 32 := Scalar.select v1070 v1071 v1065
  let c1_i32_666 : BitVec 32 := 1#32
  let v1077 : BitVec 32 := Scalar.muli v1072 c1_i32_666
  let v1078 : BitVec 32 := Scalar.addi c0_i32_667 v1077
  v1078.toNat
def k0_dev39 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_670 : BitVec 32 := 9#32
  let v1085 : BitVec 32 := Scalar.addi v2 c9_i32_670
  let c16_i32_671 : BitVec 32 := 16#32
  let c0_i32_672 : BitVec 32 := 0#32
  let v1086 : BitVec 1 := Scalar.cmpi .eq c16_i32_671 c0_i32_672
  let c1_i32_673 : BitVec 32 := 1#32
  let v1087 : BitVec 32 := Scalar.select v1086 c1_i32_673 c16_i32_671
  let v1088 : BitVec 32 := Scalar.remsi v1085 v1087
  let c0_i32_675 : BitVec 32 := 0#32
  let v1090 : BitVec 1 := Scalar.cmpi .slt v1088 c0_i32_675
  let c0_i32_676 : BitVec 32 := 0#32
  let v1091 : BitVec 1 := Scalar.cmpi .slt v1087 c0_i32_676
  let v1092 : BitVec 1 := Scalar.xori v1090 v1091
  let c0_i32_674 : BitVec 32 := 0#32
  let v1089 : BitVec 1 := Scalar.cmpi .ne v1088 c0_i32_674
  let v1093 : BitVec 1 := Scalar.andi v1092 v1089
  let v1094 : BitVec 32 := Scalar.addi v1088 v1087
  let v1095 : BitVec 32 := Scalar.select v1093 v1094 v1088
  let c1_i32_683 : BitVec 32 := 1#32
  let v1100 : BitVec 32 := Scalar.muli v1095 c1_i32_683
  let v1101 : BitVec 32 := Scalar.addi c0_i32_684 v1100
  v1101.toNat
def k0_dev40 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_687 : BitVec 32 := 10#32
  let v1108 : BitVec 32 := Scalar.addi v2 c10_i32_687
  let c16_i32_688 : BitVec 32 := 16#32
  let c0_i32_689 : BitVec 32 := 0#32
  let v1109 : BitVec 1 := Scalar.cmpi .eq c16_i32_688 c0_i32_689
  let c1_i32_690 : BitVec 32 := 1#32
  let v1110 : BitVec 32 := Scalar.select v1109 c1_i32_690 c16_i32_688
  let v1111 : BitVec 32 := Scalar.remsi v1108 v1110
  let c0_i32_692 : BitVec 32 := 0#32
  let v1113 : BitVec 1 := Scalar.cmpi .slt v1111 c0_i32_692
  let c0_i32_693 : BitVec 32 := 0#32
  let v1114 : BitVec 1 := Scalar.cmpi .slt v1110 c0_i32_693
  let v1115 : BitVec 1 := Scalar.xori v1113 v1114
  let c0_i32_691 : BitVec 32 := 0#32
  let v1112 : BitVec 1 := Scalar.cmpi .ne v1111 c0_i32_691
  let v1116 : BitVec 1 := Scalar.andi v1115 v1112
  let v1117 : BitVec 32 := Scalar.addi v1111 v1110
  let v1118 : BitVec 32 := Scalar.select v1116 v1117 v1111
  let c1_i32_700 : BitVec 32 := 1#32
  let v1123 : BitVec 32 := Scalar.muli v1118 c1_i32_700
  let v1124 : BitVec 32 := Scalar.addi c0_i32_701 v1123
  v1124.toNat
def k0_dev41 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_704 : BitVec 32 := 11#32
  let v1131 : BitVec 32 := Scalar.addi v2 c11_i32_704
  let c16_i32_705 : BitVec 32 := 16#32
  let c0_i32_706 : BitVec 32 := 0#32
  let v1132 : BitVec 1 := Scalar.cmpi .eq c16_i32_705 c0_i32_706
  let c1_i32_707 : BitVec 32 := 1#32
  let v1133 : BitVec 32 := Scalar.select v1132 c1_i32_707 c16_i32_705
  let v1134 : BitVec 32 := Scalar.remsi v1131 v1133
  let c0_i32_709 : BitVec 32 := 0#32
  let v1136 : BitVec 1 := Scalar.cmpi .slt v1134 c0_i32_709
  let c0_i32_710 : BitVec 32 := 0#32
  let v1137 : BitVec 1 := Scalar.cmpi .slt v1133 c0_i32_710
  let v1138 : BitVec 1 := Scalar.xori v1136 v1137
  let c0_i32_708 : BitVec 32 := 0#32
  let v1135 : BitVec 1 := Scalar.cmpi .ne v1134 c0_i32_708
  let v1139 : BitVec 1 := Scalar.andi v1138 v1135
  let v1140 : BitVec 32 := Scalar.addi v1134 v1133
  let v1141 : BitVec 32 := Scalar.select v1139 v1140 v1134
  let c1_i32_717 : BitVec 32 := 1#32
  let v1146 : BitVec 32 := Scalar.muli v1141 c1_i32_717
  let v1147 : BitVec 32 := Scalar.addi c0_i32_718 v1146
  v1147.toNat
def k0_dev42 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_721 : BitVec 32 := 12#32
  let v1154 : BitVec 32 := Scalar.addi v2 c12_i32_721
  let c16_i32_722 : BitVec 32 := 16#32
  let c0_i32_723 : BitVec 32 := 0#32
  let v1155 : BitVec 1 := Scalar.cmpi .eq c16_i32_722 c0_i32_723
  let c1_i32_724 : BitVec 32 := 1#32
  let v1156 : BitVec 32 := Scalar.select v1155 c1_i32_724 c16_i32_722
  let v1157 : BitVec 32 := Scalar.remsi v1154 v1156
  let c0_i32_726 : BitVec 32 := 0#32
  let v1159 : BitVec 1 := Scalar.cmpi .slt v1157 c0_i32_726
  let c0_i32_727 : BitVec 32 := 0#32
  let v1160 : BitVec 1 := Scalar.cmpi .slt v1156 c0_i32_727
  let v1161 : BitVec 1 := Scalar.xori v1159 v1160
  let c0_i32_725 : BitVec 32 := 0#32
  let v1158 : BitVec 1 := Scalar.cmpi .ne v1157 c0_i32_725
  let v1162 : BitVec 1 := Scalar.andi v1161 v1158
  let v1163 : BitVec 32 := Scalar.addi v1157 v1156
  let v1164 : BitVec 32 := Scalar.select v1162 v1163 v1157
  let c1_i32_734 : BitVec 32 := 1#32
  let v1169 : BitVec 32 := Scalar.muli v1164 c1_i32_734
  let v1170 : BitVec 32 := Scalar.addi c0_i32_735 v1169
  v1170.toNat
def k0_dev43 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_738 : BitVec 32 := 13#32
  let v1177 : BitVec 32 := Scalar.addi v2 c13_i32_738
  let c16_i32_739 : BitVec 32 := 16#32
  let c0_i32_740 : BitVec 32 := 0#32
  let v1178 : BitVec 1 := Scalar.cmpi .eq c16_i32_739 c0_i32_740
  let c1_i32_741 : BitVec 32 := 1#32
  let v1179 : BitVec 32 := Scalar.select v1178 c1_i32_741 c16_i32_739
  let v1180 : BitVec 32 := Scalar.remsi v1177 v1179
  let c0_i32_743 : BitVec 32 := 0#32
  let v1182 : BitVec 1 := Scalar.cmpi .slt v1180 c0_i32_743
  let c0_i32_744 : BitVec 32 := 0#32
  let v1183 : BitVec 1 := Scalar.cmpi .slt v1179 c0_i32_744
  let v1184 : BitVec 1 := Scalar.xori v1182 v1183
  let c0_i32_742 : BitVec 32 := 0#32
  let v1181 : BitVec 1 := Scalar.cmpi .ne v1180 c0_i32_742
  let v1185 : BitVec 1 := Scalar.andi v1184 v1181
  let v1186 : BitVec 32 := Scalar.addi v1180 v1179
  let v1187 : BitVec 32 := Scalar.select v1185 v1186 v1180
  let c1_i32_751 : BitVec 32 := 1#32
  let v1192 : BitVec 32 := Scalar.muli v1187 c1_i32_751
  let v1193 : BitVec 32 := Scalar.addi c0_i32_752 v1192
  v1193.toNat
def k0_dev44 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_755 : BitVec 32 := 14#32
  let v1200 : BitVec 32 := Scalar.addi v2 c14_i32_755
  let c16_i32_756 : BitVec 32 := 16#32
  let c0_i32_757 : BitVec 32 := 0#32
  let v1201 : BitVec 1 := Scalar.cmpi .eq c16_i32_756 c0_i32_757
  let c1_i32_758 : BitVec 32 := 1#32
  let v1202 : BitVec 32 := Scalar.select v1201 c1_i32_758 c16_i32_756
  let v1203 : BitVec 32 := Scalar.remsi v1200 v1202
  let c0_i32_760 : BitVec 32 := 0#32
  let v1205 : BitVec 1 := Scalar.cmpi .slt v1203 c0_i32_760
  let c0_i32_761 : BitVec 32 := 0#32
  let v1206 : BitVec 1 := Scalar.cmpi .slt v1202 c0_i32_761
  let v1207 : BitVec 1 := Scalar.xori v1205 v1206
  let c0_i32_759 : BitVec 32 := 0#32
  let v1204 : BitVec 1 := Scalar.cmpi .ne v1203 c0_i32_759
  let v1208 : BitVec 1 := Scalar.andi v1207 v1204
  let v1209 : BitVec 32 := Scalar.addi v1203 v1202
  let v1210 : BitVec 32 := Scalar.select v1208 v1209 v1203
  let c1_i32_768 : BitVec 32 := 1#32
  let v1215 : BitVec 32 := Scalar.muli v1210 c1_i32_768
  let v1216 : BitVec 32 := Scalar.addi c0_i32_769 v1215
  v1216.toNat
def k0_dev45 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_772 : BitVec 32 := 15#32
  let v1223 : BitVec 32 := Scalar.addi v2 c15_i32_772
  let c16_i32_773 : BitVec 32 := 16#32
  let c0_i32_774 : BitVec 32 := 0#32
  let v1224 : BitVec 1 := Scalar.cmpi .eq c16_i32_773 c0_i32_774
  let c1_i32_775 : BitVec 32 := 1#32
  let v1225 : BitVec 32 := Scalar.select v1224 c1_i32_775 c16_i32_773
  let v1226 : BitVec 32 := Scalar.remsi v1223 v1225
  let c0_i32_777 : BitVec 32 := 0#32
  let v1228 : BitVec 1 := Scalar.cmpi .slt v1226 c0_i32_777
  let c0_i32_778 : BitVec 32 := 0#32
  let v1229 : BitVec 1 := Scalar.cmpi .slt v1225 c0_i32_778
  let v1230 : BitVec 1 := Scalar.xori v1228 v1229
  let c0_i32_776 : BitVec 32 := 0#32
  let v1227 : BitVec 1 := Scalar.cmpi .ne v1226 c0_i32_776
  let v1231 : BitVec 1 := Scalar.andi v1230 v1227
  let v1232 : BitVec 32 := Scalar.addi v1226 v1225
  let v1233 : BitVec 32 := Scalar.select v1231 v1232 v1226
  let c1_i32_785 : BitVec 32 := 1#32
  let v1238 : BitVec 32 := Scalar.muli v1233 c1_i32_785
  let v1239 : BitVec 32 := Scalar.addi c0_i32_786 v1238
  v1239.toNat
def k0_dev46 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1066 : BitVec 32 := 1#32
  let v1617 : BitVec 32 := Scalar.addi v2 c1_i32_1066
  let c16_i32_1067 : BitVec 32 := 16#32
  let c0_i32_1068 : BitVec 32 := 0#32
  let v1618 : BitVec 1 := Scalar.cmpi .eq c16_i32_1067 c0_i32_1068
  let c1_i32_1069 : BitVec 32 := 1#32
  let v1619 : BitVec 32 := Scalar.select v1618 c1_i32_1069 c16_i32_1067
  let v1620 : BitVec 32 := Scalar.remsi v1617 v1619
  let c0_i32_1071 : BitVec 32 := 0#32
  let v1622 : BitVec 1 := Scalar.cmpi .slt v1620 c0_i32_1071
  let c0_i32_1072 : BitVec 32 := 0#32
  let v1623 : BitVec 1 := Scalar.cmpi .slt v1619 c0_i32_1072
  let v1624 : BitVec 1 := Scalar.xori v1622 v1623
  let c0_i32_1070 : BitVec 32 := 0#32
  let v1621 : BitVec 1 := Scalar.cmpi .ne v1620 c0_i32_1070
  let v1625 : BitVec 1 := Scalar.andi v1624 v1621
  let v1626 : BitVec 32 := Scalar.addi v1620 v1619
  let v1627 : BitVec 32 := Scalar.select v1625 v1626 v1620
  let c1_i32_1079 : BitVec 32 := 1#32
  let v1632 : BitVec 32 := Scalar.muli v1627 c1_i32_1079
  let v1633 : BitVec 32 := Scalar.addi c0_i32_1080 v1632
  v1633.toNat
def k0_dev47 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1083 : BitVec 32 := 2#32
  let v1640 : BitVec 32 := Scalar.addi v2 c2_i32_1083
  let c16_i32_1084 : BitVec 32 := 16#32
  let c0_i32_1085 : BitVec 32 := 0#32
  let v1641 : BitVec 1 := Scalar.cmpi .eq c16_i32_1084 c0_i32_1085
  let c1_i32_1086 : BitVec 32 := 1#32
  let v1642 : BitVec 32 := Scalar.select v1641 c1_i32_1086 c16_i32_1084
  let v1643 : BitVec 32 := Scalar.remsi v1640 v1642
  let c0_i32_1088 : BitVec 32 := 0#32
  let v1645 : BitVec 1 := Scalar.cmpi .slt v1643 c0_i32_1088
  let c0_i32_1089 : BitVec 32 := 0#32
  let v1646 : BitVec 1 := Scalar.cmpi .slt v1642 c0_i32_1089
  let v1647 : BitVec 1 := Scalar.xori v1645 v1646
  let c0_i32_1087 : BitVec 32 := 0#32
  let v1644 : BitVec 1 := Scalar.cmpi .ne v1643 c0_i32_1087
  let v1648 : BitVec 1 := Scalar.andi v1647 v1644
  let v1649 : BitVec 32 := Scalar.addi v1643 v1642
  let v1650 : BitVec 32 := Scalar.select v1648 v1649 v1643
  let c1_i32_1096 : BitVec 32 := 1#32
  let v1655 : BitVec 32 := Scalar.muli v1650 c1_i32_1096
  let v1656 : BitVec 32 := Scalar.addi c0_i32_1097 v1655
  v1656.toNat
def k0_dev48 (d0 : Dev nD) : Nat :=
  let c0_i32_1114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1100 : BitVec 32 := 3#32
  let v1663 : BitVec 32 := Scalar.addi v2 c3_i32_1100
  let c16_i32_1101 : BitVec 32 := 16#32
  let c0_i32_1102 : BitVec 32 := 0#32
  let v1664 : BitVec 1 := Scalar.cmpi .eq c16_i32_1101 c0_i32_1102
  let c1_i32_1103 : BitVec 32 := 1#32
  let v1665 : BitVec 32 := Scalar.select v1664 c1_i32_1103 c16_i32_1101
  let v1666 : BitVec 32 := Scalar.remsi v1663 v1665
  let c0_i32_1105 : BitVec 32 := 0#32
  let v1668 : BitVec 1 := Scalar.cmpi .slt v1666 c0_i32_1105
  let c0_i32_1106 : BitVec 32 := 0#32
  let v1669 : BitVec 1 := Scalar.cmpi .slt v1665 c0_i32_1106
  let v1670 : BitVec 1 := Scalar.xori v1668 v1669
  let c0_i32_1104 : BitVec 32 := 0#32
  let v1667 : BitVec 1 := Scalar.cmpi .ne v1666 c0_i32_1104
  let v1671 : BitVec 1 := Scalar.andi v1670 v1667
  let v1672 : BitVec 32 := Scalar.addi v1666 v1665
  let v1673 : BitVec 32 := Scalar.select v1671 v1672 v1666
  let c1_i32_1113 : BitVec 32 := 1#32
  let v1678 : BitVec 32 := Scalar.muli v1673 c1_i32_1113
  let v1679 : BitVec 32 := Scalar.addi c0_i32_1114 v1678
  v1679.toNat
def k0_dev49 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1117 : BitVec 32 := 4#32
  let v1686 : BitVec 32 := Scalar.addi v2 c4_i32_1117
  let c16_i32_1118 : BitVec 32 := 16#32
  let c0_i32_1119 : BitVec 32 := 0#32
  let v1687 : BitVec 1 := Scalar.cmpi .eq c16_i32_1118 c0_i32_1119
  let c1_i32_1120 : BitVec 32 := 1#32
  let v1688 : BitVec 32 := Scalar.select v1687 c1_i32_1120 c16_i32_1118
  let v1689 : BitVec 32 := Scalar.remsi v1686 v1688
  let c0_i32_1122 : BitVec 32 := 0#32
  let v1691 : BitVec 1 := Scalar.cmpi .slt v1689 c0_i32_1122
  let c0_i32_1123 : BitVec 32 := 0#32
  let v1692 : BitVec 1 := Scalar.cmpi .slt v1688 c0_i32_1123
  let v1693 : BitVec 1 := Scalar.xori v1691 v1692
  let c0_i32_1121 : BitVec 32 := 0#32
  let v1690 : BitVec 1 := Scalar.cmpi .ne v1689 c0_i32_1121
  let v1694 : BitVec 1 := Scalar.andi v1693 v1690
  let v1695 : BitVec 32 := Scalar.addi v1689 v1688
  let v1696 : BitVec 32 := Scalar.select v1694 v1695 v1689
  let c1_i32_1130 : BitVec 32 := 1#32
  let v1701 : BitVec 32 := Scalar.muli v1696 c1_i32_1130
  let v1702 : BitVec 32 := Scalar.addi c0_i32_1131 v1701
  v1702.toNat
def k0_dev50 (d0 : Dev nD) : Nat :=
  let c0_i32_1148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1134 : BitVec 32 := 5#32
  let v1709 : BitVec 32 := Scalar.addi v2 c5_i32_1134
  let c16_i32_1135 : BitVec 32 := 16#32
  let c0_i32_1136 : BitVec 32 := 0#32
  let v1710 : BitVec 1 := Scalar.cmpi .eq c16_i32_1135 c0_i32_1136
  let c1_i32_1137 : BitVec 32 := 1#32
  let v1711 : BitVec 32 := Scalar.select v1710 c1_i32_1137 c16_i32_1135
  let v1712 : BitVec 32 := Scalar.remsi v1709 v1711
  let c0_i32_1139 : BitVec 32 := 0#32
  let v1714 : BitVec 1 := Scalar.cmpi .slt v1712 c0_i32_1139
  let c0_i32_1140 : BitVec 32 := 0#32
  let v1715 : BitVec 1 := Scalar.cmpi .slt v1711 c0_i32_1140
  let v1716 : BitVec 1 := Scalar.xori v1714 v1715
  let c0_i32_1138 : BitVec 32 := 0#32
  let v1713 : BitVec 1 := Scalar.cmpi .ne v1712 c0_i32_1138
  let v1717 : BitVec 1 := Scalar.andi v1716 v1713
  let v1718 : BitVec 32 := Scalar.addi v1712 v1711
  let v1719 : BitVec 32 := Scalar.select v1717 v1718 v1712
  let c1_i32_1147 : BitVec 32 := 1#32
  let v1724 : BitVec 32 := Scalar.muli v1719 c1_i32_1147
  let v1725 : BitVec 32 := Scalar.addi c0_i32_1148 v1724
  v1725.toNat
def k0_dev51 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1151 : BitVec 32 := 6#32
  let v1732 : BitVec 32 := Scalar.addi v2 c6_i32_1151
  let c16_i32_1152 : BitVec 32 := 16#32
  let c0_i32_1153 : BitVec 32 := 0#32
  let v1733 : BitVec 1 := Scalar.cmpi .eq c16_i32_1152 c0_i32_1153
  let c1_i32_1154 : BitVec 32 := 1#32
  let v1734 : BitVec 32 := Scalar.select v1733 c1_i32_1154 c16_i32_1152
  let v1735 : BitVec 32 := Scalar.remsi v1732 v1734
  let c0_i32_1156 : BitVec 32 := 0#32
  let v1737 : BitVec 1 := Scalar.cmpi .slt v1735 c0_i32_1156
  let c0_i32_1157 : BitVec 32 := 0#32
  let v1738 : BitVec 1 := Scalar.cmpi .slt v1734 c0_i32_1157
  let v1739 : BitVec 1 := Scalar.xori v1737 v1738
  let c0_i32_1155 : BitVec 32 := 0#32
  let v1736 : BitVec 1 := Scalar.cmpi .ne v1735 c0_i32_1155
  let v1740 : BitVec 1 := Scalar.andi v1739 v1736
  let v1741 : BitVec 32 := Scalar.addi v1735 v1734
  let v1742 : BitVec 32 := Scalar.select v1740 v1741 v1735
  let c1_i32_1164 : BitVec 32 := 1#32
  let v1747 : BitVec 32 := Scalar.muli v1742 c1_i32_1164
  let v1748 : BitVec 32 := Scalar.addi c0_i32_1165 v1747
  v1748.toNat
def k0_dev52 (d0 : Dev nD) : Nat :=
  let c0_i32_1182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1168 : BitVec 32 := 7#32
  let v1755 : BitVec 32 := Scalar.addi v2 c7_i32_1168
  let c16_i32_1169 : BitVec 32 := 16#32
  let c0_i32_1170 : BitVec 32 := 0#32
  let v1756 : BitVec 1 := Scalar.cmpi .eq c16_i32_1169 c0_i32_1170
  let c1_i32_1171 : BitVec 32 := 1#32
  let v1757 : BitVec 32 := Scalar.select v1756 c1_i32_1171 c16_i32_1169
  let v1758 : BitVec 32 := Scalar.remsi v1755 v1757
  let c0_i32_1173 : BitVec 32 := 0#32
  let v1760 : BitVec 1 := Scalar.cmpi .slt v1758 c0_i32_1173
  let c0_i32_1174 : BitVec 32 := 0#32
  let v1761 : BitVec 1 := Scalar.cmpi .slt v1757 c0_i32_1174
  let v1762 : BitVec 1 := Scalar.xori v1760 v1761
  let c0_i32_1172 : BitVec 32 := 0#32
  let v1759 : BitVec 1 := Scalar.cmpi .ne v1758 c0_i32_1172
  let v1763 : BitVec 1 := Scalar.andi v1762 v1759
  let v1764 : BitVec 32 := Scalar.addi v1758 v1757
  let v1765 : BitVec 32 := Scalar.select v1763 v1764 v1758
  let c1_i32_1181 : BitVec 32 := 1#32
  let v1770 : BitVec 32 := Scalar.muli v1765 c1_i32_1181
  let v1771 : BitVec 32 := Scalar.addi c0_i32_1182 v1770
  v1771.toNat
def k0_dev53 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1185 : BitVec 32 := 8#32
  let v1778 : BitVec 32 := Scalar.addi v2 c8_i32_1185
  let c16_i32_1186 : BitVec 32 := 16#32
  let c0_i32_1187 : BitVec 32 := 0#32
  let v1779 : BitVec 1 := Scalar.cmpi .eq c16_i32_1186 c0_i32_1187
  let c1_i32_1188 : BitVec 32 := 1#32
  let v1780 : BitVec 32 := Scalar.select v1779 c1_i32_1188 c16_i32_1186
  let v1781 : BitVec 32 := Scalar.remsi v1778 v1780
  let c0_i32_1190 : BitVec 32 := 0#32
  let v1783 : BitVec 1 := Scalar.cmpi .slt v1781 c0_i32_1190
  let c0_i32_1191 : BitVec 32 := 0#32
  let v1784 : BitVec 1 := Scalar.cmpi .slt v1780 c0_i32_1191
  let v1785 : BitVec 1 := Scalar.xori v1783 v1784
  let c0_i32_1189 : BitVec 32 := 0#32
  let v1782 : BitVec 1 := Scalar.cmpi .ne v1781 c0_i32_1189
  let v1786 : BitVec 1 := Scalar.andi v1785 v1782
  let v1787 : BitVec 32 := Scalar.addi v1781 v1780
  let v1788 : BitVec 32 := Scalar.select v1786 v1787 v1781
  let c1_i32_1198 : BitVec 32 := 1#32
  let v1793 : BitVec 32 := Scalar.muli v1788 c1_i32_1198
  let v1794 : BitVec 32 := Scalar.addi c0_i32_1199 v1793
  v1794.toNat
def k0_dev54 (d0 : Dev nD) : Nat :=
  let c0_i32_1216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1202 : BitVec 32 := 9#32
  let v1801 : BitVec 32 := Scalar.addi v2 c9_i32_1202
  let c16_i32_1203 : BitVec 32 := 16#32
  let c0_i32_1204 : BitVec 32 := 0#32
  let v1802 : BitVec 1 := Scalar.cmpi .eq c16_i32_1203 c0_i32_1204
  let c1_i32_1205 : BitVec 32 := 1#32
  let v1803 : BitVec 32 := Scalar.select v1802 c1_i32_1205 c16_i32_1203
  let v1804 : BitVec 32 := Scalar.remsi v1801 v1803
  let c0_i32_1207 : BitVec 32 := 0#32
  let v1806 : BitVec 1 := Scalar.cmpi .slt v1804 c0_i32_1207
  let c0_i32_1208 : BitVec 32 := 0#32
  let v1807 : BitVec 1 := Scalar.cmpi .slt v1803 c0_i32_1208
  let v1808 : BitVec 1 := Scalar.xori v1806 v1807
  let c0_i32_1206 : BitVec 32 := 0#32
  let v1805 : BitVec 1 := Scalar.cmpi .ne v1804 c0_i32_1206
  let v1809 : BitVec 1 := Scalar.andi v1808 v1805
  let v1810 : BitVec 32 := Scalar.addi v1804 v1803
  let v1811 : BitVec 32 := Scalar.select v1809 v1810 v1804
  let c1_i32_1215 : BitVec 32 := 1#32
  let v1816 : BitVec 32 := Scalar.muli v1811 c1_i32_1215
  let v1817 : BitVec 32 := Scalar.addi c0_i32_1216 v1816
  v1817.toNat
def k0_dev55 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1219 : BitVec 32 := 10#32
  let v1824 : BitVec 32 := Scalar.addi v2 c10_i32_1219
  let c16_i32_1220 : BitVec 32 := 16#32
  let c0_i32_1221 : BitVec 32 := 0#32
  let v1825 : BitVec 1 := Scalar.cmpi .eq c16_i32_1220 c0_i32_1221
  let c1_i32_1222 : BitVec 32 := 1#32
  let v1826 : BitVec 32 := Scalar.select v1825 c1_i32_1222 c16_i32_1220
  let v1827 : BitVec 32 := Scalar.remsi v1824 v1826
  let c0_i32_1224 : BitVec 32 := 0#32
  let v1829 : BitVec 1 := Scalar.cmpi .slt v1827 c0_i32_1224
  let c0_i32_1225 : BitVec 32 := 0#32
  let v1830 : BitVec 1 := Scalar.cmpi .slt v1826 c0_i32_1225
  let v1831 : BitVec 1 := Scalar.xori v1829 v1830
  let c0_i32_1223 : BitVec 32 := 0#32
  let v1828 : BitVec 1 := Scalar.cmpi .ne v1827 c0_i32_1223
  let v1832 : BitVec 1 := Scalar.andi v1831 v1828
  let v1833 : BitVec 32 := Scalar.addi v1827 v1826
  let v1834 : BitVec 32 := Scalar.select v1832 v1833 v1827
  let c1_i32_1232 : BitVec 32 := 1#32
  let v1839 : BitVec 32 := Scalar.muli v1834 c1_i32_1232
  let v1840 : BitVec 32 := Scalar.addi c0_i32_1233 v1839
  v1840.toNat
def k0_dev56 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1236 : BitVec 32 := 11#32
  let v1847 : BitVec 32 := Scalar.addi v2 c11_i32_1236
  let c16_i32_1237 : BitVec 32 := 16#32
  let c0_i32_1238 : BitVec 32 := 0#32
  let v1848 : BitVec 1 := Scalar.cmpi .eq c16_i32_1237 c0_i32_1238
  let c1_i32_1239 : BitVec 32 := 1#32
  let v1849 : BitVec 32 := Scalar.select v1848 c1_i32_1239 c16_i32_1237
  let v1850 : BitVec 32 := Scalar.remsi v1847 v1849
  let c0_i32_1241 : BitVec 32 := 0#32
  let v1852 : BitVec 1 := Scalar.cmpi .slt v1850 c0_i32_1241
  let c0_i32_1242 : BitVec 32 := 0#32
  let v1853 : BitVec 1 := Scalar.cmpi .slt v1849 c0_i32_1242
  let v1854 : BitVec 1 := Scalar.xori v1852 v1853
  let c0_i32_1240 : BitVec 32 := 0#32
  let v1851 : BitVec 1 := Scalar.cmpi .ne v1850 c0_i32_1240
  let v1855 : BitVec 1 := Scalar.andi v1854 v1851
  let v1856 : BitVec 32 := Scalar.addi v1850 v1849
  let v1857 : BitVec 32 := Scalar.select v1855 v1856 v1850
  let c1_i32_1249 : BitVec 32 := 1#32
  let v1862 : BitVec 32 := Scalar.muli v1857 c1_i32_1249
  let v1863 : BitVec 32 := Scalar.addi c0_i32_1250 v1862
  v1863.toNat
def k0_dev57 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1253 : BitVec 32 := 12#32
  let v1870 : BitVec 32 := Scalar.addi v2 c12_i32_1253
  let c16_i32_1254 : BitVec 32 := 16#32
  let c0_i32_1255 : BitVec 32 := 0#32
  let v1871 : BitVec 1 := Scalar.cmpi .eq c16_i32_1254 c0_i32_1255
  let c1_i32_1256 : BitVec 32 := 1#32
  let v1872 : BitVec 32 := Scalar.select v1871 c1_i32_1256 c16_i32_1254
  let v1873 : BitVec 32 := Scalar.remsi v1870 v1872
  let c0_i32_1258 : BitVec 32 := 0#32
  let v1875 : BitVec 1 := Scalar.cmpi .slt v1873 c0_i32_1258
  let c0_i32_1259 : BitVec 32 := 0#32
  let v1876 : BitVec 1 := Scalar.cmpi .slt v1872 c0_i32_1259
  let v1877 : BitVec 1 := Scalar.xori v1875 v1876
  let c0_i32_1257 : BitVec 32 := 0#32
  let v1874 : BitVec 1 := Scalar.cmpi .ne v1873 c0_i32_1257
  let v1878 : BitVec 1 := Scalar.andi v1877 v1874
  let v1879 : BitVec 32 := Scalar.addi v1873 v1872
  let v1880 : BitVec 32 := Scalar.select v1878 v1879 v1873
  let c1_i32_1266 : BitVec 32 := 1#32
  let v1885 : BitVec 32 := Scalar.muli v1880 c1_i32_1266
  let v1886 : BitVec 32 := Scalar.addi c0_i32_1267 v1885
  v1886.toNat
def k0_dev58 (d0 : Dev nD) : Nat :=
  let c0_i32_1284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1270 : BitVec 32 := 13#32
  let v1893 : BitVec 32 := Scalar.addi v2 c13_i32_1270
  let c16_i32_1271 : BitVec 32 := 16#32
  let c0_i32_1272 : BitVec 32 := 0#32
  let v1894 : BitVec 1 := Scalar.cmpi .eq c16_i32_1271 c0_i32_1272
  let c1_i32_1273 : BitVec 32 := 1#32
  let v1895 : BitVec 32 := Scalar.select v1894 c1_i32_1273 c16_i32_1271
  let v1896 : BitVec 32 := Scalar.remsi v1893 v1895
  let c0_i32_1275 : BitVec 32 := 0#32
  let v1898 : BitVec 1 := Scalar.cmpi .slt v1896 c0_i32_1275
  let c0_i32_1276 : BitVec 32 := 0#32
  let v1899 : BitVec 1 := Scalar.cmpi .slt v1895 c0_i32_1276
  let v1900 : BitVec 1 := Scalar.xori v1898 v1899
  let c0_i32_1274 : BitVec 32 := 0#32
  let v1897 : BitVec 1 := Scalar.cmpi .ne v1896 c0_i32_1274
  let v1901 : BitVec 1 := Scalar.andi v1900 v1897
  let v1902 : BitVec 32 := Scalar.addi v1896 v1895
  let v1903 : BitVec 32 := Scalar.select v1901 v1902 v1896
  let c1_i32_1283 : BitVec 32 := 1#32
  let v1908 : BitVec 32 := Scalar.muli v1903 c1_i32_1283
  let v1909 : BitVec 32 := Scalar.addi c0_i32_1284 v1908
  v1909.toNat
def k0_dev59 (d0 : Dev nD) : Nat :=
  let c0_i32_1301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1287 : BitVec 32 := 14#32
  let v1916 : BitVec 32 := Scalar.addi v2 c14_i32_1287
  let c16_i32_1288 : BitVec 32 := 16#32
  let c0_i32_1289 : BitVec 32 := 0#32
  let v1917 : BitVec 1 := Scalar.cmpi .eq c16_i32_1288 c0_i32_1289
  let c1_i32_1290 : BitVec 32 := 1#32
  let v1918 : BitVec 32 := Scalar.select v1917 c1_i32_1290 c16_i32_1288
  let v1919 : BitVec 32 := Scalar.remsi v1916 v1918
  let c0_i32_1292 : BitVec 32 := 0#32
  let v1921 : BitVec 1 := Scalar.cmpi .slt v1919 c0_i32_1292
  let c0_i32_1293 : BitVec 32 := 0#32
  let v1922 : BitVec 1 := Scalar.cmpi .slt v1918 c0_i32_1293
  let v1923 : BitVec 1 := Scalar.xori v1921 v1922
  let c0_i32_1291 : BitVec 32 := 0#32
  let v1920 : BitVec 1 := Scalar.cmpi .ne v1919 c0_i32_1291
  let v1924 : BitVec 1 := Scalar.andi v1923 v1920
  let v1925 : BitVec 32 := Scalar.addi v1919 v1918
  let v1926 : BitVec 32 := Scalar.select v1924 v1925 v1919
  let c1_i32_1300 : BitVec 32 := 1#32
  let v1931 : BitVec 32 := Scalar.muli v1926 c1_i32_1300
  let v1932 : BitVec 32 := Scalar.addi c0_i32_1301 v1931
  v1932.toNat
def k0_dev60 (d0 : Dev nD) : Nat :=
  let c0_i32_1318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1304 : BitVec 32 := 15#32
  let v1939 : BitVec 32 := Scalar.addi v2 c15_i32_1304
  let c16_i32_1305 : BitVec 32 := 16#32
  let c0_i32_1306 : BitVec 32 := 0#32
  let v1940 : BitVec 1 := Scalar.cmpi .eq c16_i32_1305 c0_i32_1306
  let c1_i32_1307 : BitVec 32 := 1#32
  let v1941 : BitVec 32 := Scalar.select v1940 c1_i32_1307 c16_i32_1305
  let v1942 : BitVec 32 := Scalar.remsi v1939 v1941
  let c0_i32_1309 : BitVec 32 := 0#32
  let v1944 : BitVec 1 := Scalar.cmpi .slt v1942 c0_i32_1309
  let c0_i32_1310 : BitVec 32 := 0#32
  let v1945 : BitVec 1 := Scalar.cmpi .slt v1941 c0_i32_1310
  let v1946 : BitVec 1 := Scalar.xori v1944 v1945
  let c0_i32_1308 : BitVec 32 := 0#32
  let v1943 : BitVec 1 := Scalar.cmpi .ne v1942 c0_i32_1308
  let v1947 : BitVec 1 := Scalar.andi v1946 v1943
  let v1948 : BitVec 32 := Scalar.addi v1942 v1941
  let v1949 : BitVec 32 := Scalar.select v1947 v1948 v1942
  let c1_i32_1317 : BitVec 32 := 1#32
  let v1954 : BitVec 32 := Scalar.muli v1949 c1_i32_1317
  let v1955 : BitVec 32 := Scalar.addi c0_i32_1318 v1954
  v1955.toNat
def k0_dev61 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1598 : BitVec 32 := 1#32
  let v2333 : BitVec 32 := Scalar.addi v2 c1_i32_1598
  let c16_i32_1599 : BitVec 32 := 16#32
  let c0_i32_1600 : BitVec 32 := 0#32
  let v2334 : BitVec 1 := Scalar.cmpi .eq c16_i32_1599 c0_i32_1600
  let c1_i32_1601 : BitVec 32 := 1#32
  let v2335 : BitVec 32 := Scalar.select v2334 c1_i32_1601 c16_i32_1599
  let v2336 : BitVec 32 := Scalar.remsi v2333 v2335
  let c0_i32_1603 : BitVec 32 := 0#32
  let v2338 : BitVec 1 := Scalar.cmpi .slt v2336 c0_i32_1603
  let c0_i32_1604 : BitVec 32 := 0#32
  let v2339 : BitVec 1 := Scalar.cmpi .slt v2335 c0_i32_1604
  let v2340 : BitVec 1 := Scalar.xori v2338 v2339
  let c0_i32_1602 : BitVec 32 := 0#32
  let v2337 : BitVec 1 := Scalar.cmpi .ne v2336 c0_i32_1602
  let v2341 : BitVec 1 := Scalar.andi v2340 v2337
  let v2342 : BitVec 32 := Scalar.addi v2336 v2335
  let v2343 : BitVec 32 := Scalar.select v2341 v2342 v2336
  let c1_i32_1611 : BitVec 32 := 1#32
  let v2348 : BitVec 32 := Scalar.muli v2343 c1_i32_1611
  let v2349 : BitVec 32 := Scalar.addi c0_i32_1612 v2348
  v2349.toNat
def k0_dev62 (d0 : Dev nD) : Nat :=
  let c0_i32_1629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1615 : BitVec 32 := 2#32
  let v2356 : BitVec 32 := Scalar.addi v2 c2_i32_1615
  let c16_i32_1616 : BitVec 32 := 16#32
  let c0_i32_1617 : BitVec 32 := 0#32
  let v2357 : BitVec 1 := Scalar.cmpi .eq c16_i32_1616 c0_i32_1617
  let c1_i32_1618 : BitVec 32 := 1#32
  let v2358 : BitVec 32 := Scalar.select v2357 c1_i32_1618 c16_i32_1616
  let v2359 : BitVec 32 := Scalar.remsi v2356 v2358
  let c0_i32_1620 : BitVec 32 := 0#32
  let v2361 : BitVec 1 := Scalar.cmpi .slt v2359 c0_i32_1620
  let c0_i32_1621 : BitVec 32 := 0#32
  let v2362 : BitVec 1 := Scalar.cmpi .slt v2358 c0_i32_1621
  let v2363 : BitVec 1 := Scalar.xori v2361 v2362
  let c0_i32_1619 : BitVec 32 := 0#32
  let v2360 : BitVec 1 := Scalar.cmpi .ne v2359 c0_i32_1619
  let v2364 : BitVec 1 := Scalar.andi v2363 v2360
  let v2365 : BitVec 32 := Scalar.addi v2359 v2358
  let v2366 : BitVec 32 := Scalar.select v2364 v2365 v2359
  let c1_i32_1628 : BitVec 32 := 1#32
  let v2371 : BitVec 32 := Scalar.muli v2366 c1_i32_1628
  let v2372 : BitVec 32 := Scalar.addi c0_i32_1629 v2371
  v2372.toNat
def k0_dev63 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1632 : BitVec 32 := 3#32
  let v2379 : BitVec 32 := Scalar.addi v2 c3_i32_1632
  let c16_i32_1633 : BitVec 32 := 16#32
  let c0_i32_1634 : BitVec 32 := 0#32
  let v2380 : BitVec 1 := Scalar.cmpi .eq c16_i32_1633 c0_i32_1634
  let c1_i32_1635 : BitVec 32 := 1#32
  let v2381 : BitVec 32 := Scalar.select v2380 c1_i32_1635 c16_i32_1633
  let v2382 : BitVec 32 := Scalar.remsi v2379 v2381
  let c0_i32_1637 : BitVec 32 := 0#32
  let v2384 : BitVec 1 := Scalar.cmpi .slt v2382 c0_i32_1637
  let c0_i32_1638 : BitVec 32 := 0#32
  let v2385 : BitVec 1 := Scalar.cmpi .slt v2381 c0_i32_1638
  let v2386 : BitVec 1 := Scalar.xori v2384 v2385
  let c0_i32_1636 : BitVec 32 := 0#32
  let v2383 : BitVec 1 := Scalar.cmpi .ne v2382 c0_i32_1636
  let v2387 : BitVec 1 := Scalar.andi v2386 v2383
  let v2388 : BitVec 32 := Scalar.addi v2382 v2381
  let v2389 : BitVec 32 := Scalar.select v2387 v2388 v2382
  let c1_i32_1645 : BitVec 32 := 1#32
  let v2394 : BitVec 32 := Scalar.muli v2389 c1_i32_1645
  let v2395 : BitVec 32 := Scalar.addi c0_i32_1646 v2394
  v2395.toNat
def k0_dev64 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1649 : BitVec 32 := 4#32
  let v2402 : BitVec 32 := Scalar.addi v2 c4_i32_1649
  let c16_i32_1650 : BitVec 32 := 16#32
  let c0_i32_1651 : BitVec 32 := 0#32
  let v2403 : BitVec 1 := Scalar.cmpi .eq c16_i32_1650 c0_i32_1651
  let c1_i32_1652 : BitVec 32 := 1#32
  let v2404 : BitVec 32 := Scalar.select v2403 c1_i32_1652 c16_i32_1650
  let v2405 : BitVec 32 := Scalar.remsi v2402 v2404
  let c0_i32_1654 : BitVec 32 := 0#32
  let v2407 : BitVec 1 := Scalar.cmpi .slt v2405 c0_i32_1654
  let c0_i32_1655 : BitVec 32 := 0#32
  let v2408 : BitVec 1 := Scalar.cmpi .slt v2404 c0_i32_1655
  let v2409 : BitVec 1 := Scalar.xori v2407 v2408
  let c0_i32_1653 : BitVec 32 := 0#32
  let v2406 : BitVec 1 := Scalar.cmpi .ne v2405 c0_i32_1653
  let v2410 : BitVec 1 := Scalar.andi v2409 v2406
  let v2411 : BitVec 32 := Scalar.addi v2405 v2404
  let v2412 : BitVec 32 := Scalar.select v2410 v2411 v2405
  let c1_i32_1662 : BitVec 32 := 1#32
  let v2417 : BitVec 32 := Scalar.muli v2412 c1_i32_1662
  let v2418 : BitVec 32 := Scalar.addi c0_i32_1663 v2417
  v2418.toNat
def k0_dev65 (d0 : Dev nD) : Nat :=
  let c0_i32_1680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1666 : BitVec 32 := 5#32
  let v2425 : BitVec 32 := Scalar.addi v2 c5_i32_1666
  let c16_i32_1667 : BitVec 32 := 16#32
  let c0_i32_1668 : BitVec 32 := 0#32
  let v2426 : BitVec 1 := Scalar.cmpi .eq c16_i32_1667 c0_i32_1668
  let c1_i32_1669 : BitVec 32 := 1#32
  let v2427 : BitVec 32 := Scalar.select v2426 c1_i32_1669 c16_i32_1667
  let v2428 : BitVec 32 := Scalar.remsi v2425 v2427
  let c0_i32_1671 : BitVec 32 := 0#32
  let v2430 : BitVec 1 := Scalar.cmpi .slt v2428 c0_i32_1671
  let c0_i32_1672 : BitVec 32 := 0#32
  let v2431 : BitVec 1 := Scalar.cmpi .slt v2427 c0_i32_1672
  let v2432 : BitVec 1 := Scalar.xori v2430 v2431
  let c0_i32_1670 : BitVec 32 := 0#32
  let v2429 : BitVec 1 := Scalar.cmpi .ne v2428 c0_i32_1670
  let v2433 : BitVec 1 := Scalar.andi v2432 v2429
  let v2434 : BitVec 32 := Scalar.addi v2428 v2427
  let v2435 : BitVec 32 := Scalar.select v2433 v2434 v2428
  let c1_i32_1679 : BitVec 32 := 1#32
  let v2440 : BitVec 32 := Scalar.muli v2435 c1_i32_1679
  let v2441 : BitVec 32 := Scalar.addi c0_i32_1680 v2440
  v2441.toNat
def k0_dev66 (d0 : Dev nD) : Nat :=
  let c0_i32_1697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1683 : BitVec 32 := 6#32
  let v2448 : BitVec 32 := Scalar.addi v2 c6_i32_1683
  let c16_i32_1684 : BitVec 32 := 16#32
  let c0_i32_1685 : BitVec 32 := 0#32
  let v2449 : BitVec 1 := Scalar.cmpi .eq c16_i32_1684 c0_i32_1685
  let c1_i32_1686 : BitVec 32 := 1#32
  let v2450 : BitVec 32 := Scalar.select v2449 c1_i32_1686 c16_i32_1684
  let v2451 : BitVec 32 := Scalar.remsi v2448 v2450
  let c0_i32_1688 : BitVec 32 := 0#32
  let v2453 : BitVec 1 := Scalar.cmpi .slt v2451 c0_i32_1688
  let c0_i32_1689 : BitVec 32 := 0#32
  let v2454 : BitVec 1 := Scalar.cmpi .slt v2450 c0_i32_1689
  let v2455 : BitVec 1 := Scalar.xori v2453 v2454
  let c0_i32_1687 : BitVec 32 := 0#32
  let v2452 : BitVec 1 := Scalar.cmpi .ne v2451 c0_i32_1687
  let v2456 : BitVec 1 := Scalar.andi v2455 v2452
  let v2457 : BitVec 32 := Scalar.addi v2451 v2450
  let v2458 : BitVec 32 := Scalar.select v2456 v2457 v2451
  let c1_i32_1696 : BitVec 32 := 1#32
  let v2463 : BitVec 32 := Scalar.muli v2458 c1_i32_1696
  let v2464 : BitVec 32 := Scalar.addi c0_i32_1697 v2463
  v2464.toNat
def k0_dev67 (d0 : Dev nD) : Nat :=
  let c0_i32_1714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1700 : BitVec 32 := 7#32
  let v2471 : BitVec 32 := Scalar.addi v2 c7_i32_1700
  let c16_i32_1701 : BitVec 32 := 16#32
  let c0_i32_1702 : BitVec 32 := 0#32
  let v2472 : BitVec 1 := Scalar.cmpi .eq c16_i32_1701 c0_i32_1702
  let c1_i32_1703 : BitVec 32 := 1#32
  let v2473 : BitVec 32 := Scalar.select v2472 c1_i32_1703 c16_i32_1701
  let v2474 : BitVec 32 := Scalar.remsi v2471 v2473
  let c0_i32_1705 : BitVec 32 := 0#32
  let v2476 : BitVec 1 := Scalar.cmpi .slt v2474 c0_i32_1705
  let c0_i32_1706 : BitVec 32 := 0#32
  let v2477 : BitVec 1 := Scalar.cmpi .slt v2473 c0_i32_1706
  let v2478 : BitVec 1 := Scalar.xori v2476 v2477
  let c0_i32_1704 : BitVec 32 := 0#32
  let v2475 : BitVec 1 := Scalar.cmpi .ne v2474 c0_i32_1704
  let v2479 : BitVec 1 := Scalar.andi v2478 v2475
  let v2480 : BitVec 32 := Scalar.addi v2474 v2473
  let v2481 : BitVec 32 := Scalar.select v2479 v2480 v2474
  let c1_i32_1713 : BitVec 32 := 1#32
  let v2486 : BitVec 32 := Scalar.muli v2481 c1_i32_1713
  let v2487 : BitVec 32 := Scalar.addi c0_i32_1714 v2486
  v2487.toNat
def k0_dev68 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1717 : BitVec 32 := 8#32
  let v2494 : BitVec 32 := Scalar.addi v2 c8_i32_1717
  let c16_i32_1718 : BitVec 32 := 16#32
  let c0_i32_1719 : BitVec 32 := 0#32
  let v2495 : BitVec 1 := Scalar.cmpi .eq c16_i32_1718 c0_i32_1719
  let c1_i32_1720 : BitVec 32 := 1#32
  let v2496 : BitVec 32 := Scalar.select v2495 c1_i32_1720 c16_i32_1718
  let v2497 : BitVec 32 := Scalar.remsi v2494 v2496
  let c0_i32_1722 : BitVec 32 := 0#32
  let v2499 : BitVec 1 := Scalar.cmpi .slt v2497 c0_i32_1722
  let c0_i32_1723 : BitVec 32 := 0#32
  let v2500 : BitVec 1 := Scalar.cmpi .slt v2496 c0_i32_1723
  let v2501 : BitVec 1 := Scalar.xori v2499 v2500
  let c0_i32_1721 : BitVec 32 := 0#32
  let v2498 : BitVec 1 := Scalar.cmpi .ne v2497 c0_i32_1721
  let v2502 : BitVec 1 := Scalar.andi v2501 v2498
  let v2503 : BitVec 32 := Scalar.addi v2497 v2496
  let v2504 : BitVec 32 := Scalar.select v2502 v2503 v2497
  let c1_i32_1730 : BitVec 32 := 1#32
  let v2509 : BitVec 32 := Scalar.muli v2504 c1_i32_1730
  let v2510 : BitVec 32 := Scalar.addi c0_i32_1731 v2509
  v2510.toNat
def k0_dev69 (d0 : Dev nD) : Nat :=
  let c0_i32_1748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1734 : BitVec 32 := 9#32
  let v2517 : BitVec 32 := Scalar.addi v2 c9_i32_1734
  let c16_i32_1735 : BitVec 32 := 16#32
  let c0_i32_1736 : BitVec 32 := 0#32
  let v2518 : BitVec 1 := Scalar.cmpi .eq c16_i32_1735 c0_i32_1736
  let c1_i32_1737 : BitVec 32 := 1#32
  let v2519 : BitVec 32 := Scalar.select v2518 c1_i32_1737 c16_i32_1735
  let v2520 : BitVec 32 := Scalar.remsi v2517 v2519
  let c0_i32_1739 : BitVec 32 := 0#32
  let v2522 : BitVec 1 := Scalar.cmpi .slt v2520 c0_i32_1739
  let c0_i32_1740 : BitVec 32 := 0#32
  let v2523 : BitVec 1 := Scalar.cmpi .slt v2519 c0_i32_1740
  let v2524 : BitVec 1 := Scalar.xori v2522 v2523
  let c0_i32_1738 : BitVec 32 := 0#32
  let v2521 : BitVec 1 := Scalar.cmpi .ne v2520 c0_i32_1738
  let v2525 : BitVec 1 := Scalar.andi v2524 v2521
  let v2526 : BitVec 32 := Scalar.addi v2520 v2519
  let v2527 : BitVec 32 := Scalar.select v2525 v2526 v2520
  let c1_i32_1747 : BitVec 32 := 1#32
  let v2532 : BitVec 32 := Scalar.muli v2527 c1_i32_1747
  let v2533 : BitVec 32 := Scalar.addi c0_i32_1748 v2532
  v2533.toNat
def k0_dev70 (d0 : Dev nD) : Nat :=
  let c0_i32_1765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1751 : BitVec 32 := 10#32
  let v2540 : BitVec 32 := Scalar.addi v2 c10_i32_1751
  let c16_i32_1752 : BitVec 32 := 16#32
  let c0_i32_1753 : BitVec 32 := 0#32
  let v2541 : BitVec 1 := Scalar.cmpi .eq c16_i32_1752 c0_i32_1753
  let c1_i32_1754 : BitVec 32 := 1#32
  let v2542 : BitVec 32 := Scalar.select v2541 c1_i32_1754 c16_i32_1752
  let v2543 : BitVec 32 := Scalar.remsi v2540 v2542
  let c0_i32_1756 : BitVec 32 := 0#32
  let v2545 : BitVec 1 := Scalar.cmpi .slt v2543 c0_i32_1756
  let c0_i32_1757 : BitVec 32 := 0#32
  let v2546 : BitVec 1 := Scalar.cmpi .slt v2542 c0_i32_1757
  let v2547 : BitVec 1 := Scalar.xori v2545 v2546
  let c0_i32_1755 : BitVec 32 := 0#32
  let v2544 : BitVec 1 := Scalar.cmpi .ne v2543 c0_i32_1755
  let v2548 : BitVec 1 := Scalar.andi v2547 v2544
  let v2549 : BitVec 32 := Scalar.addi v2543 v2542
  let v2550 : BitVec 32 := Scalar.select v2548 v2549 v2543
  let c1_i32_1764 : BitVec 32 := 1#32
  let v2555 : BitVec 32 := Scalar.muli v2550 c1_i32_1764
  let v2556 : BitVec 32 := Scalar.addi c0_i32_1765 v2555
  v2556.toNat
def k0_dev71 (d0 : Dev nD) : Nat :=
  let c0_i32_1782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1768 : BitVec 32 := 11#32
  let v2563 : BitVec 32 := Scalar.addi v2 c11_i32_1768
  let c16_i32_1769 : BitVec 32 := 16#32
  let c0_i32_1770 : BitVec 32 := 0#32
  let v2564 : BitVec 1 := Scalar.cmpi .eq c16_i32_1769 c0_i32_1770
  let c1_i32_1771 : BitVec 32 := 1#32
  let v2565 : BitVec 32 := Scalar.select v2564 c1_i32_1771 c16_i32_1769
  let v2566 : BitVec 32 := Scalar.remsi v2563 v2565
  let c0_i32_1773 : BitVec 32 := 0#32
  let v2568 : BitVec 1 := Scalar.cmpi .slt v2566 c0_i32_1773
  let c0_i32_1774 : BitVec 32 := 0#32
  let v2569 : BitVec 1 := Scalar.cmpi .slt v2565 c0_i32_1774
  let v2570 : BitVec 1 := Scalar.xori v2568 v2569
  let c0_i32_1772 : BitVec 32 := 0#32
  let v2567 : BitVec 1 := Scalar.cmpi .ne v2566 c0_i32_1772
  let v2571 : BitVec 1 := Scalar.andi v2570 v2567
  let v2572 : BitVec 32 := Scalar.addi v2566 v2565
  let v2573 : BitVec 32 := Scalar.select v2571 v2572 v2566
  let c1_i32_1781 : BitVec 32 := 1#32
  let v2578 : BitVec 32 := Scalar.muli v2573 c1_i32_1781
  let v2579 : BitVec 32 := Scalar.addi c0_i32_1782 v2578
  v2579.toNat
def k0_dev72 (d0 : Dev nD) : Nat :=
  let c0_i32_1799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1785 : BitVec 32 := 12#32
  let v2586 : BitVec 32 := Scalar.addi v2 c12_i32_1785
  let c16_i32_1786 : BitVec 32 := 16#32
  let c0_i32_1787 : BitVec 32 := 0#32
  let v2587 : BitVec 1 := Scalar.cmpi .eq c16_i32_1786 c0_i32_1787
  let c1_i32_1788 : BitVec 32 := 1#32
  let v2588 : BitVec 32 := Scalar.select v2587 c1_i32_1788 c16_i32_1786
  let v2589 : BitVec 32 := Scalar.remsi v2586 v2588
  let c0_i32_1790 : BitVec 32 := 0#32
  let v2591 : BitVec 1 := Scalar.cmpi .slt v2589 c0_i32_1790
  let c0_i32_1791 : BitVec 32 := 0#32
  let v2592 : BitVec 1 := Scalar.cmpi .slt v2588 c0_i32_1791
  let v2593 : BitVec 1 := Scalar.xori v2591 v2592
  let c0_i32_1789 : BitVec 32 := 0#32
  let v2590 : BitVec 1 := Scalar.cmpi .ne v2589 c0_i32_1789
  let v2594 : BitVec 1 := Scalar.andi v2593 v2590
  let v2595 : BitVec 32 := Scalar.addi v2589 v2588
  let v2596 : BitVec 32 := Scalar.select v2594 v2595 v2589
  let c1_i32_1798 : BitVec 32 := 1#32
  let v2601 : BitVec 32 := Scalar.muli v2596 c1_i32_1798
  let v2602 : BitVec 32 := Scalar.addi c0_i32_1799 v2601
  v2602.toNat
def k0_dev73 (d0 : Dev nD) : Nat :=
  let c0_i32_1816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1802 : BitVec 32 := 13#32
  let v2609 : BitVec 32 := Scalar.addi v2 c13_i32_1802
  let c16_i32_1803 : BitVec 32 := 16#32
  let c0_i32_1804 : BitVec 32 := 0#32
  let v2610 : BitVec 1 := Scalar.cmpi .eq c16_i32_1803 c0_i32_1804
  let c1_i32_1805 : BitVec 32 := 1#32
  let v2611 : BitVec 32 := Scalar.select v2610 c1_i32_1805 c16_i32_1803
  let v2612 : BitVec 32 := Scalar.remsi v2609 v2611
  let c0_i32_1807 : BitVec 32 := 0#32
  let v2614 : BitVec 1 := Scalar.cmpi .slt v2612 c0_i32_1807
  let c0_i32_1808 : BitVec 32 := 0#32
  let v2615 : BitVec 1 := Scalar.cmpi .slt v2611 c0_i32_1808
  let v2616 : BitVec 1 := Scalar.xori v2614 v2615
  let c0_i32_1806 : BitVec 32 := 0#32
  let v2613 : BitVec 1 := Scalar.cmpi .ne v2612 c0_i32_1806
  let v2617 : BitVec 1 := Scalar.andi v2616 v2613
  let v2618 : BitVec 32 := Scalar.addi v2612 v2611
  let v2619 : BitVec 32 := Scalar.select v2617 v2618 v2612
  let c1_i32_1815 : BitVec 32 := 1#32
  let v2624 : BitVec 32 := Scalar.muli v2619 c1_i32_1815
  let v2625 : BitVec 32 := Scalar.addi c0_i32_1816 v2624
  v2625.toNat
def k0_dev74 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1819 : BitVec 32 := 14#32
  let v2632 : BitVec 32 := Scalar.addi v2 c14_i32_1819
  let c16_i32_1820 : BitVec 32 := 16#32
  let c0_i32_1821 : BitVec 32 := 0#32
  let v2633 : BitVec 1 := Scalar.cmpi .eq c16_i32_1820 c0_i32_1821
  let c1_i32_1822 : BitVec 32 := 1#32
  let v2634 : BitVec 32 := Scalar.select v2633 c1_i32_1822 c16_i32_1820
  let v2635 : BitVec 32 := Scalar.remsi v2632 v2634
  let c0_i32_1824 : BitVec 32 := 0#32
  let v2637 : BitVec 1 := Scalar.cmpi .slt v2635 c0_i32_1824
  let c0_i32_1825 : BitVec 32 := 0#32
  let v2638 : BitVec 1 := Scalar.cmpi .slt v2634 c0_i32_1825
  let v2639 : BitVec 1 := Scalar.xori v2637 v2638
  let c0_i32_1823 : BitVec 32 := 0#32
  let v2636 : BitVec 1 := Scalar.cmpi .ne v2635 c0_i32_1823
  let v2640 : BitVec 1 := Scalar.andi v2639 v2636
  let v2641 : BitVec 32 := Scalar.addi v2635 v2634
  let v2642 : BitVec 32 := Scalar.select v2640 v2641 v2635
  let c1_i32_1832 : BitVec 32 := 1#32
  let v2647 : BitVec 32 := Scalar.muli v2642 c1_i32_1832
  let v2648 : BitVec 32 := Scalar.addi c0_i32_1833 v2647
  v2648.toNat
def k0_dev75 (d0 : Dev nD) : Nat :=
  let c0_i32_1850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1836 : BitVec 32 := 15#32
  let v2655 : BitVec 32 := Scalar.addi v2 c15_i32_1836
  let c16_i32_1837 : BitVec 32 := 16#32
  let c0_i32_1838 : BitVec 32 := 0#32
  let v2656 : BitVec 1 := Scalar.cmpi .eq c16_i32_1837 c0_i32_1838
  let c1_i32_1839 : BitVec 32 := 1#32
  let v2657 : BitVec 32 := Scalar.select v2656 c1_i32_1839 c16_i32_1837
  let v2658 : BitVec 32 := Scalar.remsi v2655 v2657
  let c0_i32_1841 : BitVec 32 := 0#32
  let v2660 : BitVec 1 := Scalar.cmpi .slt v2658 c0_i32_1841
  let c0_i32_1842 : BitVec 32 := 0#32
  let v2661 : BitVec 1 := Scalar.cmpi .slt v2657 c0_i32_1842
  let v2662 : BitVec 1 := Scalar.xori v2660 v2661
  let c0_i32_1840 : BitVec 32 := 0#32
  let v2659 : BitVec 1 := Scalar.cmpi .ne v2658 c0_i32_1840
  let v2663 : BitVec 1 := Scalar.andi v2662 v2659
  let v2664 : BitVec 32 := Scalar.addi v2658 v2657
  let v2665 : BitVec 32 := Scalar.select v2663 v2664 v2658
  let c1_i32_1849 : BitVec 32 := 1#32
  let v2670 : BitVec 32 := Scalar.muli v2665 c1_i32_1849
  let v2671 : BitVec 32 := Scalar.addi c0_i32_1850 v2670
  v2671.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x16384 : Shape := ⟨2, ![1024, 16384]⟩
abbrev S16384x1024 : Shape := ⟨2, ![16384, 1024]⟩
abbrev S1x512x16384 : Shape := ⟨3, ![1, 512, 16384]⟩
abbrev S1x512x128x128 : Shape := ⟨4, ![1, 512, 128, 128]⟩
abbrev S_ : Shape := ⟨0, ![]⟩
abbrev S1x128x512x1 : Shape := ⟨4, ![1, 128, 512, 1]⟩
abbrev S1x128x512x512 : Shape := ⟨4, ![1, 128, 512, 512]⟩
abbrev S1x128x512 : Shape := ⟨3, ![1, 128, 512]⟩
abbrev S1x512x128x1 : Shape := ⟨4, ![1, 512, 128, 1]⟩
abbrev S1x128x128x512 : Shape := ⟨4, ![1, 128, 128, 512]⟩

abbrev nBuf : Space → Nat
  | .hbm => 46
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S1x512x16384, .f32⟩
  | .hbm, ⟨6, _⟩ => ⟨S1x512x128x128, .f32⟩
  | .hbm, ⟨7, _⟩ => ⟨S1x512x16384, .f32⟩
  | .hbm, ⟨8, _⟩ => ⟨S1x512x128x128, .f32⟩
  | .hbm, ⟨9, _⟩ => ⟨S1x512x16384, .f32⟩
  | .hbm, ⟨10, _⟩ => ⟨S1x512x128x128, .f32⟩
  | .hbm, ⟨11, _⟩ => ⟨S_, .f32⟩
  | .hbm, ⟨12, _⟩ => ⟨S1x512x128x128, .f32⟩
  | .hbm, ⟨13, _⟩ => ⟨S_, .f32⟩
  | .hbm, ⟨14, _⟩ => ⟨S1x128x512x1, .f32⟩
  | .hbm, ⟨15, _⟩ => ⟨S_, .f32⟩
  | .hbm, ⟨16, _⟩ => ⟨S1x128x512x1, .f32⟩
  | .hbm, ⟨17, _⟩ => ⟨S1x128x512x512, .f32⟩
  | .hbm, ⟨18, _⟩ => ⟨S_, .f32⟩
  | .hbm, ⟨19, _⟩ => ⟨S1x128x512x512, .f32⟩
  | .hbm, ⟨20, _⟩ => ⟨S1x128x512x512, .f32⟩
  | .hbm, ⟨21, _⟩ => ⟨S_, .f32⟩
  | .hbm, ⟨22, _⟩ => ⟨S1x128x512, .f32⟩
  | .hbm, ⟨23, _⟩ => ⟨S1x128x512x1, .f32⟩
  | .hbm, ⟨24, _⟩ => ⟨S1x128x512x1, .f32⟩
  | .hbm, ⟨25, _⟩ => ⟨S1x128x512x1, .f32⟩
  | .hbm, ⟨26, _⟩ => ⟨S1x128x512x1, .f32⟩
  | .hbm, ⟨27, _⟩ => ⟨S1x128x512x512, .f32⟩
  | .hbm, ⟨28, _⟩ => ⟨S1x128x512x512, .f32⟩
  | .hbm, ⟨29, _⟩ => ⟨S1x128x512x512, .f32⟩
  | .hbm, ⟨30, _⟩ => ⟨S1x128x512x1, .f32⟩
  | .hbm, ⟨31, _⟩ => ⟨S_, .f32⟩
  | .hbm, ⟨32, _⟩ => ⟨S1x128x512, .f32⟩
  | .hbm, ⟨33, _⟩ => ⟨S1x128x512x1, .f32⟩
  | .hbm, ⟨34, _⟩ => ⟨S1x128x512x1, .f32⟩
  | .hbm, ⟨35, _⟩ => ⟨S1x512x128x1, .f32⟩
  | .hbm, ⟨36, _⟩ => ⟨S1x512x128x128, .f32⟩
  | .hbm, ⟨37, _⟩ => ⟨S1x512x128x128, .f32⟩
  | .hbm, ⟨38, _⟩ => ⟨S1x128x128x512, .f32⟩
  | .hbm, ⟨39, _⟩ => ⟨S1x512x128x128, .f32⟩
  | .hbm, ⟨40, _⟩ => ⟨S1x512x128x128, .f32⟩
  | .hbm, ⟨41, _⟩ => ⟨S1x512x128x1, .f32⟩
  | .hbm, ⟨42, _⟩ => ⟨S1x512x128x128, .f32⟩
  | .hbm, ⟨43, _⟩ => ⟨S1x512x128x128, .f32⟩
  | .hbm, ⟨44, _⟩ => ⟨S1x512x16384, .f32⟩
  | .hbm, ⟨45, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.KernelIdealProto.lean ====
/-
# The protocol of the two exchanges

Sixteen devices hold 512 rows of 1024 numbers each in three arrays: `part` (their partial product), `rs` (where the
other devices' partial products land) and `ag` (where the finished sums land). The rows fall into two groups of 256
and each group into sixteen slabs of 16 rows, one a device.

A device first tells every other device, through the barrier semaphore, that its arrays may be written: the signal hands
over the receiver's slabs of `rs` and `ag`. Then, group by group, it copies slab `p` of `part` into its own slab of device `p`'s
`rs`, and later its own slab of `ag` into the same slab of every other `ag`. Every copy has a semaphore of its own on the
sending side and one on the receiving side; each is used once.

This file names the slabs, the semaphores, what each semaphore hands over, what a device owes at launch, and in which
order the semaphores may be waited for. The contents are those of the run: `P p` is what device `p` computes into
`part`, and `A` is what every device ends with in `ag`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.ShareLeaves
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resource algebra: the pipeline's rounds and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices at a distance -/

set_option backward.proofsInPublic true in
/-- The device `d` places after `c`, around. -/
def pe (c : Dev nD) (d : ℕ) : Dev nD := ⟨(c.val + d) % 16, Nat.mod_lt _ (by decide)⟩

/-- The number of the device `d` places after `c`. -/
theorem pe_val (c : Dev nD) (d : ℕ) : (pe c d).val = (c.val + d) % 16 := rfl

/-- At a distance from 1 to 15 stands another device. -/
theorem pe_ne {d : ℕ} (h1 : 1 ≤ d) (h2 : d < 16) (c : Dev nD) : pe c d ≠ c := fun h => by
  have h' := congrArg Fin.val h
  have hc : c.val < 16 := c.isLt
  rw [pe_val] at h'; omega

/-- At distance 0 stands the device itself. -/
theorem pe_zero (c : Dev nD) : pe c 0 = c := Fin.ext (by have hc : c.val < 16 := c.isLt; rw [pe_val]; omega)

/-- Different distances below 16 lead to different devices. -/
theorem pe_inj (c : Dev nD) {d e : ℕ} (hd : d < 16) (he : e < 16) (h : pe c d = pe c e) : d = e := by
  have h' := congrArg Fin.val h
  rw [pe_val, pe_val] at h'; omega

/-- The other fifteen devices are those at distances 1 to 15. -/
theorem image_pe (c : Dev nD) : (Finset.Ico 1 16).image (pe c) = Finset.univ.erase c := by revert c; decide

/-- The distances 0 to 15 reach every device. -/
theorem image_pe_all (c : Dev nD) : (Finset.range 16).image (pe c) = Finset.univ := by revert c; decide

/-- On the distances 1 to 15 no device is reached twice. -/
theorem pe_injOn (c : Dev nD) : Set.InjOn (pe c) (Finset.Ico 1 16 : Finset ℕ) := fun d hd e he h =>
  pe_inj c (Finset.mem_Ico.mp hd).2 (Finset.mem_Ico.mp he).2 h

/-- A product over the other devices, taken in the order of their distances. -/
theorem bigSep_others (c : Dev nD) (Φ : Dev nD → sProp 𝕄) :
    bigSep (Finset.univ.erase c) Φ = bigSep (Finset.Ico 1 16) fun d => Φ (pe c d) := by
  rw [← image_pe c, bigSep_image_of_injOn (pe_injOn c)]

/-! ## The arrays and their slabs -/

abbrev attnM : Memref sig .tc .vmem S512x1024 .f32 := Memref.whole cc0_scratch0
abbrev partM : Memref sig .tc .vmem S512x1024 .bf16 := Memref.whole cc0_scratch1
abbrev rsM : Memref sig .tc .vmem S512x1024 .bf16 := Memref.whole cc0_scratch2
abbrev agM : Memref sig .tc .vmem S512x1024 .bf16 := Memref.whole cc0_scratch3

/-- The contents of one of the three arrays. -/
abbrev Cont (F : FTy → Type) : Type := S512x1024.Idx → Elt F .bf16

/-- The row of an index. -/
abbrev row (i : S512x1024.Idx) : ℕ := (i (0 : Fin 2)).val

/-- An array has 512 rows. -/
theorem row_lt (i : S512x1024.Idx) : row i < 512 := (i (0 : Fin 2)).isLt

/-- Slab `p` of group `g`: the sixteen rows from `256 g + 16 p`. -/
def slab (g : Fin 2) (p : Dev nD) : Finset S512x1024.Idx := Finset.univ.filter fun i => row i / 16 = 16 * g.val + p.val

/-- Group `g`: the 256 rows from `256 g`. -/
def half (g : Fin 2) : Finset S512x1024.Idx := Finset.univ.filter fun i => row i / 256 = g.val

/-- An index lies in a slab exactly when its row, divided by 16, is the slab's number. -/
theorem mem_slab {g : Fin 2} {p : Dev nD} {i : S512x1024.Idx} : i ∈ slab g p ↔ row i / 16 = 16 * g.val + p.val := by
  unfold slab; rw [Finset.mem_filter]; exact ⟨fun h => h.2, fun h => ⟨Finset.mem_univ _, h⟩⟩

/-- An index lies in a group exactly when its row, divided by 256, is the group's number. -/
theorem mem_half {g : Fin 2} {i : S512x1024.Idx} : i ∈ half g ↔ row i / 256 = g.val := by
  unfold half; rw [Finset.mem_filter]; exact ⟨fun h => h.2, fun h => ⟨Finset.mem_univ _, h⟩⟩

/-- The group and the slab within it that an index lies in. -/
def grpOf (i : S512x1024.Idx) : Fin 2 := ⟨row i / 256, by have := row_lt i; omega⟩
def slabOf (i : S512x1024.Idx) : Dev nD := ⟨row i / 16 % 16, Nat.mod_lt _ (by decide)⟩

/-- A group is the union of its sixteen slabs. -/
theorem half_eq (g : Fin 2) : half g = Finset.univ.biUnion fun p => slab g p := by
  ext i
  rw [mem_half, Finset.mem_biUnion]
  have hg : g.val < 2 := g.isLt
  constructor
  · intro h
    exact ⟨slabOf i, Finset.mem_univ _, mem_slab.mpr (by show row i / 16 = 16 * g.val + row i / 16 % 16; omega)⟩
  · rintro ⟨p, -, h⟩
    have hp : p.val < 16 := p.isLt
    rw [mem_slab] at h; omega

/-- Two slabs of a group have no index in common. -/
theorem slab_disjoint (g : Fin 2) {p p' : Dev nD} (h : p ≠ p') : Disjoint (slab g p) (slab g p') :=
  Finset.disjoint_left.mpr fun i h1 h2 => h (Fin.ext (by rw [mem_slab] at h1 h2; omega))

/-- The two groups are the whole array, -/
theorem half_union : half 0 ∪ half 1 = Finset.univ := by
  ext i
  have h := row_lt i
  rw [Finset.mem_union, mem_half, mem_half]
  refine ⟨fun _ => Finset.mem_univ _, fun _ => ?_⟩
  show row i / 256 = 0 ∨ row i / 256 = 1
  omega

/-- and they have no index in common. -/
theorem half_disjoint : Disjoint (half 0) (half 1) :=
  Finset.disjoint_left.mpr fun i h1 h2 => by
    rw [mem_half] at h1 h2
    have h3 : row i / 256 = 0 := h1
    have h4 : row i / 256 = 1 := h2
    omega

/-- A slab lies in its group. -/
theorem slab_subset_half (g : Fin 2) (p : Dev nD) : slab g p ⊆ half g := by
  rw [half_eq]; exact Finset.subset_biUnion_of_mem (fun p => slab g p) (Finset.mem_univ p)

/-- The index of slab `c`, same group and same place in the slab. -/
def toSlab (c : Dev nD) (i : S512x1024.Idx) : S512x1024.Idx :=
  Function.update i (0 : Fin 2) ⟨256 * (row i / 256) + 16 * c.val + row i % 16, by
    have := row_lt i; have hc : c.val < 16 := c.isLt
    show _ < 512; omega⟩

/-- The row of the index moved to slab `c`; -/
theorem row_toSlab (c : Dev nD) (i : S512x1024.Idx) : row (toSlab c i) = 256 * (row i / 256) + 16 * c.val + row i % 16 := by
  unfold toSlab row; rw [Function.update_self]

/-- its column stays. -/
theorem toSlab_one (c : Dev nD) (i : S512x1024.Idx) : toSlab c i (1 : Fin 2) = i (1 : Fin 2) := by
  unfold toSlab; rw [Function.update_of_ne (by decide)]

variable (P : Dev nD → Cont F) (A : Cont F)

/-- What device `c` ends with in `rs`: slab `p` holds device `p`'s slab `c`. -/
def rsF (c : Dev nD) : Cont F := fun i => P (slabOf i) (toSlab c i)

def partPts (c : Dev nD) (g : Fin 2) (p : Dev nD) (q : PosShare TreeShare) (f : Cont F) : sProp 𝕄 :=
  ((c : Thread nD τ).loc cc0_scratch1) ↦[slab g p]{q} f
def rsPts (c : Dev nD) (g : Fin 2) (p : Dev nD) (q : PosShare TreeShare) (f : Cont F) : sProp 𝕄 :=
  ((c : Thread nD τ).loc cc0_scratch2) ↦[slab g p]{q} f
def agPts (c : Dev nD) (g : Fin 2) (p : Dev nD) (q : PosShare TreeShare) (f : Cont F) : sProp 𝕄 :=
  ((c : Thread nD τ).loc cc0_scratch3) ↦[slab g p]{q} f

omit [FloatOps F] in
instance partPts_storable (c g p q f) : BI.Storable (upEmb : UEmb _ 𝕄) (partPts (F := F) c g p q f) := by unfold partPts; infer_instance
omit [FloatOps F] in
instance rsPts_storable (c g p q f) : BI.Storable (upEmb : UEmb _ 𝕄) (rsPts (F := F) c g p q f) := by unfold rsPts; infer_instance
omit [FloatOps F] in
instance agPts_storable (c g p q f) : BI.Storable (upEmb : UEmb _ 𝕄) (agPts (F := F) c g p q f) := by unfold agPts; infer_instance

/-! ## The semaphores -/

/-- The runtime's barrier semaphore. -/
abbrev barS : Sem sig := (SemArray.scalar (sig.barrier 0 rfl) : Sems sig S_).sem

set_option backward.proofsInPublic true in
/-- The copies' semaphores: `a` is 0 for the first exchange's sending side, 1 for its receiving side, 2 and 3 for the second
    exchange's; `g` the group; `p` the other device. -/
def dsm (a : Fin 4) (g : Fin 2) (p : Dev nD) : DmaSem sig :=
  ⟨6 + 32 * a.val + 16 * g.val + p.val, by
    have := a.isLt; have := g.isLt; have hp : p.val < 16 := p.isLt
    show _ < 134; omega⟩

/-- The number of a copy's semaphore. -/
theorem dsm_val (a : Fin 4) (g : Fin 2) (p : Dev nD) : (dsm a g p).val = 6 + 32 * a.val + 16 * g.val + p.val := rfl

/-- One of a device's copies, by the semaphore's three coordinates. -/
abbrev Key : Type := Fin 4 × Fin 2 × Dev nD

/-- The kernel's own semaphores, by key. -/
abbrev osem : Key → SemLoc sig := fun k => .dma (dsm k.1 k.2.1 k.2.2)
/-- The barrier semaphore (`none`) and the kernel's own. -/
abbrev csem : Option Key → SemLoc sig := fun k => match k with | none => .reg barS | some k => osem k

abbrev barCell (c : Dev nD) : GSem nD τ sig := ((c : Thread nD τ), .reg barS)
abbrev cell (c : Dev nD) (a : Fin 4) (g : Fin 2) (p : Dev nD) : GSem nD τ sig := ((c : Thread nD τ), .dma (dsm a g p))
abbrev kcell (ck : Dev nD × Option Key) : GSem nD τ sig := ((ck.1 : Thread nD τ), csem ck.2)

/-- The coordinates of a semaphore's number. -/
def smA (q : DmaSem sig) : ℕ := (q.val - 6) / 32
set_option backward.proofsInPublic true in
def smG (q : DmaSem sig) : Fin 2 := ⟨(q.val - 6) / 16 % 2, Nat.mod_lt _ (by decide)⟩
set_option backward.proofsInPublic true in
def smP (q : DmaSem sig) : Dev nD := ⟨(q.val - 6) % 16, Nat.mod_lt _ (by decide)⟩

section Decode
variable (a : Fin 4) (g : Fin 2) (p : Dev nD)

/-- A semaphore's number gives back its side, -/
theorem smA_dsm : smA (dsm a g p) = a.val := by
  have := a.isLt; have := g.isLt; have hp : p.val < 16 := p.isLt
  unfold smA; rw [dsm_val]; omega
/-- its group, -/
theorem smG_dsm : smG (dsm a g p) = g := Fin.ext (by
  have := a.isLt; have := g.isLt; have hp : p.val < 16 := p.isLt
  show ((dsm a g p).val - 6) / 16 % 2 = g.val; rw [dsm_val]; omega)
/-- and its other device. -/
theorem smP_dsm : smP (dsm a g p) = p := Fin.ext (by
  have := a.isLt; have := g.isLt; have hp : p.val < 16 := p.isLt
  show ((dsm a g p).val - 6) % 16 = p.val; rw [dsm_val]; omega)
/-- The copies' semaphores come after the six of the staging. -/
theorem six_le_dsm : 6 ≤ (dsm a g p).val := by rw [dsm_val]; omega
end Decode

/-- Different keys have different semaphores, -/
theorem osem_injective : Function.Injective osem := fun k k' h => by
  obtain ⟨a, g, p⟩ := k; obtain ⟨a', g', p'⟩ := k'
  have hq : dsm a g p = dsm a' g' p' := SemLoc.dma.inj h
  have h1 : a = a' := Fin.ext (by rw [← smA_dsm a g p, hq, smA_dsm])
  have h2 : g = g' := by rw [← smG_dsm a g p, hq, smG_dsm]
  have h3 : p = p' := by rw [← smP_dsm a g p, hq, smP_dsm]
  rw [h1, h2, h3]

/-- also with the barrier semaphore among them, -/
theorem csem_injective : Function.Injective csem := fun k k' h => by
  cases k with
  | none => cases k' with
    | none => rfl
    | some k' => cases h
  | some k => cases k' with
    | none => cases h
    | some k' => exact congrArg some (osem_injective h)

/-- and different devices have different cells. -/
theorem kcell_injective : Function.Injective kcell := fun ck ck' h => by
  obtain ⟨c, k⟩ := ck; obtain ⟨c', k'⟩ := ck'
  have h1 : c = c' := congrArg (fun g : GSem nD τ sig => g.1.1) h
  have h2 : k = k' := csem_injective (congrArg Prod.snd h)
  rw [h1, h2]

/-- The credit of one slab's copy. -/
abbrev slabV (off : Fin 2 → ℕ) (h : ∀ a, off a + S16x1024.size a ≤ S512x1024.size a) (b : Memref sig .tc .vmem S512x1024 .bf16) :
    Memref sig .tc .vmem S16x1024 .bf16 := b.slice (Rect.unit (s := S512x1024) off S16x1024.size h) (fun _ => rfl)

def N : ℕ := (slabV ![0, 0] (by decide) rsM).view.dmaCredit
/-- A slab's copy credits something. -/
theorem N_pos : 0 < N := View.dmaCredit_pos _ (by decide)

/-- Every slab of `rs` has the same credit, -/
theorem credit_rs (off h) : (slabV off h rsM).view.dmaCredit = N := rfl
/-- and so has every slab of `ag` -/
theorem credit_ag (off h) : (slabV off h agM).view.dmaCredit = N := rfl
/-- and of `part`. -/
theorem credit_part (off h) : (slabV off h partM).view.dmaCredit = N := rfl

/-! ## The schedule -/

/-- Device `e`'s signal to device `c`: `c`'s slabs of `e`'s `rs` and `ag`. -/
def barPay (c e : Dev nD) : sProp 𝕄 :=
  bigSep Finset.univ fun g : Fin 2 => iprop((∃ f, rsPts e g c fullShare f) ∗ ∃ f, agPts e g c fullShare f)

/-- What device `c`'s copy semaphores hand over: the sent slab of `part` back; the landed slab of `rs`; the lent share of
    the own slab of `ag` back; the landed slab of `ag`. -/
def dmaPay (c : Dev nD) (a : ℕ) (g : Fin 2) (p : Dev nD) : sProp 𝕄 :=
  if a = 0 then partPts c g p fullShare (P c)
  else if a = 1 then rsPts c g p fullShare (rsF P c)
  else if a = 2 then agPts c g c (leaf 4 fullShare p) A
  else agPts c g p fullShare A

omit [FloatOps F] in
instance barPay_storable (c e : Dev nD) : BI.Storable (upEmb : UEmb _ 𝕄) (barPay (F := F) c e) := by unfold barPay; infer_instance
omit [FloatOps F] in
instance dmaPay_storable (c : Dev nD) (a g p) : BI.Storable (upEmb : UEmb _ 𝕄) (dmaPay (F := F) P A c a g p) := by
  unfold dmaPay; (repeat' split) <;> infer_instance

/-- One round. A barrier semaphore has one unit from every other device; a copy's semaphore the slab's credit. -/
def Rd : Rounds.Schedule (GSem nD τ sig) (Dev nD) 𝕄 where
  duties g r := if r = 0 ∧ g.1.2 = .tc then
      (match g.2 with
        | .reg _ => Finset.univ.erase g.1.1
        | .dma q => if 6 ≤ q.val ∧ smP q ≠ g.1.1 then {(0 : Fin 16)} else ∅)
    else ∅
  unitless _ := False
  amount g _ _ := match g.2 with
    | .reg _ => 1
    | .dma _ => N
  payload g _ d := match g.2 with
    | .reg _ => barPay g.1.1 d
    | .dma q => dmaPay P A g.1.1 (smA q) (smG q) (smP q)
  amount_pos g _ _ _ := by
    obtain ⟨t, s⟩ := g
    cases s with
    | reg s => exact Nat.one_pos
    | dma q => exact N_pos

omit [FloatOps F] in
instance Rd_payload_storable (g : GSem nD τ sig) (r : ℕ) (d : Dev nD) : BI.Storable (upEmb : UEmb _ 𝕄) ((Rd (F := F) P A).payload g r d) := by
  obtain ⟨t, s⟩ := g
  cases s with
  | reg s => exact barPay_storable (F := F) t.1 d
  | dma q => exact dmaPay_storable (F := F) P A t.1 (smA q) (smG q) (smP q)

section Sched
variable (c : Dev nD) (a : Fin 4) (g : Fin 2) (p : Dev nD)

omit [FloatOps F] in
/-- Every other device has a duty at the barrier semaphore. -/
theorem duties_bar : (Rd P A).duties (barCell c) 0 = Finset.univ.erase c := by
  dsimp only [Rd]; exact if_pos ⟨rfl, rfl⟩
omit [FloatOps F] in
/-- A copy's semaphore has one duty. -/
theorem duties_cell (h : p ≠ c) : (Rd P A).duties (cell c a g p) 0 = {(0 : Fin 16)} := by
  dsimp only [Rd]
  exact (if_pos ⟨rfl, rfl⟩).trans (if_pos ⟨six_le_dsm a g p, by rw [smP_dsm]; exact h⟩)
omit [FloatOps F] in
/-- The semaphores that a device keeps for itself have none, -/
theorem duties_self (r : ℕ) : (Rd P A).duties (cell c a g c) r = ∅ := by
  show (if r = 0 ∧ _ then (if 6 ≤ (dsm a g c).val ∧ smP (dsm a g c) ≠ c then ({(0 : Fin 16)} : Finset (Dev nD)) else ∅) else ∅) = ∅
  rw [smP_dsm]; simp
omit [FloatOps F] in
/-- and no semaphore has one after the first round. -/
theorem duties_later (g : GSem nD τ sig) : ∀ r, 1 ≤ r → (Rd P A).duties g r = ∅ :=
  fun r hr => if_neg fun h => by omega

omit [FloatOps F] in
/-- A signal is one unit; -/
theorem amount_bar (d : Dev nD) : (Rd P A).amount (barCell c) 0 d = 1 := rfl
omit [FloatOps F] in
/-- a copy is the slab's credit. -/
theorem amount_cell (d : Dev nD) : (Rd P A).amount (cell c a g p) 0 d = N := rfl

omit [FloatOps F] in
/-- The barrier semaphore expects fifteen units, -/
theorem expect_bar : (Rd P A).expect (barCell c) 0 = 15 := by
  unfold Schedule.expect Schedule.amountOf
  rw [duties_bar, Finset.sum_congr rfl fun d _ => amount_bar P A c d, Finset.sum_const, Finset.card_erase_of_mem (Finset.mem_univ _), Finset.card_univ,
    Fintype.card_fin, smul_eq_mul]
  rfl
omit [FloatOps F] in
/-- and a copy's semaphore one slab's credit. -/
theorem expect_cell (h : p ≠ c) : (Rd P A).expect (cell c a g p) 0 = N := by
  unfold Schedule.expect Schedule.amountOf; rw [duties_cell P A c a g p h, Finset.sum_singleton, amount_cell]

omit [FloatOps F] in
/-- What a signal hands over; -/
theorem payload_bar (d : Dev nD) : (Rd P A).payload (barCell c) 0 d = barPay c d := rfl
omit [FloatOps F] in
/-- what a copy's semaphore hands over. -/
theorem payload_cell (d : Dev nD) : (Rd P A).payload (cell c a g p) 0 d = dmaPay P A c a.val g p := by
  show dmaPay P A c (smA (dsm a g p)) (smG (dsm a g p)) (smP (dsm a g p)) = _
  rw [smA_dsm, smG_dsm, smP_dsm]
end Sched

/-! ## What a device owes at launch; the levels -/

/-- What device `c` still owes from distance `k` on: the barrier units; -/
def oB (c : Dev nD) (k : ℕ) : CellTallies nD τ sig Unit := ∑ d ∈ Finset.Ico k 16, tallyAt (barCell (pe c d)) () 1
/-- the copies of exchange `a` (its receiving side's number), group `g`. -/
def oD (a : Fin 4) (g : Fin 2) (c : Dev nD) (k : ℕ) : CellTallies nD τ sig Unit := ∑ d ∈ Finset.Ico k 16, tallyAt (cell (pe c d) a g c) () N

/-- After the last distance no signal is owed, -/
theorem oB_last (c : Dev nD) : oB c 16 = 0 := by unfold oB; rw [Finset.Ico_self, Finset.sum_empty]
/-- and no copy. -/
theorem oD_last (a g) (c : Dev nD) : oD a g c 16 = 0 := by unfold oD; rw [Finset.Ico_self, Finset.sum_empty]
/-- An interval is its least element and the rest. -/
theorem Ico_bot {d n : ℕ} (h : d < n) : Finset.Ico d n = insert d (Finset.Ico (d + 1) n) := by
  ext x; simp only [Finset.mem_Ico, Finset.mem_insert]; omega
/-- The debt of signals from distance `d` on: one signal, and the debt from `d + 1` on. -/
theorem oB_step (c : Dev nD) {d : ℕ} (h : d < 16) : oB c d = oB c (d + 1) + tallyAt (barCell (pe c d)) () 1 := by
  unfold oB; rw [Ico_bot h, Finset.sum_insert (by simp), add_comm]
/-- The same of copies. -/
theorem oD_step (a g) (c : Dev nD) {d : ℕ} (h : d < 16) : oD a g c d = oD a g c (d + 1) + tallyAt (cell (pe c d) a g c) () N := by
  unfold oD; rw [Ico_bot h, Finset.sum_insert (by simp), add_comm]

/-- The second exchange's debts. -/
def oAg (c : Dev nD) : CellTallies nD τ sig Unit := oD 3 1 c 1 + oD 3 0 c 1
/-- Both exchanges' debts. -/
def oXfer (c : Dev nD) : CellTallies nD τ sig Unit := oAg c + oD 1 1 c 1 + oD 1 0 c 1
/-- Everything owed at launch. -/
def O₀ (c : Dev nD) : CellTallies nD τ sig Unit := oXfer c + oB c 1

def L (g : GSem nD τ sig) : Finset Unit := if g.1.2 = .tc then {()} else ∅
/-- The barrier semaphores first, then the first exchange's receiving side, then the second's; sending and staging at 0. -/
def lv (g : GSem nD τ sig) (_ : Unit) : ℕ := match g.2 with
  | .reg _ => 1
  | .dma q => if 6 ≤ q.val then (if smA q = 1 then 2 else if smA q = 3 then 3 else 0) else 0

/-- Away from the TensorCores no semaphore has a level, -/
theorem L_of_ne (g : GSem nD τ sig) (h : g.1.2 ≠ .tc) : L g = ∅ := if_neg h
/-- and on them each has one. -/
theorem L_tc (c : Dev nD) (sm : SemLoc sig) : L ((c : Thread nD τ), sm) = {()} := if_pos rfl
/-- The level of a copy's semaphore. -/
theorem lv_cell (c : Dev nD) (a g p) : lv (cell c a g p) () = if a.val = 1 then 2 else if a.val = 3 then 3 else 0 := by
  show (if 6 ≤ (dsm a g p).val then (if smA (dsm a g p) = 1 then 2 else if smA (dsm a g p) = 3 then 3 else 0) else 0) = _
  rw [if_pos (six_le_dsm a g p), smA_dsm]

/-- Where a sum of debts is positive, one of them is. -/
theorem sum_pos_elim {ι : Type} {S : Finset ι} {T : ι → CellTallies nD τ sig Unit} {g : GSem nD τ sig} {u : Unit}
    (h : 0 < (∑ i ∈ S, T i) g u) : ∃ i ∈ S, 0 < T i g u := by
  classical
  by_contra hn
  refine absurd h (Nat.not_lt.mpr ?_)
  induction S using Finset.induction_on with
  | empty => exact le_refl 0
  | insert a s ha ih =>
    rw [Finset.sum_insert ha, Pi.add_apply, Finsupp.add_apply]
    have h1 : T a g u = 0 := Nat.eq_zero_of_not_pos fun hp => hn ⟨a, Finset.mem_insert_self _ _, hp⟩
    have h2 := ih (by rw [Finset.sum_insert ha, Pi.add_apply, Finsupp.add_apply, h1, Nat.zero_add] at h; exact h)
      (fun ⟨i, hi, hp⟩ => hn ⟨i, Finset.mem_insert_of_mem hi, hp⟩)
    omega

/-- A positive debt to the barrier semaphores names one; -/
theorem oB_pos {c : Dev nD} {k : ℕ} {g : GSem nD τ sig} {u : Unit} (h : 0 < oB c k g u) : ∃ d, g = barCell d := by
  obtain ⟨d, -, hd⟩ := sum_pos_elim h
  rw [tallyAt_apply] at hd
  by_contra hn
  rw [if_neg (fun h' => hn ⟨_, h'.1⟩)] at hd
  exact Nat.lt_irrefl 0 hd

/-- and to an exchange's receiving side, one of those. -/
theorem oD_pos {a gr} {c : Dev nD} {k : ℕ} {g : GSem nD τ sig} {u : Unit} (h : 0 < oD a gr c k g u) : ∃ d, g = cell d a gr c := by
  obtain ⟨d, -, hd⟩ := sum_pos_elim h
  rw [tallyAt_apply] at hd
  by_contra hn
  rw [if_neg (fun h' => hn ⟨_, h'.1⟩)] at hd
  exact Nat.lt_irrefl 0 hd

/-- A debt all of whose semaphores lie above level `n`. -/
def Above (n : ℕ) (O : CellTallies nD τ sig Unit) : Prop := ∀ g u, 0 < O g u → g.1.2 = .tc ∧ n < lv g ()

/-- No debt lies above every level. -/
theorem above_zero (n : ℕ) : Above n 0 := fun _ _ h => absurd h (Nat.lt_irrefl 0)
/-- Two debts above a level lie above it together. -/
theorem above_add {n : ℕ} {O O' : CellTallies nD τ sig Unit} (h : Above n O) (h' : Above n O') : Above n (O + O') := fun g u hp => by
  rw [Pi.add_apply, Finsupp.add_apply] at hp
  rcases Nat.eq_zero_or_pos (O g u) with hz | hz
  · exact h' g u (by omega)
  · exact h g u hz
/-- A debt above a level lies above the lower ones. -/
theorem above_mono {n n' : ℕ} (hn : n' ≤ n) {O : CellTallies nD τ sig Unit} (h : Above n O) : Above n' O := fun g u hp =>
  ⟨(h g u hp).1, Nat.lt_of_le_of_lt hn (h g u hp).2⟩
/-- The signals owed lie above level 0, -/
theorem above_oB (c : Dev nD) (k : ℕ) : Above 0 (oB c k) := fun g u hp => by
  obtain ⟨d, rfl⟩ := oB_pos hp
  exact ⟨rfl, Nat.one_pos⟩
/-- the first exchange's copies above level 1, -/
theorem above_oD1 (g) (c : Dev nD) (k : ℕ) : Above 1 (oD 1 g c k) := fun g u hp => by
  obtain ⟨d, rfl⟩ := oD_pos hp
  exact ⟨rfl, by rw [lv_cell]; decide⟩
/-- the second's above level 2. -/
theorem above_oD3 (g) (c : Dev nD) (k : ℕ) : Above 2 (oD 3 g c k) := fun g u hp => by
  obtain ⟨d, rfl⟩ := oD_pos hp
  exact ⟨rfl, by rw [lv_cell]; decide⟩
/-- So the second exchange's debts lie above level 2, -/
theorem above_oAg (c : Dev nD) : Above 2 (oAg c) := above_add (above_oD3 _ _ _) (above_oD3 _ _ _)
/-- both exchanges' above level 1, -/
theorem above_oXfer (c : Dev nD) : Above 1 (oXfer c) :=
  above_add (above_add (above_mono (by decide) (above_oAg c)) (above_oD1 _ _ _)) (above_oD1 _ _ _)
/-- and everything owed at launch above level 0. -/
theorem above_O₀ (c : Dev nD) : Above 0 (O₀ c) := above_add (above_mono (by decide) (above_oXfer c)) (above_oB _ _)

omit [FloatOps F] in
/-- A semaphore may be waited for while everything owed lies above it. -/
theorem mayWait_of_above (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdealProof

end
-- ==== Proof.KernelIdealSteps.lean ====
/-
# One step of each loop of the exchanges

A device's program is straight-line, but it consists of loops run out: fifteen signals, fifteen copies a group and
exchange, fifteen waits. For each loop this file names what the device holds before the `d`-th turn and proves that one
turn leads to the next, whatever comes after.
-/
module

public import proofs.«01_k».proof.Proof.KernelIdealProto
public import Idealize.SL.BI.BigOpNat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

abbrev 𝒱₀ : Variants := Variants.none

variable (P : Dev nD → Cont F) (A : Cont F) (K : Dev nD × Option Key → ℕ)

/-! ## What every device knows -/

/-- The levels of all semaphores. -/
abbrev levs : sProp 𝕄 := levAts L lv

/-- Every cell's invariant, that every cell has reached round 0, and the levels. -/
def records : sProp 𝕄 :=
  iprop((bigSep Finset.univ fun ck : Dev nD × Option Key => cellInv ER (Rd P A) (K ck) (kcell ck))
    ∗ (bigSep Finset.univ fun ck : Dev nD × Option Key => reached ER (kcell ck) 0) ∗ levs (F := F))

instance records_persistent : BI.Persistent (records P A K) := by unfold records; infer_instance

omit [FloatOps F] in
/-- Everyone knows each cell's invariant, -/
theorem rec_inv (ck : Dev nD × Option Key) : records P A K ⊢ cellInv ER (Rd P A) (K ck) (kcell ck) := by
  have h : (bigSep Finset.univ fun ck : Dev nD × Option Key => cellInv ER (Rd P A) (K ck) (kcell ck)) ⊢ (cellInv ER (Rd P A) (K ck) (kcell ck) : sProp 𝕄) :=
    bigSep_elim (Finset.mem_univ ck)
  unfold records
  iintro ⟨#HI, #HR, #HL⟩
  iapply h; iexact HI

omit [FloatOps F] in
/-- that each cell has reached its round, -/
theorem rec_reached (ck : Dev nD × Option Key) : records P A K ⊢ reached ER (kcell ck) 0 := by
  have h : (bigSep Finset.univ fun ck : Dev nD × Option Key => reached ER (kcell ck) 0) ⊢ (reached ER (kcell ck) 0 : sProp 𝕄) :=
    bigSep_elim (Finset.mem_univ ck)
  unfold records
  iintro ⟨#HI, #HR, #HL⟩
  iapply h; iexact HR

omit [FloatOps F] in
/-- and the levels. -/
theorem rec_lev : records P A K ⊢ levs (F := F) := by
  unfold records
  iintro ⟨#HI, #HR, #HL⟩
  iexact HL

/-- A device's debts, whatever it has waited for. -/
def owesE (c : Dev nD) (O : CellTallies nD τ sig Unit) : sProp 𝕄 := iprop(∃ W, owes (c : Thread nD τ) O W)

/-- What device `c` holds: the common knowledge, the loop's part `Act`, its debts `O`, and the rest `R`. -/
def St (c : Dev nD) (Act : sProp 𝕄) (O : CellTallies nD τ sig Unit) (R : sProp 𝕄) : sProp 𝕄 :=
  iprop(records P A K ∗ Act ∗ owesE c O ∗ R)

/-! ## The signals -/

/-- Before the `k`-th signal: for every device still to be signalled, its barrier's duty and what the signal hands over. -/
def sigS (c : Dev nD) (k : ℕ) : sProp 𝕄 :=
  bigSep (Finset.Ico k 16) fun d => iprop(dutyTok ER (barCell (pe c d)) 0 c ∗ barPay (pe c d) c)

/-! ## The views a copy goes through -/

/-- An entry of an array of semaphores, taken by slicing and squeezing, is the semaphore of its coordinates, where it is so at numbers. -/
theorem sem_eq (arr : DmaSems sig S2x16) (a : Fin 4) (harr : ∀ (g : Fin 2) (p : Dev nD) (inb : ∀ i, (![g.val, p.val] : Fin 2 → ℕ) i + S1x1.size i ≤ S2x16.size i),
      ((arr.slice (Rect.unit (s := S2x16) ![g.val, p.val] S1x1.size inb)).squeeze S_ squeezes_S1x1_S_).sem = dsm a g p)
    {off : Fin 2 → ℕ} {inb : ∀ i, off i + S1x1.size i ≤ S2x16.size i} {g : Fin 2} {p : Dev nD} (ho : off = ![g.val, p.val]) :
    ((arr.slice (Rect.unit (s := S2x16) off S1x1.size inb)).squeeze S_ squeezes_S1x1_S_).sem = dsm a g p := by
  subst ho; exact harr g p inb

/-- The entries of the first exchange's sending semaphores, -/
theorem sem4 : ∀ (g : Fin 2) (p : Dev nD) (inb : ∀ i, (![g.val, p.val] : Fin 2 → ℕ) i + S1x1.size i ≤ S2x16.size i),
    ((cc0_scratch4.slice (Rect.unit (s := S2x16) ![g.val, p.val] S1x1.size inb)).squeeze S_ squeezes_S1x1_S_).sem = dsm 0 g p := by decide +kernel
/-- of its receiving ones, -/
theorem sem5 : ∀ (g : Fin 2) (p : Dev nD) (inb : ∀ i, (![g.val, p.val] : Fin 2 → ℕ) i + S1x1.size i ≤ S2x16.size i),
    ((cc0_scratch5.slice (Rect.unit (s := S2x16) ![g.val, p.val] S1x1.size inb)).squeeze S_ squeezes_S1x1_S_).sem = dsm 1 g p := by decide +kernel
/-- of the second exchange's sending ones, -/
theorem sem6 : ∀ (g : Fin 2) (p : Dev nD) (inb : ∀ i, (![g.val, p.val] : Fin 2 → ℕ) i + S1x1.size i ≤ S2x16.size i),
    ((cc0_scratch6.slice (Rect.unit (s := S2x16) ![g.val, p.val] S1x1.size inb)).squeeze S_ squeezes_S1x1_S_).sem = dsm 2 g p := by decide +kernel
/-- and of its receiving ones. -/
theorem sem7 : ∀ (g : Fin 2) (p : Dev nD) (inb : ∀ i, (![g.val, p.val] : Fin 2 → ℕ) i + S1x1.size i ≤ S2x16.size i),
    ((cc0_scratch7.slice (Rect.unit (s := S2x16) ![g.val, p.val] S1x1.size inb)).squeeze S_ squeezes_S1x1_S_).sem = dsm 3 g p := by decide +kernel

/-- The rectangle of a slab holds the slab's indices. -/
theorem mem_rect {off : Fin 2 → ℕ} {inb : ∀ i, off i + S16x1024.size i ≤ S512x1024.size i} {g : Fin 2} {p : Dev nD}
    (ho : off = ![256 * g.val + 16 * p.val, 0]) (i : S512x1024.Idx) :
    i ∈ (Rect.unit (s := S512x1024) off S16x1024.size inb).set ↔ i ∈ slab g p := by
  subst ho
  rw [mem_slab, LoadRect.mem_set]
  have hp : p.val < 16 := p.isLt
  have h1 : (i (1 : Fin 2)).val < 1024 := (i (1 : Fin 2)).isLt
  constructor
  · intro h
    obtain ⟨j, hj, he⟩ := h (0 : Fin 2)
    have hj' : j < 16 := hj
    have he' : row i = 256 * g.val + 16 * p.val + 1 * j := he
    omega
  · intro h a
    match a with
    | ⟨0, _⟩ => exact ⟨row i - (256 * g.val + 16 * p.val), show _ < 16 by omega, show row i = 256 * g.val + 16 * p.val + 1 * (row i - (256 * g.val + 16 * p.val)) by omega⟩
    | ⟨1, _⟩ => exact ⟨(i (1 : Fin 2)).val, h1, show (i (1 : Fin 2)).val = 0 + 1 * (i (1 : Fin 2)).val by omega⟩

/-- The view of a slab's rows covers the slab: of `part`, -/
theorem set_slab1 {off inb} {g : Fin 2} {p : Dev nD} (ho : off = ![256 * g.val + 16 * p.val, 0]) : (slabV off inb partM).view.set = slab g p :=
  Finset.ext fun i => ValueKit.mem_set_slice_whole_iff cc0_scratch1 (Rect.unit (s := S512x1024) off S16x1024.size inb) i (mem_rect ho i)
/-- of `rs`, -/
theorem set_slab2 {off inb} {g : Fin 2} {p : Dev nD} (ho : off = ![256 * g.val + 16 * p.val, 0]) : (slabV off inb rsM).view.set = slab g p :=
  Finset.ext fun i => ValueKit.mem_set_slice_whole_iff cc0_scratch2 (Rect.unit (s := S512x1024) off S16x1024.size inb) i (mem_rect ho i)
/-- and of `ag`. -/
theorem set_slab3 {off inb} {g : Fin 2} {p : Dev nD} (ho : off = ![256 * g.val + 16 * p.val, 0]) : (slabV off inb agM).view.set = slab g p :=
  Finset.ext fun i => ValueKit.mem_set_slice_whole_iff cc0_scratch3 (Rect.unit (s := S512x1024) off S16x1024.size inb) i (mem_rect ho i)

/-- A slab of one array written with a slab of another: the same place of the other slab. -/
theorem landed_rs {g : Fin 2} {c p : Dev nD} {off off' inb inb'} (ho : off = ![256 * g.val + 16 * p.val, 0]) (ho' : off' = ![256 * g.val + 16 * c.val, 0])
    (fd : Cont F) (i : S512x1024.Idx) (hi : i ∈ slab g c) :
    (slabV off' inb' rsM).view.write (Elt F) fd ((slabV off inb partM).view.read (Elt F) (P c)) Finset.univ i = rsF P p i := by
  rw [← set_slab2 (inb := inb') ho'] at hi
  obtain ⟨j, -, rfl⟩ := Finset.mem_map.mp hi
  rw [View.write_emb_of_mem (h := Finset.mem_univ j)]
  show P c ((slabV off inb partM).view.emb j) = P _ _
  subst ho; subst ho'
  have hc : c.val < 16 := c.isLt
  have hp : p.val < 16 := p.isLt
  have hj : (j (0 : Fin 2)).val < 16 := (j (0 : Fin 2)).isLt
  have e0 : row ((slabV ![256 * g.val + 16 * c.val, 0] inb' rsM).view.emb j) = 256 * g.val + 16 * c.val + (j (0 : Fin 2)).val :=
    ValueKit.view_emb_slice_whole_unit_val cc0_scratch2 _ _ _ j (0 : Fin 2)
  have e1 : ((slabV ![256 * g.val + 16 * c.val, 0] inb' rsM).view.emb j (1 : Fin 2)).val = 0 + (j (1 : Fin 2)).val :=
    ValueKit.view_emb_slice_whole_unit_val cc0_scratch2 _ _ _ j (1 : Fin 2)
  have f0 : row ((slabV ![256 * g.val + 16 * p.val, 0] inb partM).view.emb j) = 256 * g.val + 16 * p.val + (j (0 : Fin 2)).val :=
    ValueKit.view_emb_slice_whole_unit_val cc0_scratch1 _ _ _ j (0 : Fin 2)
  have f1 : ((slabV ![256 * g.val + 16 * p.val, 0] inb partM).view.emb j (1 : Fin 2)).val = 0 + (j (1 : Fin 2)).val :=
    ValueKit.view_emb_slice_whole_unit_val cc0_scratch1 _ _ _ j (1 : Fin 2)
  have hslab : slabOf ((slabV ![256 * g.val + 16 * c.val, 0] inb' rsM).view.emb j) = c := Fin.ext (by show row _ / 16 % 16 = c.val; rw [e0]; omega)
  rw [hslab]
  refine congrArg (P c) ?_
  · funext a
    match a with
    | ⟨0, _⟩ =>
      refine Fin.ext ?_
      show row _ = row (toSlab p _)
      rw [row_toSlab, f0, e0]; omega
    | ⟨1, _⟩ =>
      refine Fin.ext ?_
      show ((slabV ![256 * g.val + 16 * p.val, 0] inb partM).view.emb j (1 : Fin 2)).val = (toSlab p _ (1 : Fin 2)).val
      rw [toSlab_one, f1, e1]

/-- A slab copied from one `ag` into another holds there what it held here. -/
theorem landed_ag {g : Fin 2} {c : Dev nD} {off off' inb inb'} (ho : off = ![256 * g.val + 16 * c.val, 0]) (ho' : off' = ![256 * g.val + 16 * c.val, 0])
    (fd : Cont F) (i : S512x1024.Idx) (hi : i ∈ slab g c) :
    (slabV off' inb' agM).view.write (Elt F) fd ((slabV off inb agM).view.read (Elt F) A) Finset.univ i = A i := by
  rw [← set_slab3 (inb := inb') ho'] at hi
  obtain ⟨j, -, rfl⟩ := Finset.mem_map.mp hi
  rw [View.write_emb_of_mem (h := Finset.mem_univ j)]
  subst ho; subst ho'
  rfl

/-! ## The steps -/

section Steps
variable (c : Dev nD) {R : sProp (MT nD τ sig Unit (Elt F) ℕ UU ℕ)} {Q : PUnit → sProp (MT nD τ sig Unit (Elt F) ℕ UU ℕ)}
  {k : PUnit → Prog (TpuEff nD τ sig (Elt F) Λ₀ .tc) PUnit}

omit [FloatOps F] in
/-- A device computed as a number is the device at that distance. -/
theorem dev_eq {nf : Dev nD → ℕ} {d : ℕ} (hn : ∀ c : Dev nD, nf c = (c.val + d) % 16) (lt : nf c < nD) : (⟨nf c, lt⟩ : Dev nD) = pe c d := Fin.ext (hn c)

/-- The signal to the device at distance `d`: its duty and the slabs it hands over are used up. -/
theorem sig_step {O : CellTallies nD τ sig Unit} (d : ℕ) (hd : 1 ≤ d ∧ d < 16) {nf : Dev nD → ℕ} {lt : nf c < nD}
    (hn : ∀ c : Dev nD, nf c = (c.val + d) % 16)
    (h : St P A K c (sigS c (d + 1)) (O + oB c (d + 1)) R ⊢ wp frame (wpE (defs₀ (F := F)) 𝒱₀ (c : Thread nD τ) none) Set.univ (k ⟨⟩) Q) :
    St P A K c (sigS c d) (O + oB c d) R ⊢ wp frame (wpE (defs₀ (F := F)) 𝒱₀ (c : Thread nD τ) none) Set.univ
      (.op (.semSignal ((⟨nf c, lt⟩ : Dev nD) : Thread nD τ) (SemArray.scalar (sig.barrier 0 rfl) : Sems sig S_).sem (1#32 : BitVec 32).toInt) k) Q := by
  rw [dev_eq c hn lt]
  have hO : O + oB c d = O + oB c (d + 1) + tallyAt (barCell (pe c d)) () 1 := by rw [oB_step c hd.2, add_assoc]
  have hduty : c ∈ (Rd P A).duties (barCell (pe c d)) 0 := by
    rw [duties_bar]; exact Finset.mem_erase.mpr ⟨(pe_ne hd.1 hd.2 c).symm, Finset.mem_univ _⟩
  unfold St
  unfold sigS owesE
  rw [bigSep_Ico_succ_bot hd.2]
  iintro ⟨#Hr, ⟨⟨Ht, Hp⟩, HA⟩, ⟨%W, HO⟩, HR⟩
  iapply (Rounds.wp_signal 𝒱₀ ER (Rd P A) (c : Thread nD τ) none (dst := (pe c d : Thread nD τ)) (κ := K (pe c d, none))
      (d := c) hduty
      ((amount_bar P A (pe c d) c).trans (by decide)) () (O + oB c (d + 1)) hO) $$ [HO Ht Hp]
  · isplitr; · iapply (rec_inv P A K (pe c d, none)); iexact Hr
    isplitl [HO]; · iexact HO
    isplitl [Ht]; · iexact Ht
    isplitl [Hp]; · rw [payload_bar]; iexact Hp
    iapply (rec_reached P A K (pe c d, none)); iexact Hr
  iintro HO
  iapply h
  unfold St sigS owesE
  isplitr; · iexact Hr
  isplitl [HA]; · iexact HA
  isplitl [HO]; · iexists W; iexact HO
  iexact HR

/-! ### The wait at the barrier -/

/-- What the other devices' signals handed over. -/
def barGot (c : Dev nD) : sProp 𝕄 := bigSep (Finset.univ.erase c) fun e => barPay c e

/-- The wait for the fifteen signals: it brings what they handed over. -/
theorem bar_step {O : CellTallies nD τ sig Unit} (hO : Above 1 O)
    (h : St P A K c iprop(barGot c ∗ atPos ER (barCell c) 1 ∅ 0) O R ⊢ wp frame (wpE (defs₀ (F := F)) 𝒱₀ (c : Thread nD τ) none) Set.univ (k ⟨⟩) Q) :
    St P A K c iprop(cred (tallyAt (barCell c) () 15) ∗ atPos ER (barCell c) 0 ∅ 0) O R ⊢ wp frame (wpE (defs₀ (F := F)) 𝒱₀ (c : Thread nD τ) none) Set.univ
      (.op (.semWait (SemArray.scalar (sig.barrier 0 rfl) : Sems sig S_).sem (15#32 : BitVec 32).toNat) k) Q := by
  have hmw : records P A K ⊢ MayWait (c : Thread nD τ) (.reg barS) () O := (@rec_lev F P A K).trans (mayWait_of_above c (.reg barS) 1 (le_refl 1) hO)
  unfold St owesE
  iintro ⟨#Hr, ⟨Hc, Ha⟩, ⟨%W, HO⟩, HR⟩
  iapply (Rounds.wp_wait_rest_token 𝒱₀ ER (Rd P A) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Ha]
  · isplitr; · iapply (rec_inv P A K (c, none)); iexact Hr
    isplitl [Hc]; · iexact Hc
    isplitl [HO]; · iexact HO
    isplitr; · iapply hmw; iexact Hr
    iexact Ha
  iintro ⟨HO, Ha, -, Hpay⟩
  iapply h
  unfold St owesE barGot
  isplitr; · iexact Hr
  isplitl [Hpay Ha]
  · isplitl [Hpay]
    · iapply (Entails.of_eq (show bigSep ((Rd P A).duties (barCell c) 0 \ ∅) (fun d => (Rd P A).payload (barCell c) 0 d)
        = (bigSep (Finset.univ.erase c) fun e => barPay c e : sProp 𝕄) by rw [Finset.sdiff_empty, duties_bar]; rfl))
      iexact Hpay
    iexact Ha
  isplitl [HO]; · iexists _; iexact HO
  iexact HR

/-! ### The waits for copies -/

/-- Before the `k`-th wait on the semaphores `a` of group `g`: the credits and positions still to be used, and what the
    earlier waits brought. -/
def waitS (a : Fin 4) (g : Fin 2) (c : Dev nD) (k : ℕ) : sProp 𝕄 :=
  iprop((bigSep (Finset.Ico k 16) fun d => iprop(cred (tallyAt (cell c a g (pe c d)) () N) ∗ atPos ER (cell c a g (pe c d)) 0 ∅ 0))
    ∗ bigSep (Finset.Ico 1 k) fun d => iprop(atPos ER (cell c a g (pe c d)) 1 ∅ 0 ∗ dmaPay P A c a.val g (pe c d)))

/-- A wait for a copy's semaphore, allowed below all that is owed: it brings what the semaphore hands over. -/
theorem wait_step {O : CellTallies nD τ sig Unit} (a : Fin 4) (g : Fin 2) (n : ℕ) (hO : Above n O) (hn : (if a.val = 1 then 2 else if a.val = 3 then 3 else 0) ≤ n)
    (d : ℕ) (hd : 1 ≤ d ∧ d < 16) {s : DmaSem sig} (hs : s = dsm a g (pe c d))
    {e e' : EltTy} {s₁ s₂ : Shape} {src : Memref sig .tc .vmem s₁ e} {dst : Memref sig .tc .vmem s₂ e'} {hsrc : src.view.WordExact} {hdst : dst.view.WordExact}
    (hN : dst.view.dmaCredit = N)
    (h : St P A K c (waitS P A a g c (d + 1)) O R ⊢ wp frame (wpE (defs₀ (F := F)) 𝒱₀ (c : Thread nD τ) none) Set.univ (k ⟨⟩) Q) :
    St P A K c (waitS P A a g c d) O R ⊢ wp frame (wpE (defs₀ (F := F)) 𝒱₀ (c : Thread nD τ) none) Set.univ
      (.op (.waitDma2 s src dst hsrc hdst) k) Q := by
  subst hs
  have hmw : records P A K ⊢ MayWait (c : Thread nD τ) (.dma (dsm a g (pe c d))) () O :=
    (@rec_lev F P A K).trans (mayWait_of_above c (.dma (dsm a g (pe c d))) n (by rw [lv_cell]; exact hn) hO)
  unfold St waitS owesE
  rw [bigSep_Ico_succ_bot hd.2]
  iintro ⟨#Hr, ⟨⟨⟨Hc, Ha⟩, HA⟩, HB⟩, ⟨%W, HO⟩, HR⟩
  iapply (Rounds.wp_wait_rest_token 𝒱₀ ER (Rd P A) (c : Thread nD τ) none (κ := K (c, some (a, g, pe c d)))
      (wpE_waitDma2_eq 𝒱₀ (c : Thread nD τ) none Set.univ) (Set.mem_univ _) () (O := O) (W := W) (R := 0) (m := 0) (T := ∅)
      (by rw [Nat.zero_add, hN, expect_cell P A c a g _ (pe_ne hd.1 hd.2 c)])) $$ [Hc HO Ha]
  · isplitr; · iapply (rec_inv P A K (c, some (a, g, pe c d))); iexact Hr
    isplitl [Hc]; · rw [hN]; iexact Hc
    isplitl [HO]; · iexact HO
    isplitr; · iapply hmw; iexact Hr
    iexact Ha
  iintro ⟨HO, Ha, -, Hpay⟩
  iapply h
  unfold St waitS owesE
  rw [bigSep_Ico_succ_top hd.1]
  isplitr; · iexact Hr
  isplitl [Hpay Ha HA HB]
  · isplitl [HA]; · iexact HA
    isplitl [Hpay Ha]
    · isplitl [Ha]; · iexact Ha
      iapply (Entails.of_eq (show bigSep ((Rd P A).duties (cell c a g (pe c d)) 0 \ ∅) (fun d' => (Rd P A).payload (cell c a g (pe c d)) 0 d')
        = (dmaPay P A c a.val g (pe c d) : sProp 𝕄) by
          rw [Finset.sdiff_empty, duties_cell P A c a g _ (pe_ne hd.1 hd.2 c), bigSep_singleton, payload_cell]))
      iexact Hpay
    iexact HB
  isplitl [HO]; · iexists _; iexact HO
  iexact HR

/-! ### The copies -/

/-- Before the `k`-th copy of the first exchange: for every device still to be sent to, the two semaphores' duties, the slab of `part` and
    the slab it lands in; and the credits of the copies under way. -/
def rsS (g : Fin 2) (c : Dev nD) (k : ℕ) : sProp 𝕄 :=
  iprop((bigSep (Finset.Ico k 16) fun d => iprop(dutyTok ER (cell c 0 g (pe c d)) 0 (0 : Fin 16) ∗ dutyTok ER (cell (pe c d) 1 g c) 0 (0 : Fin 16)
      ∗ partPts c g (pe c d) fullShare (P c) ∗ ∃ f, rsPts (pe c d) g c fullShare f))
    ∗ bigSep (Finset.Ico 1 k) fun d => cred (tallyAt (cell c 0 g (pe c d)) () N))

/-- The same of the second exchange, whose source is a share of the own slab of `ag`. -/
def agS (g : Fin 2) (c : Dev nD) (k : ℕ) : sProp 𝕄 :=
  iprop((bigSep (Finset.Ico k 16) fun d => iprop(dutyTok ER (cell c 2 g (pe c d)) 0 (0 : Fin 16) ∗ dutyTok ER (cell (pe c d) 3 g c) 0 (0 : Fin 16)
      ∗ agPts c g c (leaf 4 fullShare (pe c d)) A ∗ ∃ f, agPts (pe c d) g c fullShare f))
    ∗ bigSep (Finset.Ico 1 k) fun d => cred (tallyAt (cell c 2 g (pe c d)) () N))

/-- The debts of an exchange's copies still to be issued include the next one's. -/
theorem oD_next {O : CellTallies nD τ sig Unit} (a g) (c : Dev nD) {d : ℕ} (h : d < 16) :
    O + oD a g c d = O + oD a g c (d + 1) + tallyAt (cell (pe c d) a g c) () N := by rw [oD_step a g c h, add_assoc]

/-- A slab of `part` landed in `rs` is what the receiving semaphore hands over; -/
theorem rs_arrive {g : Fin 2} {c p : Dev nD} {off off' inb inb'} (ho : off = ![256 * g.val + 16 * p.val, 0]) (ho' : off' = ![256 * g.val + 16 * c.val, 0]) (f : Cont F) :
    ((slabV off' inb' rsM).view.loc (p : Thread nD τ) ↦[(slabV off' inb' rsM).view.set]{fullShare}
        ((slabV off' inb' rsM).view.write (Elt F) f ((slabV off inb partM).view.read (Elt F) (P c)) Finset.univ) : sProp 𝕄)
      ⊢ (Rd P A).payload (cell p 1 g c) 0 (0 : Fin 16) := by
  rw [payload_cell]
  show _ ⊢ rsPts p g c fullShare (rsF P p)
  unfold rsPts
  rw [set_slab2 ho']
  exact Entails.of_eq (pointsTo_congr fun i hi => landed_rs P ho ho' f i hi)

omit [FloatOps F] in
/-- the sent slab is what the sending one hands back. -/
theorem rs_leave {g : Fin 2} {c p : Dev nD} {off inb} (ho : off = ![256 * g.val + 16 * p.val, 0]) :
    ((slabV off inb partM).view.loc (c : Thread nD τ) ↦[(slabV off inb partM).view.set]{fullShare} P c : sProp 𝕄)
      ⊢ (Rd P A).payload (cell c 0 g p) 0 (0 : Fin 16) := by
  rw [payload_cell]
  show _ ⊢ partPts c g p fullShare (P c)
  unfold partPts
  rw [set_slab1 ho]

/-- A slab landed in `ag` is what the receiving semaphore hands over; -/
theorem ag_arrive {g : Fin 2} {c p : Dev nD} {off off' inb inb'} (ho : off = ![256 * g.val + 16 * c.val, 0]) (ho' : off' = ![256 * g.val + 16 * c.val, 0]) (f : Cont F) :
    ((slabV off' inb' agM).view.loc (p : Thread nD τ) ↦[(slabV off' inb' agM).view.set]{fullShare}
        ((slabV off' inb' agM).view.write (Elt F) f ((slabV off inb agM).view.read (Elt F) A) Finset.univ) : sProp 𝕄)
      ⊢ (Rd P A).payload (cell p 3 g c) 0 (0 : Fin 16) := by
  rw [payload_cell]
  show _ ⊢ agPts p g c fullShare A
  unfold agPts
  rw [set_slab3 ho']
  exact Entails.of_eq (pointsTo_congr fun i hi => landed_ag A ho ho' f i hi)

omit [FloatOps F] in
/-- the lent share of the sent one is what the sending one hands back. -/
theorem ag_leave {g : Fin 2} {c p : Dev nD} {off inb} (ho : off = ![256 * g.val + 16 * c.val, 0]) :
    ((slabV off inb agM).view.loc (c : Thread nD τ) ↦[(slabV off inb agM).view.set]{leaf 4 fullShare p} A : sProp 𝕄)
      ⊢ (Rd P A).payload (cell c 2 g p) 0 (0 : Fin 16) := by
  rw [payload_cell]
  show _ ⊢ agPts c g c (leaf 4 fullShare p) A
  unfold agPts
  rw [set_slab3 ho]

/-- The start of the first exchange's copy to the device at distance `d`. -/
theorem rs_step {O : CellTallies nD τ sig Unit} (g : Fin 2) (d : ℕ) (hd : 1 ≤ d ∧ d < 16) {n : Dev nD} (hn : n = pe c d)
    {off off' inb inb'} (ho : off = ![256 * g.val + 16 * (pe c d).val, 0]) (ho' : off' = ![256 * g.val + 16 * c.val, 0])
    {s s' : DmaSem sig} (hs : s = dsm 0 g (pe c d)) (hs' : s' = dsm 1 g c)
    {hsc : (slabV off' inb' rsM : Memref sig (Dev.tc n : Thread nD τ).2.kind .vmem S16x1024 .bf16).view.ref.isScScratch = false}
    {hsrc : (slabV off inb partM).view.WordExact} {hdst : (slabV off' inb' rsM).view.WordExact}
    {hsem : DmaTarget.Typed .vmem (.dma s') (.remote (Dev.tc n : Thread nD τ) (slabV off' inb' rsM) (.dma s) hsc)}
    (h : St P A K c (rsS P g c (d + 1)) (O + oD 1 g c (d + 1)) R ⊢ wp frame (wpE (defs₀ (F := F)) 𝒱₀ (c : Thread nD τ) none) Set.univ (k ⟨⟩) Q) :
    St P A K c (rsS P g c d) (O + oD 1 g c d) R ⊢ wp frame (wpE (defs₀ (F := F)) 𝒱₀ (c : Thread nD τ) none) Set.univ
      (.op (.enqueueDma (slabV off inb partM) (.remote (Dev.tc n : Thread nD τ) (slabV off' inb' rsM) (.dma s) hsc) (.dma s') hsrc hdst hsem) k) Q := by
  subst hn hs hs'
  have hne := pe_ne hd.1 hd.2 c
  have hd₁ : (0 : Fin 16) ∈ (Rd P A).duties (cell c 0 g (pe c d)) 0 := by rw [duties_cell P A c 0 g _ hne]; exact Finset.mem_singleton_self _
  have hd₂ : (0 : Fin 16) ∈ (Rd P A).duties (cell (pe c d) 1 g c) 0 := by rw [duties_cell P A (pe c d) 1 g _ hne.symm]; exact Finset.mem_singleton_self _
  have hO := oD_next (O := O) 1 g c hd.2
  have hsrcP : (partPts c g (pe c d) fullShare (P c) : sProp 𝕄) ⊢ ((slabV off inb partM).view.loc (c : Thread nD τ) ↦[(slabV off inb partM).view.set]{fullShare} P c : sProp 𝕄) := by
    unfold partPts; rw [set_slab1 ho]
  have hdstP (f : Cont F) : (rsPts (pe c d) g c fullShare f : sProp 𝕄) ⊢ ((slabV off' inb' rsM).view.loc (pe c d : Thread nD τ) ↦[(slabV off' inb' rsM).view.set]{fullShare} f : sProp 𝕄) := by
    unfold rsPts; rw [set_slab2 ho']
  have hsend (f : Cont F) (W : Waits sig Unit) :=
    Rounds.wp_send_pointsTo 𝒱₀ ER (Rd P A) (c : Thread nD τ) none (src := slabV off inb partM) (c' := (Dev.tc (pe c d) : Thread nD τ)) (dst := slabV off' inb' rsM)
      (sS := .dma (dsm 0 g (pe c d))) (sem := .dma (dsm 1 g c)) (hsc := hsc) (hsrc := hsrc) (hdst := hdst) (hsem := hsem) (k := k) (Q := Q)
      (q := fullShare) (fs := P c) (Γ := PendingWaitsCtx.empty) (defs := defs₀ (F := F)) (Es := Set.univ) (κ₁ := K (c, some (0, g, pe c d))) (κ₂ := K (pe c d, some (1, g, c)))
      (r₁ := 0) (r₂ := 0) (d₁ := (0 : Fin 16)) (d₂ := (0 : Fin 16)) (fd := f) hd₁ hd₂ () () N rfl
      (amount_cell P A c 0 g _ _) (amount_cell P A (pe c d) 1 g _ _) (O + oD 1 g c (d + 1)) hO (W := W)
      (rs_leave P A ho) (rs_arrive P A ho ho' f)
  unfold St
  unfold rsS owesE
  rw [bigSep_Ico_succ_bot hd.2]
  iintro ⟨#Hr, ⟨⟨⟨Ht1, Ht2, Hs, ⟨%f, Hd⟩⟩, HA⟩, HB⟩, ⟨%W, HO⟩, HR⟩
  iapply (hsend f W) $$ [Ht1 Ht2 Hs Hd HO]
  · isplitr; · iapply (rec_inv P A K (c, some (0, g, pe c d))); iexact Hr
    isplitr; · iapply (rec_inv P A K (pe c d, some (1, g, c))); iexact Hr
    isplitl [Hs]; · iapply hsrcP; iexact Hs
    isplitl [Hd]; · iapply (hdstP f); iexact Hd
    isplitl [HO]; · iexact HO
    isplitl [Ht1]; · iexact Ht1
    isplitr; · iapply (rec_reached P A K (c, some (0, g, pe c d))); iexact Hr
    isplitl [Ht2]; · iexact Ht2
    iapply (rec_reached P A K (pe c d, some (1, g, c))); iexact Hr
  iintro ⟨Hc, HO⟩
  iapply h
  unfold St
  unfold rsS owesE
  rw [bigSep_Ico_succ_top hd.1]
  isplitr; · iexact Hr
  isplitl [HA HB Hc]
  · isplitl [HA]; · iexact HA
    isplitl [Hc]; · iexact Hc
    iexact HB
  isplitl [HO]; · iexists _; iexact HO
  iexact HR

/-- The start of the second exchange's copy to the device at distance `d`. -/
theorem ag_step {O : CellTallies nD τ sig Unit} (g : Fin 2) (d : ℕ) (hd : 1 ≤ d ∧ d < 16) {n : Dev nD} (hn : n = pe c d)
    {off off' inb inb'} (ho : off = ![256 * g.val + 16 * c.val, 0]) (ho' : off' = ![256 * g.val + 16 * c.val, 0])
    {s s' : DmaSem sig} (hs : s = dsm 2 g (pe c d)) (hs' : s' = dsm 3 g c)
    {hsc : (slabV off' inb' agM : Memref sig (Dev.tc n : Thread nD τ).2.kind .vmem S16x1024 .bf16).view.ref.isScScratch = false}
    {hsrc : (slabV off inb agM).view.WordExact} {hdst : (slabV off' inb' agM).view.WordExact}
    {hsem : DmaTarget.Typed .vmem (.dma s') (.remote (Dev.tc n : Thread nD τ) (slabV off' inb' agM) (.dma s) hsc)}
    (h : St P A K c (agS A g c (d + 1)) (O + oD 3 g c (d + 1)) R ⊢ wp frame (wpE (defs₀ (F := F)) 𝒱₀ (c : Thread nD τ) none) Set.univ (k ⟨⟩) Q) :
    St P A K c (agS A g c d) (O + oD 3 g c d) R ⊢ wp frame (wpE (defs₀ (F := F)) 𝒱₀ (c : Thread nD τ) none) Set.univ
      (.op (.enqueueDma (slabV off inb agM) (.remote (Dev.tc n : Thread nD τ) (slabV off' inb' agM) (.dma s) hsc) (.dma s') hsrc hdst hsem) k) Q := by
  subst hn hs hs'
  have hne := pe_ne hd.1 hd.2 c
  have hd₁ : (0 : Fin 16) ∈ (Rd P A).duties (cell c 2 g (pe c d)) 0 := by rw [duties_cell P A c 2 g _ hne]; exact Finset.mem_singleton_self _
  have hd₂ : (0 : Fin 16) ∈ (Rd P A).duties (cell (pe c d) 3 g c) 0 := by rw [duties_cell P A (pe c d) 3 g _ hne.symm]; exact Finset.mem_singleton_self _
  have hO := oD_next (O := O) 3 g c hd.2
  have hsrcP : (agPts c g c (leaf 4 fullShare (pe c d)) A : sProp 𝕄) ⊢ ((slabV off inb agM).view.loc (c : Thread nD τ) ↦[(slabV off inb agM).view.set]{leaf 4 fullShare (pe c d)} A : sProp 𝕄) := by
    unfold agPts; rw [set_slab3 ho]
  have hdstP (f : Cont F) : (agPts (pe c d) g c fullShare f : sProp 𝕄) ⊢ ((slabV off' inb' agM).view.loc (pe c d : Thread nD τ) ↦[(slabV off' inb' agM).view.set]{fullShare} f : sProp 𝕄) := by
    unfold agPts; rw [set_slab3 ho']
  have hsend (f : Cont F) (W : Waits sig Unit) :=
    Rounds.wp_send_pointsTo 𝒱₀ ER (Rd P A) (c : Thread nD τ) none (src := slabV off inb agM) (c' := (Dev.tc (pe c d) : Thread nD τ)) (dst := slabV off' inb' agM)
      (sS := .dma (dsm 2 g (pe c d))) (sem := .dma (dsm 3 g c)) (hsc := hsc) (hsrc := hsrc) (hdst := hdst) (hsem := hsem) (k := k) (Q := Q)
      (q := leaf 4 fullShare (pe c d)) (fs := A) (Γ := PendingWaitsCtx.empty) (defs := defs₀ (F := F)) (Es := Set.univ) (κ₁ := K (c, some (2, g, pe c d))) (κ₂ := K (pe c d, some (3, g, c)))
      (r₁ := 0) (r₂ := 0) (d₁ := (0 : Fin 16)) (d₂ := (0 : Fin 16)) (fd := f) hd₁ hd₂ () () N rfl
      (amount_cell P A c 2 g _ _) (amount_cell P A (pe c d) 3 g _ _) (O + oD 3 g c (d + 1)) hO (W := W)
      (ag_leave P A ho) (ag_arrive P A ho ho' f)
  unfold St
  unfold agS owesE
  rw [bigSep_Ico_succ_bot hd.2]
  iintro ⟨#Hr, ⟨⟨⟨Ht1, Ht2, Hs, ⟨%f, Hd⟩⟩, HA⟩, HB⟩, ⟨%W, HO⟩, HR⟩
  iapply (hsend f W) $$ [Ht1 Ht2 Hs Hd HO]
  · isplitr; · iapply (rec_inv P A K (c, some (2, g, pe c d))); iexact Hr
    isplitr; · iapply (rec_inv P A K (pe c d, some (3, g, c))); iexact Hr
    isplitl [Hs]; · iapply hsrcP; iexact Hs
    isplitl [Hd]; · iapply (hdstP f); iexact Hd
    isplitl [HO]; · iexact HO
    isplitl [Ht1]; · iexact Ht1
    isplitr; · iapply (rec_reached P A K (c, some (2, g, pe c d))); iexact Hr
    isplitl [Ht2]; · iexact Ht2
    iapply (rec_reached P A K (pe c d, some (3, g, c))); iexact Hr
  iintro ⟨Hc, HO⟩
  iapply h
  unfold St
  unfold agS owesE
  rw [bigSep_Ico_succ_top hd.1]
  isplitr; · iexact Hr
  isplitl [HA HB Hc]
  · isplitl [HA]; · iexact HA
    isplitl [Hc]; · iexact Hc
    iexact HB
  isplitl [HO]; · iexists _; iexact HO
  iexact HR

end Steps

end Cert.KernelIdealProof

end
-- ==== Proof.KernelIdealCont.lean ====
/-
# What a device computes

The contents the run goes through, as functions of the arrays the devices start with: the attention of one group of rows,
the partial product, the sum of the sixteen partial products, and the result. The kernel writes them with the same
operations in both groups and for every head, so each is stated once and shown to be what each of the kernel's stores writes.

The last part relates a rectangle of one of the arrays with 512 rows to these functions: what a load of it reads and what the array
holds after it was stored to.
-/
module

public import proofs.«01_k».proof.Proof.KernelIdealProto
public import Idealize.ShloMosaic.Lib.ValueIdx

@[expose] public section

noncomputable section

namespace Cert.KernelIdealProof

open Cert.KernelIdeal Cert.KernelIdeal.Gen

open Idealize.ShloMosaic
open Idealize.ShloMosaic.TcCoe

variable {F : FTy → Type} [FloatOps F]

/-- The arrays one device reads: the activations and its slices of the four weights. -/
structure Ins (F : FTy → Type) where
  x : Vec F S1x512x1024 .f32
  wq : Vec F S1024x1024 .f32
  wo : Vec F S1024x1024 .f32
  wk : Vec F S1024x1024 .f32
  wv : Vec F S1024x1024 .f32

/-! ## The contents -/

/-- A head's 128 columns lie within the queries' columns, -/
theorem slices_q (j : Fin 8) : S256x1024.Slices ![0, 128 * j.val] S256x128 := by revert j; decide
/-- and within those of the keys and values. -/
theorem slices_kv (j : Fin 8) : S512x1024.Slices ![0, 128 * j.val] S512x128 := by revert j; decide

/-- The attention of head `j` over 256 query rows, from queries, keys and values of all heads. -/
def headV (q : FVec F S256x1024 .f32) (k v : FVec F S512x1024 .f32) (j : Fin 8) : FVec F S256x128 .f32 :=
  k0_pay12 (extractStridedSlice S256x128 ![0, 128 * j.val] q (slices_q j)) (extractStridedSlice S512x128 ![0, 128 * j.val] k (slices_kv j))
    (extractStridedSlice S512x128 ![0, 128 * j.val] v (slices_kv j)) (constant S256x512 .f32 0x00000000#32)

/-- The heads side by side. -/
def attnV (q : FVec F S256x1024 .f32) (k v : FVec F S512x1024 .f32) : FVec F S256x1024 .f32 := fun i =>
  headV q k v ⟨(i (1 : Fin 2)).val / 128, by have h : (i (1 : Fin 2)).val < 1024 := (i (1 : Fin 2)).isLt; omega⟩
    (ValueIdx.ix2 (i (0 : Fin 2)) ⟨(i (1 : Fin 2)).val % 128, Nat.mod_lt _ (by decide)⟩)

namespace Ins
variable (I : Ins F)

/-- The device's queries of group `g`, its keys and its values. -/
def q (g : Fin 2) : FVec F S256x1024 .f32 := match g with
  | 0 => k0_pay4 I.x I.wq
  | 1 => k0_pay26 (k0_pay25 (k0_pay1 I.x)) I.wq
def k : FVec F S512x1024 .f32 := k0_pay2 I.x I.wk
def v : FVec F S512x1024 .f32 := k0_pay3 I.x I.wv
def head (g : Fin 2) (j : Fin 8) : FVec F S256x128 .f32 := headV (I.q g) I.k I.v j
def attn (g : Fin 2) : FVec F S256x1024 .f32 := attnV (I.q g) I.k I.v
/-- The device's partial product over group `g`. -/
def prod (g : Fin 2) : FVec F S256x1024 .bf16 := k0_pay23 (I.attn g) I.wo

/-- A row's place within its group. -/
theorem local_lt (i : S512x1024.Idx) : row i % 256 < 256 := Nat.mod_lt _ (by decide)

/-- What the device ends with in `part`. -/
def part : Cont F := fun i => I.prod (grpOf i) (ValueIdx.ix2 ⟨row i % 256, local_lt i⟩ (i (1 : Fin 2)))
end Ins

/-- The sixteen rows of slab `p` of group `g`. -/
def slabRow (f : Cont F) (g : Fin 2) (p : Dev nD) : FVec F S16x1024 .bf16 := fun j =>
  f (ValueIdx.ix2 (⟨256 * g.val + 16 * p.val + (j (0 : Fin 2)).val, by
    have := g.isLt; have hp : p.val < 16 := p.isLt; have hj : (j (0 : Fin 2)).val < 16 := (j (0 : Fin 2)).isLt; omega⟩ : Fin 512) (j (1 : Fin 2)))

/-- The sum of sixteen slabs, in the order of the devices. -/
def sumV (s : Dev nD → Vec F S16x1024 .bf16) : FVec F S16x1024 .bf16 :=
  k0_pay43 (k0_pay42 (s 0) (s 1) (s 2) (s 3) (s 4) (s 5) (s 6) (s 7)) (s 8) (s 9) (s 10) (s 11) (s 12) (s 13) (s 14) (s 15)

variable (I : Dev nD → Ins F)

/-- What every device has in its `part`. -/
abbrev PF : Dev nD → Cont F := fun c => (I c).part

/-- What every device ends with in `ag`: slab `c` is what device `c` summed. -/
def AF : Cont F := fun i => sumV (fun p => slabRow (rsF (PF I) (slabOf i)) (grpOf i) p) (ValueIdx.ix2 ⟨row i % 16, Nat.mod_lt _ (by decide)⟩ (i (1 : Fin 2)))

/-- The result. -/
def outF : FVec F S1x512x1024 .f32 := k0_pay47 (AF I)

/-! ## The kernel's stores write them -/

section Writes
variable (J : Ins F)

/-- Head 0 of the first group, as the program composes it. -/
theorem head00 : k0_pay6 (k0_pay5 J.x J.wk J.wv J.wq) = J.head 0 0 := rfl
/-- Head 1 of the first group, as the program composes it. -/
theorem head01 : k0_pay7 (k0_pay2 J.x J.wk) (k0_pay3 J.x J.wv) (k0_pay4 J.x J.wq) = J.head 0 1 := rfl
/-- Head 2 of the first group, as the program composes it. -/
theorem head02 : k0_pay8 (k0_pay2 J.x J.wk) (k0_pay3 J.x J.wv) (k0_pay4 J.x J.wq) = J.head 0 2 := rfl
/-- Head 3 of the first group, as the program composes it. -/
theorem head03 : k0_pay12 (k0_pay9 (k0_pay4 J.x J.wq)) (k0_pay10 (k0_pay2 J.x J.wk)) (k0_pay11 (k0_pay3 J.x J.wv)) (constant S256x512 .f32 0x00000000#32) = J.head 0 3 := rfl
/-- Head 4 of the first group, as the program composes it. -/
theorem head04 : k0_pay13 (k0_pay2 J.x J.wk) (k0_pay3 J.x J.wv) (k0_pay4 J.x J.wq) = J.head 0 4 := rfl
/-- Head 5 of the first group, as the program composes it. -/
theorem head05 : k0_pay17 (k0_pay14 (k0_pay3 J.x J.wv)) (k0_pay15 (k0_pay2 J.x J.wk) (k0_pay4 J.x J.wq)) (k0_pay16 (k0_pay2 J.x J.wk) (k0_pay4 J.x J.wq)) = J.head 0 5 := rfl
/-- Head 6 of the first group, as the program composes it. -/
theorem head06 : k0_pay18 (k0_pay2 J.x J.wk) (k0_pay3 J.x J.wv) (k0_pay4 J.x J.wq) = J.head 0 6 := rfl
/-- Head 7 of the first group, as the program composes it. -/
theorem head07 : k0_pay22 (k0_pay19 (k0_pay3 J.x J.wv)) (k0_pay20 (k0_pay2 J.x J.wk) (k0_pay4 J.x J.wq)) (k0_pay21 (k0_pay2 J.x J.wk) (k0_pay4 J.x J.wq)) = J.head 0 7 := rfl

/-- Head 0 of the second group, as the program composes it. -/
theorem head10 : k0_pay27 (k0_pay2 J.x J.wk) (k0_pay3 J.x J.wv) (k0_pay25 (k0_pay1 J.x)) J.wq = J.head 1 0 := rfl
/-- Head 1 of the second group, as the program composes it. -/
theorem head11 : k0_pay28 (k0_pay2 J.x J.wk) (k0_pay3 J.x J.wv) (k0_pay25 (k0_pay1 J.x)) J.wq = J.head 1 1 := rfl
/-- Head 2 of the second group, as the program composes it. -/
theorem head12 : k0_pay29 (k0_pay2 J.x J.wk) (k0_pay3 J.x J.wv) (k0_pay26 (k0_pay25 (k0_pay1 J.x)) J.wq) = J.head 1 2 := rfl
/-- Head 3 of the second group, as the program composes it. -/
theorem head13 : k0_pay30 (k0_pay2 J.x J.wk) (k0_pay3 J.x J.wv) (k0_pay26 (k0_pay25 (k0_pay1 J.x)) J.wq) = J.head 1 3 := rfl
/-- Head 4 of the second group, as the program composes it. -/
theorem head14 : k0_pay33 (k0_pay31 (k0_pay3 J.x J.wv)) (k0_pay32 (k0_pay2 J.x J.wk) (k0_pay26 (k0_pay25 (k0_pay1 J.x)) J.wq)) (Scalar.ofBits .f32 0x3DB504F3#32) = J.head 1 4 := rfl
/-- Head 5 of the second group, as the program composes it. -/
theorem head15 : k0_pay34 (k0_pay2 J.x J.wk) (k0_pay3 J.x J.wv) (k0_pay26 (k0_pay25 (k0_pay1 J.x)) J.wq) = J.head 1 5 := rfl
/-- Head 6 of the second group, as the program composes it. -/
theorem head16 : k0_pay38 (k0_pay35 (k0_pay3 J.x J.wv)) (k0_pay36 (k0_pay2 J.x J.wk) (k0_pay26 (k0_pay25 (k0_pay1 J.x)) J.wq)) (k0_pay37 (k0_pay2 J.x J.wk) (k0_pay26 (k0_pay25 (k0_pay1 J.x)) J.wq)) = J.head 1 6 := rfl
/-- Head 7 of the second group, as the program composes it. -/
theorem head17 : k0_pay39 (k0_pay2 J.x J.wk) (k0_pay3 J.x J.wv) (k0_pay26 (k0_pay25 (k0_pay1 J.x)) J.wq) = J.head 1 7 := rfl

/-- The second group's partial product, as the program composes it. -/
theorem prod_of_attn1 : k0_pay40 (J.attn 1) J.wo = J.prod 1 := rfl
/-- The sum of sixteen slabs, as the program composes it. -/
theorem sum_of_parts (s : Dev nD → Vec F S16x1024 .bf16) :
    k0_pay46 (k0_pay45 (k0_pay44 (s 0) (s 1)) (s 2) (s 3) (s 4) (s 5) (s 6) (s 7) (s 8) (s 9) (s 10) (s 11) (s 12) (s 13)) (s 14) (s 15) = sumV s := rfl
end Writes

/-! ## Rectangles of an array with 512 rows -/

/-- The column of an index. -/
abbrev col (i : S512x1024.Idx) : ℕ := (i (1 : Fin 2)).val
/-- An array has 1024 columns. -/
theorem col_lt (i : S512x1024.Idx) : col i < 1024 := (i (1 : Fin 2)).isLt

/-- An index lies in a box exactly when its row and its column lie in the box's ranges. -/
theorem mem_box {off sz : Fin 2 → ℕ} {inb : ∀ a, off a + sz a ≤ S512x1024.size a} (i : S512x1024.Idx) :
    i ∈ (Rect.unit (s := S512x1024) off sz inb).set ↔ (off 0 ≤ row i ∧ row i < off 0 + sz 0) ∧ (off 1 ≤ col i ∧ col i < off 1 + sz 1) := by
  rw [LoadRect.mem_set]
  constructor
  · intro h
    obtain ⟨j, hj, he⟩ := h (0 : Fin 2)
    obtain ⟨l, hl, hf⟩ := h (1 : Fin 2)
    have hj' : j < sz 0 := hj
    have he' : row i = off 0 + 1 * j := he
    have hl' : l < sz 1 := hl
    have hf' : col i = off 1 + 1 * l := hf
    omega
  · rintro ⟨⟨h1, h2⟩, h3, h4⟩ a
    match a with
    | ⟨0, _⟩ => exact ⟨row i - off 0, show _ < sz 0 by omega, show row i = off 0 + 1 * (row i - off 0) by omega⟩
    | ⟨1, _⟩ => exact ⟨col i - off 1, show _ < sz 1 by omega, show col i = off 1 + 1 * (col i - off 1) by omega⟩

section Boxes
variable {off sz : Fin 2 → ℕ} {inb : ∀ a, off a + sz a ≤ S512x1024.size a}

/-- An index of the array, from one of the rectangle. -/
abbrev boxIdx (j : (Rect.unit (s := S512x1024) off sz inb).shape.Idx) : S512x1024.Idx := ValueIdx.ix2
  (⟨off 0 + (j (0 : Fin 2)).val, by have h : (j (0 : Fin 2)).val < sz 0 := (j (0 : Fin 2)).isLt; have h2 : off 0 + sz 0 ≤ 512 := inb 0; omega⟩ : Fin 512)
  (⟨off 1 + (j (1 : Fin 2)).val, by have h : (j (1 : Fin 2)).val < sz 1 := (j (1 : Fin 2)).isLt; have h2 : off 1 + sz 1 ≤ 1024 := inb 1; omega⟩ : Fin 1024)

/-- An index is known by its row and column. -/
theorem idx_ext {i i' : S512x1024.Idx} (h0 : row i = row i') (h1 : col i = col i') : i = i' := by
  funext a
  match a with
  | ⟨0, _⟩ => exact Fin.ext h0
  | ⟨1, _⟩ => exact Fin.ext h1

/-- Where an index of a box lies in the array: in the array of the heads, -/
theorem emb_attn (j : (Rect.unit (s := S512x1024) off sz inb).shape.Idx) : (attnM.access (Rect.unit (s := S512x1024) off sz inb)).emb j = boxIdx j :=
  idx_ext (ValueKit.view_emb_slice_whole_unit_val cc0_scratch0 _ _ _ j (0 : Fin 2)) (ValueKit.view_emb_slice_whole_unit_val cc0_scratch0 _ _ _ j (1 : Fin 2))
/-- in `part`, -/
theorem emb_part (j : (Rect.unit (s := S512x1024) off sz inb).shape.Idx) : (partM.access (Rect.unit (s := S512x1024) off sz inb)).emb j = boxIdx j :=
  idx_ext (ValueKit.view_emb_slice_whole_unit_val cc0_scratch1 _ _ _ j (0 : Fin 2)) (ValueKit.view_emb_slice_whole_unit_val cc0_scratch1 _ _ _ j (1 : Fin 2))
/-- in `rs`, -/
theorem emb_rs (j : (Rect.unit (s := S512x1024) off sz inb).shape.Idx) : (rsM.access (Rect.unit (s := S512x1024) off sz inb)).emb j = boxIdx j :=
  idx_ext (ValueKit.view_emb_slice_whole_unit_val cc0_scratch2 _ _ _ j (0 : Fin 2)) (ValueKit.view_emb_slice_whole_unit_val cc0_scratch2 _ _ _ j (1 : Fin 2))
/-- and in `ag`. -/
theorem emb_ag (j : (Rect.unit (s := S512x1024) off sz inb).shape.Idx) : (agM.access (Rect.unit (s := S512x1024) off sz inb)).emb j = boxIdx j :=
  idx_ext (ValueKit.view_emb_slice_whole_unit_val cc0_scratch3 _ _ _ j (0 : Fin 2)) (ValueKit.view_emb_slice_whole_unit_val cc0_scratch3 _ _ _ j (1 : Fin 2))

/-- The indices that a box covers: of the array of the heads, -/
theorem set_attn : (attnM.access (Rect.unit (s := S512x1024) off sz inb)).set = (Rect.unit (s := S512x1024) off sz inb).set :=
  Finset.ext fun i => ValueKit.mem_set_slice_whole_iff cc0_scratch0 _ i Iff.rfl
/-- of `part`, -/
theorem set_part : (partM.access (Rect.unit (s := S512x1024) off sz inb)).set = (Rect.unit (s := S512x1024) off sz inb).set :=
  Finset.ext fun i => ValueKit.mem_set_slice_whole_iff cc0_scratch1 _ i Iff.rfl
/-- of `rs`, -/
theorem set_rs : (rsM.access (Rect.unit (s := S512x1024) off sz inb)).set = (Rect.unit (s := S512x1024) off sz inb).set :=
  Finset.ext fun i => ValueKit.mem_set_slice_whole_iff cc0_scratch2 _ i Iff.rfl
/-- and of `ag`. -/
theorem set_ag : (agM.access (Rect.unit (s := S512x1024) off sz inb)).set = (Rect.unit (s := S512x1024) off sz inb).set :=
  Finset.ext fun i => ValueKit.mem_set_slice_whole_iff cc0_scratch3 _ i Iff.rfl
end Boxes

/-! ### The attention array -/

/-- The first `n` heads of group `g` are in the array. -/
def Good (J : Ins F) (g : Fin 2) (n : ℕ) (f : S512x1024.Idx → Elt F .f32) : Prop :=
  ∀ i : S512x1024.Idx, row i / 256 = g.val → col i < 128 * n →
    f i = J.attn g (ValueIdx.ix2 ⟨row i % 256, Ins.local_lt i⟩ (i (1 : Fin 2)))

/-- Before the first head nothing is asked of the array. -/
theorem good_zero (J : Ins F) (g : Fin 2) (f) : Good J g 0 f := fun i _ h => absurd h (by omega)

/-- Storing head `j` after the heads before it: the array then holds the heads up to `j`. -/
theorem good_store (J : Ins F) (g : Fin 2) (j : Fin 8) {f} (hf : Good J g j.val f) {off inb} (ho : off = ![256 * g.val, 128 * j.val]) :
    Good J g (j.val + 1) ((attnM.access (Rect.unit (s := S512x1024) off S256x128.size inb)).write (Elt F) f (J.head g j) Finset.univ) := by
  subst ho
  intro i hi hc
  by_cases h : i ∈ (attnM.access (Rect.unit (s := S512x1024) ![256 * g.val, 128 * j.val] S256x128.size inb)).set
  · obtain ⟨y, -, rfl⟩ := Finset.mem_map.mp h
    rw [View.write_emb_of_mem (h := Finset.mem_univ y)]
    rw [emb_attn]
    have h0 : (y (0 : Fin 2)).val < 256 := (y (0 : Fin 2)).isLt
    have h1 : (y (1 : Fin 2)).val < 128 := (y (1 : Fin 2)).isLt
    show J.head g j y = headV _ _ _ _ _
    unfold Ins.head
    congr 1
    · refine Fin.ext ?_
      show j.val = (128 * j.val + (y (1 : Fin 2)).val) / 128
      omega
    · funext a
      match a with
      | ⟨0, _⟩ => exact Fin.ext (show (y (0 : Fin 2)).val = (256 * g.val + (y (0 : Fin 2)).val) % 256 by omega)
      | ⟨1, _⟩ => exact Fin.ext (show (y (1 : Fin 2)).val = (128 * j.val + (y (1 : Fin 2)).val) % 128 by omega)
  · rw [View.write_of_not_mem (h := by rw [View.setOn_univ]; exact h)]
    rw [set_attn, mem_box] at h
    have h2 := row_lt i
    refine hf i hi ?_
    by_contra hlt
    exact h ⟨⟨show 256 * g.val ≤ _ by omega, show _ < 256 * g.val + 256 by omega⟩, show 128 * j.val ≤ _ by omega, show _ < 128 * j.val + 128 by omega⟩

/-- With all eight heads stored, the group's rows read as the attention. -/
theorem good_read (J : Ins F) (g : Fin 2) {f} (hf : Good J g 8 f) {off inb} (ho : off = ![256 * g.val, 0]) :
    attnM.view.readAt (Elt F) (Rect.unit (s := S512x1024) off S256x1024.size inb).toLoadRect f = J.attn g := by
  subst ho
  funext j
  show f ((attnM.access (Rect.unit (s := S512x1024) ![256 * g.val, 0] S256x1024.size inb)).emb j) = _
  have h0 : (j (0 : Fin 2)).val < 256 := (j (0 : Fin 2)).isLt
  have h1 : (j (1 : Fin 2)).val < 1024 := (j (1 : Fin 2)).isLt
  rw [emb_attn, hf _ (show (256 * g.val + (j (0 : Fin 2)).val) / 256 = g.val by omega) (show 0 + (j (1 : Fin 2)).val < 128 * 8 by omega)]
  refine congrArg _ (funext fun a => ?_)
  match a with
  | ⟨0, _⟩ => exact Fin.ext (show (256 * g.val + (j (0 : Fin 2)).val) % 256 = (j (0 : Fin 2)).val by omega)
  | ⟨1, _⟩ => exact Fin.ext (show 0 + (j (1 : Fin 2)).val = (j (1 : Fin 2)).val by omega)

/-! ### The other arrays -/

/-- The box of a group's 256 rows covers the group. -/
theorem half_box {g : Fin 2} {inb} (i : S512x1024.Idx) : i ∈ (Rect.unit (s := S512x1024) ![256 * g.val, 0] S256x1024.size inb).set ↔ i ∈ half g := by
  rw [mem_box, mem_half]
  have := col_lt i
  show (256 * g.val ≤ row i ∧ row i < 256 * g.val + 256) ∧ (0 ≤ col i ∧ col i < 0 + 1024) ↔ _
  omega

/-- Storing a group's product leaves `part` with its contents there. -/
theorem part_store (J : Ins F) (g : Fin 2) (f : Cont F) {off inb} (ho : off = ![256 * g.val, 0]) (i : S512x1024.Idx) (hi : i ∈ half g) :
    (partM.access (Rect.unit (s := S512x1024) off S256x1024.size inb)).write (Elt F) f (J.prod g) Finset.univ i = J.part i := by
  subst ho
  rw [← half_box (inb := inb), ← set_part] at hi
  obtain ⟨y, -, rfl⟩ := Finset.mem_map.mp hi
  rw [View.write_emb_of_mem (h := Finset.mem_univ y), emb_part]
  have h0 : (y (0 : Fin 2)).val < 256 := (y (0 : Fin 2)).isLt
  show J.prod g y = J.prod _ _
  congr 1
  · exact Fin.ext (show g.val = (256 * g.val + (y (0 : Fin 2)).val) / 256 by omega)
  · funext a
    match a with
    | ⟨0, _⟩ => exact Fin.ext (show (y (0 : Fin 2)).val = (256 * g.val + (y (0 : Fin 2)).val) % 256 by omega)
    | ⟨1, _⟩ => exact Fin.ext (show (y (1 : Fin 2)).val = 0 + (y (1 : Fin 2)).val by omega)

/-- An array at the box of a slab's rows is that slab. -/
theorem slabRow_box {g : Fin 2} {p : Dev nD} {inb} (j : S16x1024.Idx) (f : Cont F) :
    f (boxIdx (off := ![256 * g.val + 16 * p.val, 0]) (sz := S16x1024.size) (inb := inb) j) = slabRow f g p j :=
  congrArg f (idx_ext rfl (show 0 + (j (1 : Fin 2)).val = (j (1 : Fin 2)).val by omega))

/-- Loading a slab's rows of `part` gives the slab, -/
theorem part_read (f : Cont F) {g : Fin 2} {p : Dev nD} {off inb} (ho : off = ![256 * g.val + 16 * p.val, 0]) :
    partM.view.readAt (Elt F) (Rect.unit (s := S512x1024) off S16x1024.size inb).toLoadRect f = slabRow f g p := by
  subst ho; funext j
  show f ((partM.access (Rect.unit (s := S512x1024) ![256 * g.val + 16 * p.val, 0] S16x1024.size inb)).emb j) = _
  rw [emb_part]; exact slabRow_box j f

/-- and of `rs`. -/
theorem rs_read (f : Cont F) {g : Fin 2} {p : Dev nD} {off inb} (ho : off = ![256 * g.val + 16 * p.val, 0]) :
    rsM.view.readAt (Elt F) (Rect.unit (s := S512x1024) off S16x1024.size inb).toLoadRect f = slabRow f g p := by
  subst ho; funext j
  show f ((rsM.access (Rect.unit (s := S512x1024) ![256 * g.val + 16 * p.val, 0] S16x1024.size inb)).emb j) = _
  rw [emb_rs]; exact slabRow_box j f

/-- A device's own slab, copied from `part` to `rs`. -/
theorem rs_store (P : Dev nD → Cont F) {g : Fin 2} {c : Dev nD} (f : Cont F) {off inb} (ho : off = ![256 * g.val + 16 * c.val, 0]) (i : S512x1024.Idx) (hi : i ∈ slab g c) :
    (rsM.access (Rect.unit (s := S512x1024) off S16x1024.size inb)).write (Elt F) f (slabRow (P c) g c) Finset.univ i = rsF P c i := by
  have h : i ∈ (rsM.access (Rect.unit (s := S512x1024) off S16x1024.size inb)).set := by
    rw [set_rs, mem_box]; subst ho
    rw [mem_slab] at hi
    have := col_lt i; have hc : c.val < 16 := c.isLt
    show (256 * g.val + 16 * c.val ≤ row i ∧ row i < 256 * g.val + 16 * c.val + 16) ∧ (0 ≤ col i ∧ col i < 0 + 1024)
    omega
  subst ho
  obtain ⟨y, -, rfl⟩ := Finset.mem_map.mp h
  rw [View.write_emb_of_mem (h := Finset.mem_univ y), emb_rs]
  have h0 : (y (0 : Fin 2)).val < 16 := (y (0 : Fin 2)).isLt
  have hc : c.val < 16 := c.isLt
  show slabRow (P c) g c y = P (slabOf _) (toSlab c _)
  rw [show slabOf (boxIdx y) = c from Fin.ext (show (256 * g.val + 16 * c.val + (y (0 : Fin 2)).val) / 16 % 16 = c.val by omega)]
  refine congrArg (P c) (idx_ext ?_ ?_)
  · rw [row_toSlab]
    show 256 * g.val + 16 * c.val + (y (0 : Fin 2)).val = 256 * ((256 * g.val + 16 * c.val + (y (0 : Fin 2)).val) / 256) + 16 * c.val + (256 * g.val + 16 * c.val + (y (0 : Fin 2)).val) % 16
    omega
  · rw [show col (toSlab c (boxIdx y)) = col (boxIdx y) from congrArg Fin.val (toSlab_one c _)]
    show (y (1 : Fin 2)).val = 0 + (y (1 : Fin 2)).val
    omega

/-- A device's own slab of `ag`, after the sum is stored. -/
theorem ag_store {g : Fin 2} {c : Dev nD} (f : Cont F) {off inb} (ho : off = ![256 * g.val + 16 * c.val, 0]) (i : S512x1024.Idx) (hi : i ∈ slab g c) :
    (agM.access (Rect.unit (s := S512x1024) off S16x1024.size inb)).write (Elt F) f (sumV fun p => slabRow (rsF (PF I) c) g p) Finset.univ i = AF I i := by
  have h : i ∈ (agM.access (Rect.unit (s := S512x1024) off S16x1024.size inb)).set := by
    rw [set_ag, mem_box]; subst ho
    rw [mem_slab] at hi
    have := col_lt i; have hc : c.val < 16 := c.isLt
    show (256 * g.val + 16 * c.val ≤ row i ∧ row i < 256 * g.val + 16 * c.val + 16) ∧ (0 ≤ col i ∧ col i < 0 + 1024)
    omega
  subst ho
  obtain ⟨y, -, rfl⟩ := Finset.mem_map.mp h
  rw [View.write_emb_of_mem (h := Finset.mem_univ y), emb_ag]
  have h0 : (y (0 : Fin 2)).val < 16 := (y (0 : Fin 2)).isLt
  have hc : c.val < 16 := c.isLt
  show sumV (fun p => slabRow (rsF (PF I) c) g p) y = sumV (fun p => slabRow (rsF (PF I) (slabOf _)) (grpOf _) p) _
  rw [show slabOf (boxIdx y) = c from Fin.ext (show (256 * g.val + 16 * c.val + (y (0 : Fin 2)).val) / 16 % 16 = c.val by omega),
    show grpOf (boxIdx y) = g from Fin.ext (show (256 * g.val + 16 * c.val + (y (0 : Fin 2)).val) / 256 = g.val by omega)]
  refine congrArg _ (funext fun a => ?_)
  match a with
  | ⟨0, _⟩ => exact Fin.ext (show (y (0 : Fin 2)).val = (256 * g.val + 16 * c.val + (y (0 : Fin 2)).val) % 16 by omega)
  | ⟨1, _⟩ => exact Fin.ext (show (y (1 : Fin 2)).val = 0 + (y (1 : Fin 2)).val by omega)

end Cert.KernelIdealProof
-- ==== Proof.KernelIdealMem.lean ====
/-
# One load or store

The loads and stores of the kernel, each as a step from what the device holds to what it holds afterwards: of the staged
arrays, of the attention array head by head, of the partial product, of the slabs that are summed, and of the result.
-/
module

public import proofs.«01_k».proof.Proof.KernelIdealSteps
public import proofs.«01_k».proof.Proof.KernelIdealCont

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

/-- The corner of an array of two axes, -/
theorem zero2 : (![0, 0] : Fin 2 → ℕ) = fun _ => 0 := by decide
/-- and of three. -/
theorem zero3 : (![0, 0, 0] : Fin 3 → ℕ) = fun _ => 0 := by decide

/-- The staged inputs. -/
def Stg (J : Ins F) (c : Dev nD) : sProp 𝕄 :=
  iprop((((c : Thread nD τ).loc cc0_stg0_0) ↦{fullShare} J.x) ∗ (((c : Thread nD τ).loc cc0_stg1_0) ↦{fullShare} J.wq)
    ∗ (((c : Thread nD τ).loc cc0_stg2_0) ↦{fullShare} J.wo) ∗ (((c : Thread nD τ).loc cc0_stg3_0) ↦{fullShare} J.wk)
    ∗ (((c : Thread nD τ).loc cc0_stg4_0) ↦{fullShare} J.wv))

/-- The attention array with the first `n` heads of group `g` in it. -/
def attnS (J : Ins F) (c : Dev nD) (g : Fin 2) (n : ℕ) : sProp 𝕄 :=
  iprop(∃ f, ⌜Good J g n f⌝ ∗ (((c : Thread nD τ).loc cc0_scratch0) ↦{fullShare} f))

/-- Group `g` of an array. -/
def partHalf (c : Dev nD) (g : Fin 2) (f : Cont F) : sProp 𝕄 := ((c : Thread nD τ).loc cc0_scratch1) ↦[half g]{fullShare} f
def rsHalf (c : Dev nD) (g : Fin 2) (f : Cont F) : sProp 𝕄 := ((c : Thread nD τ).loc cc0_scratch2) ↦[half g]{fullShare} f

variable (P : Dev nD → Cont F) (A : Cont F) (K : Dev nD × Option Key → ℕ) (J : Ins F) (c : Dev nD)
variable {B R : sProp (MT nD τ sig Unit (Elt F) ℕ UU ℕ)} {Q : PUnit → sProp (MT nD τ sig Unit (Elt F) ℕ UU ℕ)} {O : CellTallies nD τ sig Unit}

/-! ## The staged inputs -/

section Staged

/-- A load of the rows `x` gives the device's `x`; -/
theorem load_x {inb hl} {k : Vec F S1x512x1024 .f32 → Prog (TpuEff nD τ sig (Elt F) Λ₀ .tc) PUnit}
    (h : St P A K c iprop(Stg J c ∗ B) O R ⊢ wp frame (wpE (defs₀ (F := F)) 𝒱₀ (c : Thread nD τ) none) Set.univ (k J.x) Q) :
    St P A K c iprop(Stg J c ∗ B) O R ⊢ wp frame (wpE (defs₀ (F := F)) 𝒱₀ (c : Thread nD τ) none) Set.univ
      (.op (.load (Memref.whole cc0_stg0_0) (Rect.unit (s := S1x512x1024) ![0, 0, 0] S1x512x1024.size inb).toLoadRect hl) k) Q := by
  unfold St Stg at h ⊢
  iintro ⟨#Hr, ⟨⟨H0, H1, H2, H3, H4⟩, HB⟩, HO, HR⟩
  iapply (wp_load 𝒱₀ (c : Thread nD τ) none Set.univ (m := Memref.whole cc0_stg0_0) (Finset.subset_univ _)) $$ H0; iintro H0
  rw [show (Memref.whole cc0_stg0_0).view.readAt (Elt F) (Rect.unit (s := S1x512x1024) ![0, 0, 0] S1x512x1024.size inb).toLoadRect J.x = J.x
    from Memref.readAt_unit_zero (Elt F) cc0_stg0_0 zero3 inb J.x]
  iapply h
  isplitr; · iexact Hr
  iframe

/-- of the query weights, -/
theorem load_wq {inb hl} {k : Vec F S1024x1024 .f32 → Prog (TpuEff nD τ sig (Elt F) Λ₀ .tc) PUnit}
    (h : St P A K c iprop(Stg J c ∗ B) O R ⊢ wp frame (wpE (defs₀ (F := F)) 𝒱₀ (c : Thread nD τ) none) Set.univ (k J.wq) Q) :
    St P A K c iprop(Stg J c ∗ B) O R ⊢ wp frame (wpE (defs₀ (F := F)) 𝒱₀ (c : Thread nD τ) none) Set.univ
      (.op (.load (Memref.whole cc0_stg1_0) (Rect.unit (s := S1024x1024) ![0, 0] S1024x1024.size inb).toLoadRect hl) k) Q := by
  unfold St Stg at h ⊢
  iintro ⟨#Hr, ⟨⟨H0, H1, H2, H3, H4⟩, HB⟩, HO, HR⟩
  iapply (wp_load 𝒱₀ (c : Thread nD τ) none Set.univ (m := Memref.whole cc0_stg1_0) (Finset.subset_univ _)) $$ H1; iintro H1
  rw [show (Memref.whole cc0_stg1_0).view.readAt (Elt F) (Rect.unit (s := S1024x1024) ![0, 0] S1024x1024.size inb).toLoadRect J.wq = J.wq
    from Memref.readAt_unit_zero (Elt F) cc0_stg1_0 zero2 inb J.wq]
  iapply h
  isplitr; · iexact Hr
  iframe

/-- of the output weights, -/
theorem load_wo {inb hl} {k : Vec F S1024x1024 .f32 → Prog (TpuEff nD τ sig (Elt F) Λ₀ .tc) PUnit}
    (h : St P A K c iprop(Stg J c ∗ B) O R ⊢ wp frame (wpE (defs₀ (F := F)) 𝒱₀ (c : Thread nD τ) none) Set.univ (k J.wo) Q) :
    St P A K c iprop(Stg J c ∗ B) O R ⊢ wp frame (wpE (defs₀ (F := F)) 𝒱₀ (c : Thread nD τ) none) Set.univ
      (.op (.load (Memref.whole cc0_stg2_0) (Rect.unit (s := S1024x1024) ![0, 0] S1024x1024.size inb).toLoadRect hl) k) Q := by
  unfold St Stg at h ⊢
  iintro ⟨#Hr, ⟨⟨H0, H1, H2, H3, H4⟩, HB⟩, HO, HR⟩
  iapply (wp_load 𝒱₀ (c : Thread nD τ) none Set.univ (m := Memref.whole cc0_stg2_0) (Finset.subset_univ _)) $$ H2; iintro H2
  rw [show (Memref.whole cc0_stg2_0).view.readAt (Elt F) (Rect.unit (s := S1024x1024) ![0, 0] S1024x1024.size inb).toLoadRect J.wo = J.wo
    from Memref.readAt_unit_zero (Elt F) cc0_stg2_0 zero2 inb J.wo]
  iapply h
  isplitr; · iexact Hr
  iframe

/-- of the key weights, -/
theorem load_wk {inb hl} {k : Vec F S1024x1024 .f32 → Prog (TpuEff nD τ sig (Elt F) Λ₀ .tc) PUnit}
    (h : St P A K c iprop(Stg J c ∗ B) O R ⊢ wp frame (wpE (defs₀ (F := F)) 𝒱₀ (c : Thread nD τ) none) Set.univ (k J.wk) Q) :
    St P A K c iprop(Stg J c ∗ B) O R ⊢ wp frame (wpE (defs₀ (F := F)) 𝒱₀ (c : Thread nD τ) none) Set.univ
      (.op (.load (Memref.whole cc0_stg3_0) (Rect.unit (s := S1024x1024) ![0, 0] S1024x1024.size inb).toLoadRect hl) k) Q := by
  unfold St Stg at h ⊢
  iintro ⟨#Hr, ⟨⟨H0, H1, H2, H3, H4⟩, HB⟩, HO, HR⟩
  iapply (wp_load 𝒱₀ (c : Thread nD τ) none Set.univ (m := Memref.whole cc0_stg3_0) (Finset.subset_univ _)) $$ H3; iintro H3
  rw [show (Memref.whole cc0_stg3_0).view.readAt (Elt F) (Rect.unit (s := S1024x1024) ![0, 0] S1024x1024.size inb).toLoadRect J.wk = J.wk
    from Memref.readAt_unit_zero (Elt F) cc0_stg3_0 zero2 inb J.wk]
  iapply h
  isplitr; · iexact Hr
  iframe

/-- of the value weights, likewise. -/
theorem load_wv {inb hl} {k : Vec F S1024x1024 .f32 → Prog (TpuEff nD τ sig (Elt F) Λ₀ .tc) PUnit}
    (h : St P A K c iprop(Stg J c ∗ B) O R ⊢ wp frame (wpE (defs₀ (F := F)) 𝒱₀ (c : Thread nD τ) none) Set.univ (k J.wv) Q) :
    St P A K c iprop(Stg J c ∗ B) O R ⊢ wp frame (wpE (defs₀ (F := F)) 𝒱₀ (c : Thread nD τ) none) Set.univ
      (.op (.load (Memref.whole cc0_stg4_0) (Rect.unit (s := S1024x1024) ![0, 0] S1024x1024.size inb).toLoadRect hl) k) Q := by
  unfold St Stg at h ⊢
  iintro ⟨#Hr, ⟨⟨H0, H1, H2, H3, H4⟩, HB⟩, HO, HR⟩
  iapply (wp_load 𝒱₀ (c : Thread nD τ) none Set.univ (m := Memref.whole cc0_stg4_0) (Finset.subset_univ _)) $$ H4; iintro H4
  rw [show (Memref.whole cc0_stg4_0).view.readAt (Elt F) (Rect.unit (s := S1024x1024) ![0, 0] S1024x1024.size inb).toLoadRect J.wv = J.wv
    from Memref.readAt_unit_zero (Elt F) cc0_stg4_0 zero2 inb J.wv]
  iapply h
  isplitr; · iexact Hr
  iframe
end Staged

/-! ## The attention array -/

/-- A load from the array of the heads, whose value does not matter. -/
theorem attn_load (g : Fin 2) (n : ℕ) {r : LoadRect S512x1024} {hl} {k : (r.shape.Idx → Elt F .f32) → Prog (TpuEff nD τ sig (Elt F) Λ₀ .tc) PUnit}
    (h : ∀ v, St P A K c iprop(Stg J c ∗ attnS J c g n ∗ B) O R ⊢ wp frame (wpE (defs₀ (F := F)) 𝒱₀ (c : Thread nD τ) none) Set.univ (k v) Q) :
    St P A K c iprop(Stg J c ∗ attnS J c g n ∗ B) O R ⊢ wp frame (wpE (defs₀ (F := F)) 𝒱₀ (c : Thread nD τ) none) Set.univ
      (.op (.load attnM r hl) k) Q := by
  unfold St attnS at h ⊢
  iintro ⟨#Hr, ⟨HS, ⟨%f, %hf, HA⟩, HB⟩, HO, HR⟩
  iapply (wp_load 𝒱₀ (c : Thread nD τ) none Set.univ (m := attnM) (Finset.subset_univ _)) $$ HA; iintro HA
  iapply (h _)
  isplitr; · iexact Hr
  iframe
  iexists f
  isplitr; · ipureintro; exact hf
  iexact HA

/-- The store of head `j`, after the heads before it. -/
theorem attn_store (g : Fin 2) (j : Fin 8) {n m : ℕ} (hj : n = j.val) (hm : m = j.val + 1) {off : Fin 2 → ℕ} {inb} {Mk : Finset (Rect.unit (s := S512x1024) off S256x128.size inb).shape.Idx} (hMk : Mk = Finset.univ) {hx hm'}
    {w : FVec F S256x128 .f32} (hw : w = J.head g j) (ho : off = ![256 * g.val, 128 * j.val])
    {k : PUnit → Prog (TpuEff nD τ sig (Elt F) Λ₀ .tc) PUnit}
    (h : St P A K c iprop(Stg J c ∗ attnS J c g m ∗ B) O R ⊢ wp frame (wpE (defs₀ (F := F)) 𝒱₀ (c : Thread nD τ) none) Set.univ (k ⟨⟩) Q) :
    St P A K c iprop(Stg J c ∗ attnS J c g n ∗ B) O R ⊢ wp frame (wpE (defs₀ (F := F)) 𝒱₀ (c : Thread nD τ) none) Set.univ
      (.op (.store attnM (Rect.unit (s := S512x1024) off S256x128.size inb) w Mk hx hm') k) Q := by
  subst hj; subst hm; subst hw; subst hMk
  unfold St attnS at h ⊢
  iintro ⟨#Hr, ⟨HS, ⟨%f, %hf, HA⟩, HB⟩, HO, HR⟩
  iapply (wp_store 𝒱₀ (c : Thread nD τ) none Set.univ (m := attnM) (r := Rect.unit (s := S512x1024) off S256x128.size inb) (Mk := Finset.univ) (Finset.subset_univ _)) $$ HA; iintro HA
  iapply h
  isplitr; · iexact Hr
  iframe
  iexists ((attnM.access (Rect.unit (s := S512x1024) off S256x128.size inb)).write (Elt F) f (J.head g j) Finset.univ)
  isplitr; · ipureintro; exact good_store J g j hf ho
  iexact HA

/-- The load of a group's rows, once all eight heads are stored. -/
theorem attn_rows (g : Fin 2) {off : Fin 2 → ℕ} {inb} {hl} (ho : off = ![256 * g.val, 0]) {k : FVec F S256x1024 .f32 → Prog (TpuEff nD τ sig (Elt F) Λ₀ .tc) PUnit}
    (h : St P A K c iprop(Stg J c ∗ attnS J c g 8 ∗ B) O R ⊢ wp frame (wpE (defs₀ (F := F)) 𝒱₀ (c : Thread nD τ) none) Set.univ (k (J.attn g)) Q) :
    St P A K c iprop(Stg J c ∗ attnS J c g 8 ∗ B) O R ⊢ wp frame (wpE (defs₀ (F := F)) 𝒱₀ (c : Thread nD τ) none) Set.univ
      (.op (.load attnM (Rect.unit (s := S512x1024) off S256x1024.size inb).toLoadRect hl) k) Q := by
  unfold St attnS at h ⊢
  iintro ⟨#Hr, ⟨HS, ⟨%f, %hf, HA⟩, HB⟩, HO, HR⟩
  iapply (wp_load 𝒱₀ (c : Thread nD τ) none Set.univ (m := attnM) (Finset.subset_univ _)) $$ HA; iintro HA
  rw [good_read J g hf ho]
  iapply h
  isplitr; · iexact Hr
  iframe
  iexists f
  isplitr; · ipureintro; exact hf
  iexact HA

/-! ## The partial product and the own slab -/

/-- The box at a group's first row lies in the group, -/
theorem off_half {off : Fin 2 → ℕ} {inb : ∀ a, off a + S256x1024.size a ≤ S512x1024.size a} {g : Fin 2} (ho : off = ![256 * g.val, 0]) :
    (Rect.unit (s := S512x1024) off S256x1024.size inb).set ⊆ half g := by
  subst ho; exact fun i hi => (half_box i).mp hi

/-- and the box at a slab's first row in the slab. -/
theorem off_slab {off : Fin 2 → ℕ} {inb : ∀ a, off a + S16x1024.size a ≤ S512x1024.size a} {g : Fin 2} {p : Dev nD} (ho : off = ![256 * g.val + 16 * p.val, 0]) :
    (Rect.unit (s := S512x1024) off S16x1024.size inb).set ⊆ slab g p := fun i hi => (mem_rect ho i).mp hi

/-- A load from within a region touches that region only: of `part`, -/
theorem on_part {r : LoadRect S512x1024} {S : Finset S512x1024.Idx} (h : r.set ⊆ S) : partM.view.setOn r.set ⊆ S := fun i hi => by
  obtain ⟨y, hy, rfl⟩ := Finset.mem_map.mp hi; exact h hy
/-- of `rs`, -/
theorem on_rs {r : LoadRect S512x1024} {S : Finset S512x1024.Idx} (h : r.set ⊆ S) : rsM.view.setOn r.set ⊆ S := fun i hi => by
  obtain ⟨y, hy, rfl⟩ := Finset.mem_map.mp hi; exact h hy
/-- and of `ag`. -/
theorem on_ag {r : LoadRect S512x1024} {S : Finset S512x1024.Idx} (h : r.set ⊆ S) : agM.view.setOn r.set ⊆ S := fun i hi => by
  obtain ⟨y, hy, rfl⟩ := Finset.mem_map.mp hi; exact h hy

/-- A load from a group of `part`, whose value does not matter. -/
theorem part_load (g : Fin 2) {off : Fin 2 → ℕ} {inb hl} (ho : off = ![256 * g.val, 0])
    {k : Vec F S256x1024 .bf16 → Prog (TpuEff nD τ sig (Elt F) Λ₀ .tc) PUnit}
    (h : ∀ v, St P A K c iprop(Stg J c ∗ (∃ f, partHalf c g f) ∗ B) O R ⊢ wp frame (wpE (defs₀ (F := F)) 𝒱₀ (c : Thread nD τ) none) Set.univ (k v) Q) :
    St P A K c iprop(Stg J c ∗ (∃ f, partHalf c g f) ∗ B) O R ⊢ wp frame (wpE (defs₀ (F := F)) 𝒱₀ (c : Thread nD τ) none) Set.univ
      (.op (.load partM (Rect.unit (s := S512x1024) off S256x1024.size inb).toLoadRect hl) k) Q := by
  unfold St partHalf at h ⊢
  iintro ⟨#Hr, ⟨HS, ⟨%f, HA⟩, HB⟩, HO, HR⟩
  iapply (wp_load 𝒱₀ (c : Thread nD τ) none Set.univ (m := partM) (on_part (off_half ho))) $$ HA; iintro HA
  iapply (h _)
  isplitr; · iexact Hr
  iframe
  iexists f; iexact HA

/-- The store of a group's product into `part`. -/
theorem part_step (g : Fin 2) {off : Fin 2 → ℕ} {inb} {Mk : Finset (Rect.unit (s := S512x1024) off S256x1024.size inb).shape.Idx} (hMk : Mk = Finset.univ) {hx hm'}
    {w : FVec F S256x1024 .bf16} (hw : w = J.prod g) (ho : off = ![256 * g.val, 0])
    {k : PUnit → Prog (TpuEff nD τ sig (Elt F) Λ₀ .tc) PUnit}
    (h : St P A K c iprop(Stg J c ∗ partHalf c g J.part ∗ B) O R ⊢ wp frame (wpE (defs₀ (F := F)) 𝒱₀ (c : Thread nD τ) none) Set.univ (k ⟨⟩) Q) :
    St P A K c iprop(Stg J c ∗ (∃ f, partHalf c g f) ∗ B) O R ⊢ wp frame (wpE (defs₀ (F := F)) 𝒱₀ (c : Thread nD τ) none) Set.univ
      (.op (.store partM (Rect.unit (s := S512x1024) off S256x1024.size inb) w Mk hx hm') k) Q := by
  subst hw; subst hMk
  unfold St partHalf at h ⊢
  iintro ⟨#Hr, ⟨HS, ⟨%f, HA⟩, HB⟩, HO, HR⟩
  iapply (wp_store 𝒱₀ (c : Thread nD τ) none Set.univ (m := partM) (r := Rect.unit (s := S512x1024) off S256x1024.size inb) (Mk := Finset.univ)
    (by rw [View.setOn_univ, set_part]; exact off_half ho)) $$ HA; iintro HA
  ihave HA' : (((c : Thread nD τ).loc cc0_scratch1) ↦[half g]{fullShare} J.part) $$ [HA]
  · have e : (((c : Thread nD τ).loc cc0_scratch1) ↦[half g]{fullShare} ((partM.access (Rect.unit (s := S512x1024) off S256x1024.size inb)).write (Elt F) f (J.prod g) Finset.univ) : sProp 𝕄)
        = (((c : Thread nD τ).loc cc0_scratch1) ↦[half g]{fullShare} J.part) := pointsTo_congr fun i hi => part_store J g f ho i hi
    iapply (Entails.of_eq e); iexact HA
  iapply h
  isplitr; · iexact Hr
  iframe

/-- The load of the device's own slab of `part`. -/
theorem part_own {off : Fin 2 → ℕ} {inb hl} (g : Fin 2) (f : Cont F) (ho : off = ![256 * g.val + 16 * c.val, 0])
    {k : Vec F S16x1024 .bf16 → Prog (TpuEff nD τ sig (Elt F) Λ₀ .tc) PUnit}
    (h : St P A K c iprop(Stg J c ∗ partHalf c g f ∗ B) O R ⊢ wp frame (wpE (defs₀ (F := F)) 𝒱₀ (c : Thread nD τ) none) Set.univ (k (slabRow f g c)) Q) :
    St P A K c iprop(Stg J c ∗ partHalf c g f ∗ B) O R ⊢ wp frame (wpE (defs₀ (F := F)) 𝒱₀ (c : Thread nD τ) none) Set.univ
      (.op (.load partM (Rect.unit (s := S512x1024) off S16x1024.size inb).toLoadRect hl) k) Q := by
  unfold St partHalf at h ⊢
  iintro ⟨#Hr, ⟨HS, HA, HB⟩, HO, HR⟩
  iapply (wp_load 𝒱₀ (c : Thread nD τ) none Set.univ (m := partM)
    (on_part ((off_slab ho).trans (slab_subset_half g c)))) $$ HA; iintro HA
  rw [part_read f ho]
  iapply h
  isplitr; · iexact Hr
  iframe

/-- A load from the own slab of `rs`, whose value does not matter. -/
theorem rs_load {off : Fin 2 → ℕ} {inb hl} (g : Fin 2) {X : sProp (MT nD τ sig Unit (Elt F) ℕ UU ℕ)} (ho : off = ![256 * g.val + 16 * c.val, 0])
    {k : Vec F S16x1024 .bf16 → Prog (TpuEff nD τ sig (Elt F) Λ₀ .tc) PUnit}
    (h : ∀ v, St P A K c iprop(Stg J c ∗ X ∗ (∃ f, rsPts c g c fullShare f) ∗ B) O R ⊢ wp frame (wpE (defs₀ (F := F)) 𝒱₀ (c : Thread nD τ) none) Set.univ (k v) Q) :
    St P A K c iprop(Stg J c ∗ X ∗ (∃ f, rsPts c g c fullShare f) ∗ B) O R ⊢ wp frame (wpE (defs₀ (F := F)) 𝒱₀ (c : Thread nD τ) none) Set.univ
      (.op (.load rsM (Rect.unit (s := S512x1024) off S16x1024.size inb).toLoadRect hl) k) Q := by
  unfold St rsPts at h ⊢
  iintro ⟨#Hr, ⟨HS, HX, ⟨%f, HA⟩, HB⟩, HO, HR⟩
  iapply (wp_load 𝒱₀ (c : Thread nD τ) none Set.univ (m := rsM) (on_rs (off_slab ho))) $$ HA; iintro HA
  iapply (h _)
  isplitr; · iexact Hr
  iframe
  iexists f; iexact HA

/-- The store of the own slab of `part` into the own slab of `rs`. -/
theorem rs_own (g : Fin 2) {X : sProp (MT nD τ sig Unit (Elt F) ℕ UU ℕ)} {off : Fin 2 → ℕ} {inb} {Mk : Finset (Rect.unit (s := S512x1024) off S16x1024.size inb).shape.Idx} (hMk : Mk = Finset.univ) {hx hm'}
    {w : FVec F S16x1024 .bf16} (hw : w = slabRow (P c) g c) (ho : off = ![256 * g.val + 16 * c.val, 0])
    {k : PUnit → Prog (TpuEff nD τ sig (Elt F) Λ₀ .tc) PUnit}
    (h : St P A K c iprop(Stg J c ∗ X ∗ rsPts c g c fullShare (rsF P c) ∗ B) O R ⊢ wp frame (wpE (defs₀ (F := F)) 𝒱₀ (c : Thread nD τ) none) Set.univ (k ⟨⟩) Q) :
    St P A K c iprop(Stg J c ∗ X ∗ (∃ f, rsPts c g c fullShare f) ∗ B) O R ⊢ wp frame (wpE (defs₀ (F := F)) 𝒱₀ (c : Thread nD τ) none) Set.univ
      (.op (.store rsM (Rect.unit (s := S512x1024) off S16x1024.size inb) w Mk hx hm') k) Q := by
  subst hw; subst hMk
  unfold St rsPts at h ⊢
  iintro ⟨#Hr, ⟨HS, HX, ⟨%f, HA⟩, HB⟩, HO, HR⟩
  iapply (wp_store 𝒱₀ (c : Thread nD τ) none Set.univ (m := rsM) (r := Rect.unit (s := S512x1024) off S16x1024.size inb) (Mk := Finset.univ)
    (by rw [View.setOn_univ, set_rs]; exact off_slab ho)) $$ HA; iintro HA
  ihave HA' : (((c : Thread nD τ).loc cc0_scratch2) ↦[slab g c]{fullShare} rsF P c) $$ [HA]
  · have e : (((c : Thread nD τ).loc cc0_scratch2) ↦[slab g c]{fullShare} ((rsM.access (Rect.unit (s := S512x1024) off S16x1024.size inb)).write (Elt F) f (slabRow (P c) g c) Finset.univ) : sProp 𝕄)
        = (((c : Thread nD τ).loc cc0_scratch2) ↦[slab g c]{fullShare} rsF P c) := pointsTo_congr fun i hi => rs_store P f ho i hi
    iapply (Entails.of_eq e); iexact HA
  iapply h
  isplitr; · iexact Hr
  iframe

/-! ## The sum -/

/-- The load of slab `p` of `rs`, for the sum. -/
theorem sum_load {off : Fin 2 → ℕ} {inb hl} (g : Fin 2) (p : Dev nD) (f : Cont F) (ho : off = ![256 * g.val + 16 * p.val, 0])
    {k : Vec F S16x1024 .bf16 → Prog (TpuEff nD τ sig (Elt F) Λ₀ .tc) PUnit}
    (h : St P A K c iprop(rsHalf c g f ∗ B) O R ⊢ wp frame (wpE (defs₀ (F := F)) 𝒱₀ (c : Thread nD τ) none) Set.univ (k (slabRow f g p)) Q) :
    St P A K c iprop(rsHalf c g f ∗ B) O R ⊢ wp frame (wpE (defs₀ (F := F)) 𝒱₀ (c : Thread nD τ) none) Set.univ
      (.op (.load rsM (Rect.unit (s := S512x1024) off S16x1024.size inb).toLoadRect hl) k) Q := by
  unfold St rsHalf at h ⊢
  iintro ⟨#Hr, ⟨HA, HB⟩, HO, HR⟩
  iapply (wp_load 𝒱₀ (c : Thread nD τ) none Set.univ (m := rsM)
    (on_rs ((off_slab ho).trans (slab_subset_half g p)))) $$ HA; iintro HA
  rw [rs_read f ho]
  iapply h
  isplitr; · iexact Hr
  iframe

/-- A load from the own slab of `ag`, whose value does not matter. -/
theorem ag_load {off : Fin 2 → ℕ} {inb hl} (g : Fin 2) {X : sProp (MT nD τ sig Unit (Elt F) ℕ UU ℕ)} (ho : off = ![256 * g.val + 16 * c.val, 0])
    {k : Vec F S16x1024 .bf16 → Prog (TpuEff nD τ sig (Elt F) Λ₀ .tc) PUnit}
    (h : ∀ v, St P A K c iprop(X ∗ (∃ f, agPts c g c fullShare f)) O R ⊢ wp frame (wpE (defs₀ (F := F)) 𝒱₀ (c : Thread nD τ) none) Set.univ (k v) Q) :
    St P A K c iprop(X ∗ (∃ f, agPts c g c fullShare f)) O R ⊢ wp frame (wpE (defs₀ (F := F)) 𝒱₀ (c : Thread nD τ) none) Set.univ
      (.op (.load agM (Rect.unit (s := S512x1024) off S16x1024.size inb).toLoadRect hl) k) Q := by
  unfold St agPts at h ⊢
  iintro ⟨#Hr, ⟨HX, ⟨%f, HA⟩⟩, HO, HR⟩
  iapply (wp_load 𝒱₀ (c : Thread nD τ) none Set.univ (m := agM) (on_ag (off_slab ho))) $$ HA; iintro HA
  iapply (h _)
  isplitr; · iexact Hr
  iframe
  iexists f; iexact HA

/-- The store of the sum into the own slab of `ag`. -/
theorem ag_own (I : Dev nD → Ins F) (g : Fin 2) {X : sProp (MT nD τ sig Unit (Elt F) ℕ UU ℕ)} {off : Fin 2 → ℕ} {inb} {Mk : Finset (Rect.unit (s := S512x1024) off S16x1024.size inb).shape.Idx} (hMk : Mk = Finset.univ) {hx hm'}
    {w : FVec F S16x1024 .bf16} (hw : w = sumV fun p => slabRow (rsF (PF I) c) g p) (ho : off = ![256 * g.val + 16 * c.val, 0])
    {k : PUnit → Prog (TpuEff nD τ sig (Elt F) Λ₀ .tc) PUnit}
    (h : St P A K c iprop(X ∗ agPts c g c fullShare (AF I)) O R ⊢ wp frame (wpE (defs₀ (F := F)) 𝒱₀ (c : Thread nD τ) none) Set.univ (k ⟨⟩) Q) :
    St P A K c iprop(X ∗ (∃ f, agPts c g c fullShare f)) O R ⊢ wp frame (wpE (defs₀ (F := F)) 𝒱₀ (c : Thread nD τ) none) Set.univ
      (.op (.store agM (Rect.unit (s := S512x1024) off S16x1024.size inb) w Mk hx hm') k) Q := by
  subst hw; subst hMk
  unfold St agPts at h ⊢
  iintro ⟨#Hr, ⟨HX, ⟨%f, HA⟩⟩, HO, HR⟩
  iapply (wp_store 𝒱₀ (c : Thread nD τ) none Set.univ (m := agM) (r := Rect.unit (s := S512x1024) off S16x1024.size inb) (Mk := Finset.univ)
    (by rw [View.setOn_univ, set_ag]; exact off_slab ho)) $$ HA; iintro HA
  ihave HA' : (((c : Thread nD τ).loc cc0_scratch3) ↦[slab g c]{fullShare} AF I) $$ [HA]
  · have e : (((c : Thread nD τ).loc cc0_scratch3) ↦[slab g c]{fullShare} ((agM.access (Rect.unit (s := S512x1024) off S16x1024.size inb)).write (Elt F) f (sumV fun p => slabRow (rsF (PF I) c) g p) Finset.univ) : sProp 𝕄)
        = (((c : Thread nD τ).loc cc0_scratch3) ↦[slab g c]{fullShare} AF I) := pointsTo_congr fun i hi => ag_store I f ho i hi
    iapply (Entails.of_eq e); iexact HA
  iapply h
  isplitr; · iexact Hr
  iframe

/-! ## The result -/

/-- A share of the whole of `ag`. -/
def agAll (q : PosShare TreeShare) (f : Cont F) : sProp 𝕄 := ((c : Thread nD τ).loc cc0_scratch3) ↦{q} f
/-- The staged result. -/
def outPts (f : FVec F S1x512x1024 .f32) : sProp 𝕄 := ((c : Thread nD τ).loc cc0_stg5_0) ↦{fullShare} f

/-- The load of the whole of `ag`. -/
theorem all_load {inb hl} (q : PosShare TreeShare) (f : Cont F) {k : Vec F S512x1024 .bf16 → Prog (TpuEff nD τ sig (Elt F) Λ₀ .tc) PUnit}
    (h : St P A K c iprop(agAll c q f ∗ B) O R ⊢ wp frame (wpE (defs₀ (F := F)) 𝒱₀ (c : Thread nD τ) none) Set.univ (k f) Q) :
    St P A K c iprop(agAll c q f ∗ B) O R ⊢ wp frame (wpE (defs₀ (F := F)) 𝒱₀ (c : Thread nD τ) none) Set.univ
      (.op (.load agM (Rect.unit (s := S512x1024) ![0, 0] S512x1024.size inb).toLoadRect hl) k) Q := by
  unfold St agAll at h ⊢
  iintro ⟨#Hr, ⟨HA, HB⟩, HO, HR⟩
  iapply (wp_load 𝒱₀ (c : Thread nD τ) none Set.univ (m := agM) (Finset.subset_univ _)) $$ HA; iintro HA
  rw [show agM.view.readAt (Elt F) (Rect.unit (s := S512x1024) ![0, 0] S512x1024.size inb).toLoadRect f = f
    from Memref.readAt_unit_zero (Elt F) cc0_scratch3 zero2 inb f]
  iapply h
  isplitr; · iexact Hr
  iframe

/-- A load from the result's array, whose value does not matter. -/
theorem out_load {r : LoadRect S1x512x1024} {hl} {k : (r.shape.Idx → Elt F .f32) → Prog (TpuEff nD τ sig (Elt F) Λ₀ .tc) PUnit}
    {X : sProp (MT nD τ sig Unit (Elt F) ℕ UU ℕ)} (h : ∀ v, St P A K c iprop(X ∗ (∃ f, outPts c f)) O R ⊢ wp frame (wpE (defs₀ (F := F)) 𝒱₀ (c : Thread nD τ) none) Set.univ (k v) Q) :
    St P A K c iprop(X ∗ (∃ f, outPts c f)) O R ⊢ wp frame (wpE (defs₀ (F := F)) 𝒱₀ (c : Thread nD τ) none) Set.univ
      (.op (.load (Memref.whole cc0_stg5_0) r hl) k) Q := by
  unfold St outPts at h ⊢
  iintro ⟨#Hr, ⟨HX, ⟨%f, HA⟩⟩, HO, HR⟩
  iapply (wp_load 𝒱₀ (c : Thread nD τ) none Set.univ (m := Memref.whole cc0_stg5_0) (Finset.subset_univ _)) $$ HA; iintro HA
  iapply (h _)
  isplitr; · iexact Hr
  iframe
  iexists f; iexact HA

/-- The store of the result. -/
theorem out_store {inb} {Mk : Finset (Rect.unit (s := S1x512x1024) ![0, 0, 0] S1x512x1024.size inb).shape.Idx} (hMk : Mk = Finset.univ) {hx hm'} {w : FVec F S1x512x1024 .f32}
    {X : sProp (MT nD τ sig Unit (Elt F) ℕ UU ℕ)} {k : PUnit → Prog (TpuEff nD τ sig (Elt F) Λ₀ .tc) PUnit}
    (h : St P A K c iprop(X ∗ outPts c w) O R ⊢ wp frame (wpE (defs₀ (F := F)) 𝒱₀ (c : Thread nD τ) none) Set.univ (k ⟨⟩) Q) :
    St P A K c iprop(X ∗ (∃ f, outPts c f)) O R ⊢ wp frame (wpE (defs₀ (F := F)) 𝒱₀ (c : Thread nD τ) none) Set.univ
      (.op (.store (Memref.whole cc0_stg5_0) (Rect.unit (s := S1x512x1024) ![0, 0, 0] S1x512x1024.size inb) w Mk hx hm') k) Q := by
  subst hMk
  unfold St outPts at h ⊢
  iintro ⟨#Hr, ⟨HX, ⟨%f, HA⟩⟩, HO, HR⟩
  iapply (wp_store 𝒱₀ (c : Thread nD τ) none Set.univ (m := Memref.whole cc0_stg5_0) (r := Rect.unit (s := S1x512x1024) ![0, 0, 0] S1x512x1024.size inb)
    (Mk := Finset.univ) (Finset.subset_univ _)) $$ HA; iintro HA
  rw [show ((Memref.whole cc0_stg5_0).access (Rect.unit (s := S1x512x1024) ![0, 0, 0] S1x512x1024.size inb)).write (Elt F) f w Finset.univ = w
    from Memref.write_access_unit_zero_univ (Elt F) cc0_stg5_0 zero3 inb f w]
  iapply h
  isplitr; · iexact Hr
  iframe

end Cert.KernelIdealProof
-- ==== Proof.KernelIdealPhases.lean ====
/-
# From one phase of the program to the next

Between the loops of the exchanges and the computations, what a device holds is only rearranged: an array is taken apart
into slabs or put together again, a slab into shares, what a loop needs is brought to the front and what it leaves is put
aside. Each rearrangement is stated here by itself, outside any program. What comes later stands in a list `T`, in the
order in which it is used, and what has been used in a list `D`.
-/
module

public import proofs.«01_k».proof.Proof.KernelIdealMem
public import Idealize.ShloMosaic.Lib.Rounds.Family

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (P : Dev nD → Cont F) (A : Cont F) (K : Dev nD × Option Key → ℕ) (J : Ins F) (c : Dev nD)
variable {X Y T D W : sProp (MT nD τ sig Unit (Elt F) ℕ UU ℕ)} {O O' : CellTallies nD τ sig Unit}

/-! ## Arrays, slabs, shares -/

/-- A product over two groups. -/
theorem bigSep_two (Φ : Fin 2 → sProp 𝕄) : bigSep Finset.univ Φ = iprop(Φ 0 ∗ Φ 1) := bigSep_fin_two Φ
/-- A product over all devices is the own factor and the others'. -/
theorem bigSep_own (Φ : Dev nD → sProp 𝕄) : bigSep Finset.univ Φ = iprop(Φ c ∗ bigSep (Finset.Ico 1 16) fun d => Φ (pe c d)) := by
  rw [← bigSep_others]; exact bigSep_erase (Finset.mem_univ c)

/-- Group `g` is the own slab and the others. -/
theorem half_slabs (pt : Finset S512x1024.Idx → sProp 𝕄)
    (h : ∀ (S : Finset (Dev nD)) (Kt : Dev nD → Finset S512x1024.Idx), (∀ t ∈ S, ∀ t' ∈ S, t ≠ t' → Disjoint (Kt t) (Kt t')) → pt (S.biUnion Kt) = bigSep S fun t => pt (Kt t))
    (g : Fin 2) : pt (half g) = iprop(pt (slab g c) ∗ bigSep (Finset.Ico 1 16) fun d => pt (slab g (pe c d))) := by
  rw [half_eq, h _ _ (fun p _ p' _ hne => slab_disjoint g hne), bigSep_own c]

/-- A group of an array is the own slab and the other devices' slabs: of `part`, -/
theorem part_slabs (g : Fin 2) (f : Cont F) :
    partHalf c g f = iprop(partPts c g c fullShare f ∗ bigSep (Finset.Ico 1 16) fun d => partPts c g (pe c d) fullShare f) := by
  unfold partHalf partPts
  exact half_slabs c (fun I => (((c : Thread nD τ).loc cc0_scratch1) ↦[I]{fullShare} f : sProp 𝕄))
    (fun S Kt hd => pointsTo_biUnion (Ix := Unit) (Name := ℕ) (U := UU) (Lvl := ℕ) (ℓ := (c : Thread nD τ).loc cc0_scratch1) (q := fullShare) (f := f) S Kt hd) g

/-- of `rs`, -/
theorem rs_slabs (g : Fin 2) (f : Cont F) :
    rsHalf c g f = iprop(rsPts c g c fullShare f ∗ bigSep (Finset.Ico 1 16) fun d => rsPts c g (pe c d) fullShare f) := by
  unfold rsHalf rsPts
  exact half_slabs c (fun I => (((c : Thread nD τ).loc cc0_scratch2) ↦[I]{fullShare} f : sProp 𝕄))
    (fun S Kt hd => pointsTo_biUnion (Ix := Unit) (Name := ℕ) (U := UU) (Lvl := ℕ) (ℓ := (c : Thread nD τ).loc cc0_scratch2) (q := fullShare) (f := f) S Kt hd) g

def agHalf (g : Fin 2) (q : PosShare TreeShare) (f : Cont F) : sProp 𝕄 := ((c : Thread nD τ).loc cc0_scratch3) ↦[half g]{q} f

/-- and of `ag`. -/
theorem ag_slabs (g : Fin 2) (q : PosShare TreeShare) (f : Cont F) :
    agHalf c g q f = iprop(agPts c g c q f ∗ bigSep (Finset.Ico 1 16) fun d => agPts c g (pe c d) q f) := by
  unfold agHalf agPts
  exact half_slabs c (fun I => (((c : Thread nD τ).loc cc0_scratch3) ↦[I]{q} f : sProp 𝕄))
    (fun S Kt hd => pointsTo_biUnion (Ix := Unit) (Name := ℕ) (U := UU) (Lvl := ℕ) (ℓ := (c : Thread nD τ).loc cc0_scratch3) (q := q) (f := f) S Kt hd) g

/-- The whole of an array, and that it is its two groups. -/
def partAll (f : Cont F) : sProp 𝕄 := ((c : Thread nD τ).loc cc0_scratch1) ↦{fullShare} f
def rsAll (f : Cont F) : sProp 𝕄 := ((c : Thread nD τ).loc cc0_scratch2) ↦{fullShare} f

/-- An array is its two groups: `part`, -/
theorem part_halves (f : Cont F) : partAll c f = iprop(partHalf c 0 f ∗ partHalf c 1 f) := by
  have h := pointsTo_union (Ix := Unit) (Name := ℕ) (U := UU) (Lvl := ℕ) (ℓ := (c : Thread nD τ).loc cc0_scratch1) (q := fullShare) (f := f) half_disjoint
  rw [half_union] at h; exact Entails.antisymm h.1 h.2
/-- `rs`, -/
theorem rs_halves (f : Cont F) : rsAll c f = iprop(rsHalf c 0 f ∗ rsHalf c 1 f) := by
  have h := pointsTo_union (Ix := Unit) (Name := ℕ) (U := UU) (Lvl := ℕ) (ℓ := (c : Thread nD τ).loc cc0_scratch2) (q := fullShare) (f := f) half_disjoint
  rw [half_union] at h; exact Entails.antisymm h.1 h.2
/-- and `ag`. -/
theorem ag_halves (q : PosShare TreeShare) (f : Cont F) : agAll c q f = iprop(agHalf c 0 q f ∗ agHalf c 1 q f) := by
  have h := pointsTo_union (Ix := Unit) (Name := ℕ) (U := UU) (Lvl := ℕ) (ℓ := (c : Thread nD τ).loc cc0_scratch3) (q := q) (f := f) half_disjoint
  rw [half_union] at h; exact Entails.antisymm h.1 h.2

/-- The shares of a slab of `ag` but the device's own. -/
def agRem (g : Fin 2) (p : Dev nD) : sProp 𝕄 := bigSep (Finset.Ico 1 16) fun d => agPts c g p (leaf 4 fullShare (pe c d)) A

/-- A slab of `ag` is the device's own share of it and the shares that it lends to its copies. -/
theorem ag_leaves (g : Fin 2) (p : Dev nD) : agPts c g p fullShare A = iprop(agPts c g p (leaf 4 fullShare c) A ∗ agRem A c g p) := by
  have h : (agPts c g p fullShare A : sProp 𝕄) = bigSep Finset.univ fun i : Dev nD => agPts c g p (leaf 4 fullShare i) A :=
    by
    unfold agPts
    exact ShareLeaves.pointsTo_leaves (Ix := Unit) (Name := ℕ) (U := UU) (Lvl := ℕ) (ℓ := (c : Thread nD τ).loc cc0_scratch3) (slab g p) A 4 fullShare
  rw [h, bigSep_own c]; rfl

/-! ## What the phases start from -/

/-- The duties of the copies device `c` issues, of each exchange. -/
def rsTok (g : Fin 2) : sProp 𝕄 :=
  bigSep (Finset.Ico 1 16) fun d => iprop(dutyTok ER (cell c 0 g (pe c d)) 0 (0 : Fin 16) ∗ dutyTok ER (cell (pe c d) 1 g c) 0 (0 : Fin 16))
def agTok (g : Fin 2) : sProp 𝕄 :=
  bigSep (Finset.Ico 1 16) fun d => iprop(dutyTok ER (cell c 2 g (pe c d)) 0 (0 : Fin 16) ∗ dutyTok ER (cell (pe c d) 3 g c) 0 (0 : Fin 16))
/-- The slabs those copies land in. -/
def rsDst (g : Fin 2) : sProp 𝕄 := bigSep (Finset.Ico 1 16) fun d => iprop(∃ f, rsPts (pe c d) g c fullShare f)
def agDst (g : Fin 2) : sProp 𝕄 := bigSep (Finset.Ico 1 16) fun d => iprop(∃ f, agPts (pe c d) g c fullShare f)
/-- The positions before and after the waits. -/
def posS (a : Fin 4) (g : Fin 2) : sProp 𝕄 := bigSep (Finset.Ico 1 16) fun d => atPos ER (cell c a g (pe c d)) 0 ∅ 0
def posE (a : Fin 4) (g : Fin 2) : sProp 𝕄 := bigSep (Finset.Ico 1 16) fun d => atPos ER (cell c a g (pe c d)) 1 ∅ 0
def credS (a : Fin 4) (g : Fin 2) : sProp 𝕄 := bigSep (Finset.Ico 1 16) fun d => cred (tallyAt (cell c a g (pe c d)) () N)
/-- The barrier's part. -/
def barIn : sProp 𝕄 := iprop(cred (tallyAt (barCell c) () 15) ∗ atPos ER (barCell c) 0 ∅ 0)
def sigTok : sProp 𝕄 := bigSep (Finset.Ico 1 16) fun d => dutyTok ER (barCell (pe c d)) 0 c
/-- Parts of arrays with anything in them. -/
def partAny (g : Fin 2) : sProp 𝕄 := iprop(∃ f : Cont F, partHalf c g f)
def rsAny (g : Fin 2) : sProp 𝕄 := iprop(∃ f : Cont F, rsPts c g c fullShare f)
def agAny (g : Fin 2) : sProp 𝕄 := iprop(∃ f : Cont F, agPts c g c fullShare f)
def attnAny : sProp 𝕄 := iprop(∃ f : S512x1024.Idx → Elt F .f32, ((c : Thread nD τ).loc cc0_scratch0) ↦{fullShare} f)
def outAny : sProp 𝕄 := iprop(∃ f, outPts (F := F) c f)

/-- Credits and positions are what a loop of waits starts from, -/
theorem wait_init (a : Fin 4) (g : Fin 2) : iprop(credS c a g ∗ posS c a g) ⊢ waitS P A a g c 1 := by
  unfold credS posS waitS
  rw [← bigSep_sep', Finset.Ico_self, bigSep_empty]
  iintro H
  isplitl [H]; · iexact H
  iempintro

/-- and it ends with the positions after the waits and what they handed over. -/
theorem wait_done (a : Fin 4) (g : Fin 2) :
    waitS P A a g c 16 ⊢ iprop(posE c a g ∗ bigSep (Finset.Ico 1 16) fun d => dmaPay P A c a.val g (pe c d)) := by
  unfold posE waitS
  rw [← bigSep_sep']
  iintro ⟨-, H⟩
  iexact H

/-- The first exchange's copies leave the credits of their sending side, -/
theorem rs_done (g : Fin 2) : rsS P g c 16 ⊢ credS c 0 g := by unfold rsS credS; iintro ⟨-, H⟩; iexact H
/-- and so do the second's. -/
theorem ag_done (g : Fin 2) : agS A g c 16 ⊢ credS c 2 g := by unfold agS credS; iintro ⟨-, H⟩; iexact H

/-- What the first exchange's copies start from: their duties, the slabs to land in and the slabs to send. -/
theorem rs_init (g : Fin 2) :
    iprop(rsTok c g ∗ rsDst c g ∗ bigSep (Finset.Ico 1 16) fun d => partPts c g (pe c d) fullShare (P c)) ⊢ rsS P g c 1 := by
  unfold rsTok rsDst rsS
  simp only [bigSep_sep', Finset.Ico_self, bigSep_empty]
  iintro ⟨⟨H1, H2⟩, H3, H4⟩
  isplitl
  · isplitl [H1]; · iexact H1
    isplitl [H2]; · iexact H2
    isplitl [H4]; · iexact H4
    iexact H3
  · iempintro

/-- What the second's start from: their duties, the slabs to land in and the lent shares of the own slab. -/
theorem ag_init (g : Fin 2) : iprop(agTok c g ∗ agDst c g ∗ agRem A c g c) ⊢ agS A g c 1 := by
  unfold agTok agDst agRem agS
  simp only [bigSep_sep', Finset.Ico_self, bigSep_empty]
  iintro ⟨⟨H1, H2⟩, H3, H4⟩
  isplitl
  · isplitl [H1]; · iexact H1
    isplitl [H2]; · iexact H2
    isplitl [H4]; · iexact H4
    iexact H3
  · iempintro

/-- The signals handed over the slabs that both exchanges' copies land in, group by group. -/
theorem barGot_split : barGot (F := F) c ⊢ iprop((rsDst c 0 ∗ agDst c 0) ∗ rsDst c 1 ∗ agDst c 1) := by
  unfold barGot rsDst agDst
  rw [bigSep_others]
  unfold barPay
  simp only [bigSep_two, bigSep_sep']
  iintro ⟨⟨H1, H2⟩, H3, H4⟩
  iframe

/-- What the signals hand over, from the arrays `rs` and `ag`. -/
theorem sig_init : iprop(sigTok c ∗ (∃ f : Cont F, rsAll c f) ∗ ∃ f : Cont F, agAll c fullShare f)
    ⊢ iprop(sigS c 1 ∗ (rsAny c 0 ∗ rsAny c 1) ∗ agAny c 0 ∗ agAny (F := F) c 1) := by
  have hr (g : Fin 2) (f : Cont F) : (bigSep (Finset.Ico 1 16) fun d => rsPts c g (pe c d) fullShare f : sProp 𝕄) ⊢ bigSep (Finset.Ico 1 16) fun d => iprop(∃ f, rsPts c g (pe c d) fullShare f) :=
    bigSep_mono fun d _ => show (rsPts c g (pe c d) fullShare f : sProp 𝕄) ⊢ iprop(∃ f, rsPts c g (pe c d) fullShare f) from by iintro H; iexists f; iexact H
  have ha (g : Fin 2) (f : Cont F) : (bigSep (Finset.Ico 1 16) fun d => agPts c g (pe c d) fullShare f : sProp 𝕄) ⊢ bigSep (Finset.Ico 1 16) fun d => iprop(∃ f, agPts c g (pe c d) fullShare f) :=
    bigSep_mono fun d _ => show (agPts c g (pe c d) fullShare f : sProp 𝕄) ⊢ iprop(∃ f, agPts c g (pe c d) fullShare f) from by iintro H; iexists f; iexact H
  unfold sigTok sigS rsAny agAny barPay
  simp only [bigSep_two, bigSep_sep', rs_halves, rs_slabs, ag_halves, ag_slabs]
  iintro ⟨Ht, ⟨%f, ⟨Hr0, Hs0⟩, Hr1, Hs1⟩, ⟨%f', ⟨Ha0, Hb0⟩, Ha1, Hb1⟩⟩
  isplitl [Ht Hs0 Hs1 Hb0 Hb1]
  · isplitl [Ht]; · iexact Ht
    isplitl [Hs0 Hs1]
    · isplitl [Hs0]; · iapply (hr 0 f); iexact Hs0
      iapply (hr 1 f); iexact Hs1
    · isplitl [Hb0]; · iapply (ha 0 f'); iexact Hb0
      iapply (ha 1 f'); iexact Hb1
  isplitl [Hr0 Hr1]
  · isplitl [Hr0]; · iexists f; iexact Hr0
    iexists f; iexact Hr1
  · isplitl [Ha0]; · iexists f'; iexact Ha0
    iexists f'; iexact Ha1

/-! ## The phases in order -/

/-- A loop done, the next one's part stands first in the list. -/
theorem st_next (hO : O = O') : St P A K c X O iprop((W ∗ T) ∗ D) ⊢ St P A K c W O' iprop(T ∗ X ∗ D) := by
  subst hO
  unfold St
  iintro ⟨#Hr, HX, HO, ⟨HW, HT⟩, HD⟩
  isplitr; · iexact Hr
  iframe

/-- All devices signalled: the barrier is awaited. -/
theorem st_bar : St P A K c (sigS c 16) (oXfer c + oB c 16) iprop((barIn c ∗ T) ∗ D)
    ⊢ St P A K c iprop(cred (tallyAt (barCell c) () 15) ∗ atPos ER (barCell c) 0 ∅ 0) (oXfer c) iprop(T ∗ D) := by
  rw [oB_last, add_zero]
  unfold St barIn sigS
  rw [Finset.Ico_self, bigSep_empty]
  iintro ⟨#Hr, -, HO, ⟨HW, HT⟩, HD⟩
  isplitr; · iexact Hr
  iframe

/-- After the barrier: the first group's computation. -/
theorem st_compute0 :
    St P A K c iprop(barGot c ∗ atPos ER (barCell c) 1 ∅ 0) O
      iprop((Stg J c ∗ attnAny c ∗ partAny c 0 ∗ rsAny c 0 ∗ rsTok c 0 ∗ partAny c 1 ∗ rsAny c 1 ∗ rsTok c 1
        ∗ X ∗ agAny c 0 ∗ agTok c 0 ∗ Y ∗ agAny c 1 ∗ agTok c 1 ∗ T) ∗ D)
    ⊢ St P A K c iprop(Stg J c ∗ attnS J c 0 0 ∗ partAny c 0 ∗ rsAny c 0) O
      iprop(((rsTok c 0 ∗ rsDst c 0) ∗ partAny c 1 ∗ rsAny c 1 ∗ (rsTok c 1 ∗ rsDst c 1)
        ∗ X ∗ agAny c 0 ∗ (agTok c 0 ∗ agDst c 0) ∗ Y ∗ agAny c 1 ∗ (agTok c 1 ∗ agDst c 1) ∗ T) ∗ atPos ER (barCell c) 1 ∅ 0 ∗ D) := by
  unfold St attnS attnAny
  iintro ⟨#Hr, ⟨HG, HB⟩, HO, ⟨HS, ⟨%f, HF⟩, H1, H2, H3, H4, H5, H6, H7, H8, H9, H10, H11, H12, HT⟩, HD⟩
  ihave HG' := (barGot_split (F := F) c) $$ HG
  icases HG' with ⟨⟨G1, G2⟩, G3, G4⟩
  isplitr; · iexact Hr
  isplitl [HS HF H1 H2]
  · isplitl [HS]; · iexact HS
    isplitl [HF]
    · iexists f
      isplitr; · ipureintro; exact good_zero J 0 f
      iexact HF
    iframe
  iframe

/-- The attention of group `g` done: its product next. -/
theorem st_product (g : Fin 2) :
    St P A K c iprop(Stg J c ∗ attnS J c g 8 ∗ partAny c g ∗ rsAny c g) O D
    ⊢ St P A K c iprop(Stg J c ∗ (∃ f, partHalf c g f) ∗ (∃ f, rsPts c g c fullShare f) ∗ attnS J c g 8) O D := by
  unfold St partAny rsAny
  iintro ⟨#Hr, ⟨HS, HA, HP, HR⟩, HO, HD⟩
  isplitr; · iexact Hr
  iframe

/-- The partial product of group `g` done: its slabs are sent. -/
theorem st_rs (g : Fin 2) :
    St P A K c iprop(Stg J c ∗ partHalf c g (P c) ∗ rsPts c g c fullShare (rsF P c) ∗ attnS J c g 8) O iprop(((rsTok c g ∗ rsDst c g) ∗ T) ∗ D)
    ⊢ St P A K c (rsS P g c 1) O iprop(T ∗ (Stg J c ∗ attnAny c) ∗ rsPts c g c fullShare (rsF P c) ∗ partPts c g c fullShare (P c) ∗ D) := by
  unfold St attnS attnAny
  rw [part_slabs]
  iintro ⟨#Hr, ⟨HS, ⟨Hp, Hs⟩, HR, ⟨%f, -, HF⟩⟩, HO, ⟨⟨Ht, Hd⟩, HT⟩, HD⟩
  isplitr; · iexact Hr
  isplitl [Ht Hd Hs]
  · iapply (rs_init P c g)
    iframe
  isplitl [HO]; · iexact HO
  isplitl [HT]; · iexact HT
  isplitl [HS HF]
  · isplitl [HS]; · iexact HS
    iexists f; iexact HF
  iframe

/-- The second group's computation. -/
theorem st_compute1 (hO : O = O') :
    St P A K c X O iprop((partAny c 1 ∗ rsAny c 1 ∗ T) ∗ (Stg J c ∗ attnAny c) ∗ D)
    ⊢ St P A K c iprop(Stg J c ∗ attnS J c 1 0 ∗ partAny c 1 ∗ rsAny c 1) O' iprop(T ∗ X ∗ D) := by
  subst hO
  unfold St attnS attnAny
  iintro ⟨#Hr, HX, HO, ⟨H1, H2, HT⟩, ⟨HS, ⟨%f, HF⟩⟩, HD⟩
  isplitr; · iexact Hr
  isplitl [HS HF H1 H2]
  · isplitl [HS]; · iexact HS
    isplitl [HF]
    · iexists f
      isplitr; · ipureintro; exact good_zero J 1 f
      iexact HF
    iframe
  iframe

/-- All slabs of `part` sent: the first group's slabs are awaited. -/
theorem st_recv0 {r0 r1 p1 s : sProp (MT nD τ sig Unit (Elt F) ℕ UU ℕ)} (hO : O = O') :
    St P A K c X O iprop((W ∗ T) ∗ s ∗ r1 ∗ p1 ∗ Y ∗ r0 ∗ D)
    ⊢ St P A K c W O' iprop((r0 ∗ T) ∗ r1 ∗ X ∗ Y ∗ p1 ∗ s ∗ D) := by
  subst hO
  unfold St
  iintro ⟨#Hr, HX, HO, ⟨HW, HT⟩, Hs, Hr1, Hp1, HY, Hr0, HD⟩
  isplitr; · iexact Hr
  iframe

/-- Group `g`'s slabs have arrived: they are summed. -/
theorem st_sum (g : Fin 2) :
    St P A K c (waitS P A 1 g c 16) O iprop((rsPts c g c fullShare (rsF P c) ∗ agAny c g ∗ T) ∗ D)
    ⊢ St P A K c iprop(rsHalf c g (rsF P c) ∗ ∃ f, agPts c g c fullShare f) O iprop(T ∗ posE c 1 g ∗ D) := by
  unfold St agAny
  rw [rs_slabs]
  iintro ⟨#Hr, HW, HO, ⟨Hs, HA, HT⟩, HD⟩
  ihave HW' := (wait_done P A c 1 g) $$ HW
  icases HW' with ⟨Hp, Hs'⟩
  isplitr; · iexact Hr
  isplitl [Hs Hs' HA]
  · isplitl [Hs Hs']
    · isplitl [Hs]; · iexact Hs
      iexact Hs'
    iexact HA
  iframe

/-- Group `g`'s sum done: it is sent. -/
theorem st_ag (g : Fin 2) :
    St P A K c iprop(rsHalf c g (rsF P c) ∗ agPts c g c fullShare A) O iprop(((agTok c g ∗ agDst c g) ∗ T) ∗ D)
    ⊢ St P A K c (agS A g c 1) O iprop(T ∗ rsHalf c g (rsF P c) ∗ agPts c g c (leaf 4 fullShare c) A ∗ D) := by
  unfold St
  rw [ag_leaves]
  iintro ⟨#Hr, ⟨Hh, Hk, Hs⟩, HO, ⟨⟨Ht, Hd⟩, HT⟩, HD⟩
  isplitr; · iexact Hr
  isplitl [Ht Hd Hs]
  · iapply (ag_init A c g)
    iframe
  iframe

/-- The first group's sum sent: the second group's slabs are awaited. -/
theorem st_recv1 {h0 k0 q0 r1 : sProp (MT nD τ sig Unit (Elt F) ℕ UU ℕ)} (hO : O = O') :
    St P A K c X O iprop((W ∗ T) ∗ h0 ∗ k0 ∗ q0 ∗ r1 ∗ D)
    ⊢ St P A K c W O' iprop((r1 ∗ T) ∗ X ∗ h0 ∗ k0 ∗ q0 ∗ D) := by
  subst hO
  unfold St
  iintro ⟨#Hr, HX, HO, ⟨HW, HT⟩, H0, H1, H2, H3, HD⟩
  isplitr; · iexact Hr
  iframe

/-- The shares of the received slabs not needed for reading them. -/
def agRest : sProp 𝕄 :=
  iprop((bigSep (Finset.Ico 1 16) fun d => agRem A c 0 (pe c d)) ∗ bigSep (Finset.Ico 1 16) fun d => agRem A c 1 (pe c d))

/-- Everything received: one share of all of `ag`, to be read. -/
theorem st_read {cA1 h1 q1 cA0 h0 q0 : sProp (MT nD τ sig Unit (Elt F) ℕ UU ℕ)} :
    St P A K c (waitS P A 3 1 c 16) O iprop((outAny c ∗ T) ∗ waitS P A 3 0 c 16 ∗ cA1 ∗ h1 ∗ agPts c 1 c (leaf 4 fullShare c) A ∗ q1
      ∗ cA0 ∗ h0 ∗ agPts c 0 c (leaf 4 fullShare c) A ∗ q0 ∗ D)
    ⊢ St P A K c iprop(agAll c (leaf 4 fullShare c) A ∗ agRest A c ∗ outAny c) O iprop(T ∗ (posE c 3 0 ∗ posE c 3 1 ∗ q0 ∗ q1) ∗ (h0 ∗ h1) ∗ cA0 ∗ cA1 ∗ D) := by
  have hpay (g : Fin 2) : (bigSep (Finset.Ico 1 16) fun d => dmaPay P A c (3 : Fin 4).val g (pe c d) : sProp 𝕄)
      = iprop((bigSep (Finset.Ico 1 16) fun d => agPts c g (pe c d) (leaf 4 fullShare c) A) ∗ bigSep (Finset.Ico 1 16) fun d => agRem A c g (pe c d)) := by
    rw [← bigSep_sep']
    exact bigSep_congr fun d _ => ag_leaves A c g (pe c d)
  have hw (g : Fin 2) := wait_done P A c 3 g
  simp only [hpay] at hw
  unfold St agRest
  rw [ag_halves, ag_slabs, ag_slabs]
  iintro ⟨#Hr, HW1, HO, ⟨Ho, HT⟩, HW0, H1, H2, HK1, H3, H4, H5, HK0, H6, HD⟩
  ihave HW1' := (hw 1) $$ HW1
  ihave HW0' := (hw 0) $$ HW0
  icases HW1' with ⟨Hp1, Hs1, Ht1⟩
  icases HW0' with ⟨Hp0, Hs0, Ht0⟩
  isplitr; · iexact Hr
  iframe

/-- Read: the result is stored. -/
theorem st_out : St P A K c iprop(agAll c (leaf 4 fullShare c) A ∗ agRest A c ∗ outAny c) O D
    ⊢ St P A K c iprop((agAll c (leaf 4 fullShare c) A ∗ agRest A c) ∗ ∃ f, outPts c f) O D := by
  unfold St outAny
  iintro ⟨#Hr, ⟨H1, H2, H3⟩, HO, HD⟩
  isplitr; · iexact Hr
  iframe

/-- The result stored: the sent copies are awaited. -/
theorem st_sent {w : FVec F S1x512x1024 .f32} :
    St P A K c iprop((agAll c (leaf 4 fullShare c) A ∗ agRest A c) ∗ outPts c w) O
      iprop((posS c 0 0 ∗ posS c 0 1 ∗ posS c 2 0 ∗ posS c 2 1) ∗ X ∗ Y ∗ agS A 0 c 16 ∗ agS A 1 c 16 ∗ rsS P 1 c 16 ∗ rsS P 0 c 16 ∗ D)
    ⊢ St P A K c (waitS P A 0 0 c 1) O iprop((waitS P A 0 1 c 1 ∗ waitS P A 2 0 c 1 ∗ waitS P A 2 1 c 1 ∗ emp)
        ∗ (agAll c (leaf 4 fullShare c) A ∗ agRest A c) ∗ outPts c w ∗ X ∗ Y ∗ D) := by
  unfold St
  iintro ⟨#Hr, ⟨HA, Ho⟩, HO, ⟨H1, H2, H3, H4⟩, HX, HY, Ha0, Ha1, Hr1, Hr0, HD⟩
  ihave Ha0 := (ag_done A c 0) $$ Ha0
  ihave Ha1 := (ag_done A c 1) $$ Ha1
  ihave Hr0 := (rs_done P c 0) $$ Hr0
  ihave Hr1 := (rs_done P c 1) $$ Hr1
  isplitr; · iexact Hr
  isplitl [H1 Hr0]; · iapply (wait_init P A c 0 0); isplitl [Hr0] <;> iassumption
  isplitl [HO]; · iexact HO
  isplitl [H2 Hr1 H3 Ha0 H4 Ha1]
  · isplitl [H2 Hr1]; · iapply (wait_init P A c 0 1); isplitl [Hr1] <;> iassumption
    isplitl [H3 Ha0]; · iapply (wait_init P A c 2 0); isplitl [Ha0] <;> iassumption
    isplitl [H4 Ha1]; · iapply (wait_init P A c 2 1); isplitl [Ha1] <;> iassumption
    iempintro
  iframe

/-! ## The beginning and the end -/

/-- A product over the four sides. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A product over the exchanges' sides and the groups. -/
theorem bigSep_sides (Φ : Fin 4 → Fin 2 → sProp 𝕄) :
    (bigSep Finset.univ fun a : Fin 4 => bigSep Finset.univ fun g : Fin 2 => Φ a g)
      = iprop((Φ 0 0 ∗ Φ 0 1) ∗ (Φ 1 0 ∗ Φ 1 1) ∗ (Φ 2 0 ∗ Φ 2 1) ∗ Φ 3 0 ∗ Φ 3 1) := by
  rw [bigSep_four]; simp only [bigSep_two]

/-- A product over a device's semaphores: the barrier's; those that name the device itself, which are not used; the others. -/
theorem bigSep_keys (Φ : Option Key → sProp 𝕄) :
    bigSep Finset.univ Φ = iprop(Φ none ∗ (bigSep Finset.univ fun a : Fin 4 => bigSep Finset.univ fun g : Fin 2 => Φ (some (a, g, c)))
      ∗ bigSep Finset.univ fun a : Fin 4 => bigSep Finset.univ fun g : Fin 2 => bigSep (Finset.Ico 1 16) fun d => Φ (some (a, g, pe c d))) := by
  have h : (Finset.univ : Finset (Option Key)) = insert none (Finset.univ.map Function.Embedding.some) := by
    ext k; cases k <;> simp
  have h2 : bigSep (Finset.univ.map Function.Embedding.some) Φ = bigSep Finset.univ fun a : Fin 4 => bigSep Finset.univ fun g : Fin 2 => bigSep Finset.univ fun p : Dev nD => Φ (some (a, g, p)) := by
    rw [bigSep_map, bigSep_univ_prod]
    exact bigSep_congr fun a _ => bigSep_univ_prod (fun gp : Fin 2 × Dev nD => Φ (some (a, gp)))
  have h3 : bigSep (insert none (Finset.univ.map Function.Embedding.some)) Φ = iprop(Φ none ∗ bigSep (Finset.univ.map Function.Embedding.some) Φ) :=
    bigSep_insert (by simp)
  rw [h, h3, h2]
  simp only [bigSep_own c, bigSep_sep']

/-- The positions at the semaphores that name the device itself. -/
def posSelf : sProp 𝕄 := bigSep Finset.univ fun a : Fin 4 => bigSep Finset.univ fun g : Fin 2 => atPos ER (cell c a g c) 0 ∅ 0

/-- The round each semaphore is at in the end. -/
def rEnd (k : Option Key) : ℕ := match k with | none => 1 | some k => if k.2.2 = c then 0 else 1

/-- All the device's positions in the end. -/
theorem pos_end : iprop(atPos ER (barCell c) 1 ∅ 0 ∗ posSelf c ∗ (posE c 0 0 ∗ posE c 0 1) ∗ (posE c 1 0 ∗ posE c 1 1) ∗ (posE c 2 0 ∗ posE c 2 1) ∗ posE c 3 0 ∗ posE c 3 1)
    ⊢ (bigSep Finset.univ fun k : Option Key => atPos ER (kcell (c, k)) (rEnd c k) ∅ 0 : sProp 𝕄) := by
  have h1 (a : Fin 4) (g : Fin 2) : (bigSep (Finset.Ico 1 16) fun d => atPos ER (kcell (c, some (a, g, pe c d))) (rEnd c (some (a, g, pe c d))) ∅ 0 : sProp 𝕄) = posE c a g := by
    unfold posE
    refine bigSep_congr fun d hd => ?_
    rw [show rEnd c (some (a, g, pe c d)) = 1 from if_neg (pe_ne (Finset.mem_Ico.mp hd).1 (Finset.mem_Ico.mp hd).2 c)]
  have h2 (a : Fin 4) (g : Fin 2) : rEnd c (some (a, g, c)) = 0 := if_pos rfl
  rw [bigSep_keys c]
  simp only [h1, h2]
  rw [bigSep_sides (fun a g => posE c a g)]
  exact Entails.refl _

/-- All the device's positions at launch. -/
theorem pos_start : (bigSep Finset.univ fun k : Option Key => atPos ER (kcell (c, k)) 0 ∅ 0 : sProp 𝕄)
    = iprop(atPos ER (barCell c) 0 ∅ 0 ∗ posSelf c ∗ (posS c 0 0 ∗ posS c 0 1) ∗ (posS c 1 0 ∗ posS c 1 1) ∗ (posS c 2 0 ∗ posS c 2 1) ∗ posS c 3 0 ∗ posS c 3 1) := by
  rw [bigSep_keys c]
  rw [bigSep_sides (fun a g => bigSep (Finset.Ico 1 16) fun d => atPos ER (kcell (c, some (a, g, pe c d))) 0 ∅ 0)]
  rfl

/-- A device's semaphores, their positions being past their last duties, are closed at zero. -/
theorem close : iprop(records P A K ∗ bigSep Finset.univ fun k : Option Key => atPos ER (kcell (c, k)) (rEnd c k) ∅ 0)
    ⊢ (|={Set.univ}=> bigSep Finset.univ fun k : Option Key => semVal (kcell (c, k)) 0 : sProp 𝕄) := by
  refine BIBase.Entails.trans ?_ (Rounds.cells_close ER (Rd P A) Finset.univ (fun k => kcell (c, k)) (fun k => K (c, k)) (fun _ _ => Set.mem_univ _) (fun _ _ h => h) (rEnd c)
    (fun k _ r hr => by
      match k with
      | none => exact duties_later P A _ r hr
      | some (a, g, p) =>
        by_cases hp : p = c
        · subst hp; exact duties_self P A p a g r
        · rw [show rEnd c (some (a, g, p)) = 1 from if_neg hp] at hr
          exact duties_later P A _ r hr))
  rw [bigSep_sep']
  iintro ⟨#Hr, H⟩
  isplitr
  · iapply ((BI.bigSep_of_persistent Finset.univ (records P A K)).trans (bigSep_mono fun k _ => rec_inv P A K (c, k)))
    iexact Hr
  iexact H

/-- What device `c` starts from, beside the staged arrays. -/
def Start : sProp 𝕄 :=
  iprop(records P A K
    ∗ (sigTok c ∗ (rsTok c 0 ∗ rsTok c 1) ∗ agTok c 0 ∗ agTok c 1)
    ∗ (bigSep Finset.univ fun k : Option Key => atPos ER (kcell (c, k)) 0 ∅ 0)
    ∗ (cred (tallyAt (barCell c) () 15) ∗ (credS c 1 0 ∗ credS c 1 1) ∗ credS c 3 0 ∗ credS c 3 1)
    ∗ attnAny c ∗ (∃ f : Cont F, partAll c f) ∗ (∃ f : Cont F, rsAll c f) ∗ ∃ f : Cont F, agAll c fullShare f)

/-- What device `c` ends with, beside the staged arrays. -/
def Done : sProp 𝕄 :=
  iprop((bigSep Finset.univ fun k : Option Key => semVal (kcell (c, k)) 0)
    ∗ attnAny c ∗ (∃ f : Cont F, partAll c f) ∗ (∃ f : Cont F, rsAll c f) ∗ ∃ f : Cont F, agAll c fullShare f)

/-- The beginning: the signals first. -/
theorem st_begin : iprop(Start P A K c ∗ owesE c (O₀ c) ∗ Stg J c ∗ outAny c)
    ⊢ St P A K c (sigS c 1) (oXfer c + oB c 1) iprop((barIn c ∗ Stg J c ∗ attnAny c ∗ partAny c 0 ∗ rsAny c 0 ∗ rsTok c 0 ∗ partAny c 1 ∗ rsAny c 1 ∗ rsTok c 1
        ∗ waitS P A 1 0 c 1 ∗ agAny c 0 ∗ agTok c 0 ∗ waitS P A 1 1 c 1 ∗ agAny c 1 ∗ agTok c 1
        ∗ waitS P A 3 0 c 1 ∗ waitS P A 3 1 c 1 ∗ outAny c ∗ posS c 0 0 ∗ posS c 0 1 ∗ posS c 2 0 ∗ posS c 2 1) ∗ posSelf c) := by
  unfold Start St barIn partAny
  rw [pos_start]
  simp only [part_halves]
  iintro ⟨⟨#Hr, ⟨Ht, ⟨Hr0, Hr1⟩, Ha0, Ha1⟩, ⟨Hb, Hs, ⟨H00, H01⟩, ⟨H10, H11⟩, ⟨H20, H21⟩, H30, H31⟩, ⟨Cb, ⟨C10, C11⟩, C30, C31⟩, HA, ⟨%f, Hp0, Hp1⟩, HR, HG⟩, HO, HS, Hout⟩
  ihave Hi := (sig_init (F := F) c) $$ [Ht HR HG]
  · iframe
  icases Hi with ⟨Hi, ⟨R0, R1⟩, A0, A1⟩
  isplitr; · iexact Hr
  isplitl [Hi]; · iexact Hi
  isplitl [HO]; · iexact HO
  isplitr [Hs]
  · isplitl [Cb Hb]; · isplitl [Cb] <;> iassumption
    isplitl [HS]; · iexact HS
    isplitl [HA]; · iexact HA
    isplitl [Hp0]; · iexists f; iexact Hp0
    isplitl [R0]; · iexact R0
    isplitl [Hr0]; · iexact Hr0
    isplitl [Hp1]; · iexists f; iexact Hp1
    isplitl [R1]; · iexact R1
    isplitl [Hr1]; · iexact Hr1
    isplitl [C10 H10]; · iapply (wait_init P A c 1 0); isplitl [C10] <;> iassumption
    isplitl [A0]; · iexact A0
    isplitl [Ha0]; · iexact Ha0
    isplitl [C11 H11]; · iapply (wait_init P A c 1 1); isplitl [C11] <;> iassumption
    isplitl [A1]; · iexact A1
    isplitl [Ha1]; · iexact Ha1
    isplitl [C30 H30]; · iapply (wait_init P A c 3 0); isplitl [C30] <;> iassumption
    isplitl [C31 H31]; · iapply (wait_init P A c 3 1); isplitl [C31] <;> iassumption
    iframe
  · iexact Hs

/-- The end: the arrays are put together and the semaphores closed. -/
theorem st_end {w : FVec F S1x512x1024 .f32} :
    St P A K c (waitS P A 2 1 c 16) 0 iprop(emp ∗ waitS P A 2 0 c 16 ∗ waitS P A 0 1 c 16 ∗ waitS P A 0 0 c 16
      ∗ (agAll c (leaf 4 fullShare c) A ∗ agRest A c) ∗ outPts c w ∗ (posE c 3 0 ∗ posE c 3 1 ∗ posE c 1 0 ∗ posE c 1 1)
      ∗ (rsHalf c 0 (rsF P c) ∗ rsHalf c 1 (rsF P c)) ∗ partPts c 1 c fullShare (P c) ∗ (Stg J c ∗ attnAny c) ∗ partPts c 0 c fullShare (P c)
      ∗ atPos ER (barCell c) 1 ∅ 0 ∗ posSelf c)
    ⊢ |={Set.univ}=> iprop(Done c ∗ owesE c 0 ∗ Stg J c ∗ outPts c w) := by
  have hp (g : Fin 2) : waitS P A 0 g c 16 ⊢ iprop(posE c 0 g ∗ bigSep (Finset.Ico 1 16) fun d => partPts c g (pe c d) fullShare (P c)) := wait_done P A c 0 g
  have ha (g : Fin 2) : waitS P A 2 g c 16 ⊢ iprop(posE c 2 g ∗ agRem A c g c) := wait_done P A c 2 g
  have hag : iprop((agAll c (leaf 4 fullShare c) A ∗ agRest A c) ∗ agRem A c 0 c ∗ agRem A c 1 c) ⊢ (agAll c fullShare A : sProp 𝕄) := by
    unfold agRest
    simp only [ag_halves, ag_slabs, ag_leaves, bigSep_sep']
    iintro ⟨⟨⟨⟨H1, H2⟩, H3, H4⟩, H5, H6⟩, H7, H8⟩
    iframe
  unfold St Done
  iintro ⟨#Hr, W21, HO, -, W20, W01, W00, HA, Ho, ⟨q30, q31, q10, q11⟩, ⟨h0, h1⟩, p1, ⟨HS, Hat⟩, p0, Hb, Hself⟩
  ihave W21 := (ha 1) $$ W21; icases W21 with ⟨q21, a1⟩
  ihave W20 := (ha 0) $$ W20; icases W20 with ⟨q20, a0⟩
  ihave W01 := (hp 1) $$ W01; icases W01 with ⟨q01, b1⟩
  ihave W00 := (hp 0) $$ W00; icases W00 with ⟨q00, b0⟩
  ihave Hpos := (pos_end (F := F) c) $$ [Hb Hself q00 q01 q10 q11 q20 q21 q30 q31]
  · iframe
  imod (close P A K c) $$ [Hpos] with Hz
  · isplitr; · iexact Hr
    iexact Hpos
  imodintro
  isplitr [HO HS Ho]
  · isplitl [Hz]; · iexact Hz
    isplitl [Hat]; · iexact Hat
    isplitl [p0 b0 p1 b1]
    · iexists (P c)
      rw [part_halves, part_slabs, part_slabs]
      iframe
    isplitl [h0 h1]
    · iexists (rsF P c)
      rw [rs_halves]
      iframe
    iexists A
    iapply hag
    iframe
  iframe

end Cert.KernelIdealProof

end
-- ==== Proof.KernelIdealLaunch.lean ====
/-
# The launch

What the launch deals out, what every device starts from and ends with, and the run of the whole program.
-/
module

public import proofs.«01_k».proof.Proof.KernelIdealPhases
public import proofs.«01_k».proof.Proof.Gen.KernelIdeal.Frame

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.ShareLeaves (leaf)

variable {F : FTy → Type} [FloatOps F]

local notation "𝕄" => MT nD τ sig Unit (Elt F) ℕ UU ℕ

/-! ## What the devices owe each other at launch -/

/-- A sum over the distances is one over the other devices. -/
theorem sum_others {M : Type} [AddCommMonoid M] (c : Dev nD) (T : Dev nD → M) :
    ∑ d ∈ Finset.Ico 1 16, T (pe c d) = ∑ x ∈ Finset.univ.erase c, T x := by
  rw [← image_pe c, Finset.sum_image (pe_injOn c)]

/-- Barrier cells are equal only of one device, -/
theorem bar_eq_iff {a b : Dev nD} : barCell a = barCell b ↔ a = b :=
  ⟨fun h => congrArg (fun g : GSem nD τ sig => g.1.1) h, fun h => h ▸ rfl⟩

/-- and copies' cells only with equal coordinates. -/
theorem cell_eq_iff {x y : Dev nD} {a a' : Fin 4} {g g' : Fin 2} {p p' : Dev nD} : cell x a g p = cell y a' g' p' ↔ x = y ∧ (a = a' ∧ g = g') ∧ p = p' :=
  ⟨fun h => by
    have h' := kcell_injective (a₁ := (x, some (a, g, p))) (a₂ := (y, some (a', g', p'))) h
    simp only [Prod.mk.injEq, Option.some.injEq] at h'
    exact ⟨h'.1, ⟨h'.2.1, h'.2.2.1⟩, h'.2.2.2⟩,
   fun ⟨h1, ⟨h2, h3⟩, h4⟩ => by rw [h1, h2, h3, h4]⟩

/-- Device `e` owes every other device's barrier semaphore one unit; -/
theorem oB_bar (e c : Dev nD) : oB e 1 (barCell c) () = if c = e then 0 else 1 := by
  unfold oB
  rw [sum_others e fun x => tallyAt (barCell x) () 1, Finset.sum_apply, Finsupp.finset_sum_apply]
  have h (x : Dev nD) : tallyAt (barCell x) () 1 (barCell c) () = if c = x then 1 else 0 := by
    rw [tallyAt_apply]; exact if_congr (by rw [bar_eq_iff]; exact and_iff_left rfl) rfl rfl
  rw [Finset.sum_congr rfl fun x _ => h x, Finset.sum_ite_eq]
  by_cases hc : c = e
  · rw [if_pos hc, if_neg (by rw [hc]; exact Finset.notMem_erase _ _)]
  · rw [if_neg hc, if_pos (Finset.mem_erase.mpr ⟨hc, Finset.mem_univ _⟩)]
/-- No copy's semaphore is owed a signal, -/
theorem oB_cell (e c : Dev nD) (a g p) : oB e 1 (cell c a g p) () = 0 := by
  by_contra h
  obtain ⟨d, hd⟩ := oB_pos (Nat.pos_of_ne_zero h)
  exact nomatch congrArg Prod.snd hd
/-- and no barrier semaphore a copy. -/
theorem oD_bar (a g) (e c : Dev nD) : oD a g e 1 (barCell c) () = 0 := by
  by_contra h
  obtain ⟨d, hd⟩ := oD_pos (Nat.pos_of_ne_zero h)
  exact nomatch congrArg Prod.snd hd
/-- and the receiving semaphore of its copy to every other device that copy's credit. -/
theorem oD_cell (a a' : Fin 4) (g g' : Fin 2) (e c p : Dev nD) :
    oD a g e 1 (cell c a' g' p) () = if (a' = a ∧ g' = g) ∧ p = e ∧ c ≠ e then N else 0 := by
  unfold oD
  rw [sum_others e fun x => tallyAt (cell x a g e) () N, Finset.sum_apply, Finsupp.finset_sum_apply]
  have h (x : Dev nD) : tallyAt (cell x a g e) () N (cell c a' g' p) () = if c = x then (if (a' = a ∧ g' = g) ∧ p = e then N else 0) else 0 := by
    rw [tallyAt_apply, ← ite_and]; exact if_congr (by rw [cell_eq_iff]; exact and_iff_left rfl) rfl rfl
  rw [Finset.sum_congr rfl fun x _ => h x, Finset.sum_ite_eq]
  by_cases hc : c = e
  · rw [if_neg (by rw [hc]; exact Finset.notMem_erase _ _), if_neg fun h => h.2.2 hc]
  · rw [if_pos (Finset.mem_erase.mpr ⟨hc, Finset.mem_univ _⟩)]
    exact if_congr ⟨fun h => ⟨h.1, h.2, hc⟩, fun h => ⟨h.1, h.2.1⟩⟩ rfl rfl

/-- At launch a device owes every other device's barrier semaphore one unit, -/
theorem O₀_bar (e c : Dev nD) : O₀ e (barCell c) () = if c = e then 0 else 1 := by
  unfold O₀ oXfer oAg
  simp only [Pi.add_apply, Finsupp.add_apply, oD_bar, oB_bar, Nat.zero_add]
/-- and the receiving semaphore of its copy to another device one slab's credit. -/
theorem O₀_cell (a : Fin 4) (ha : a = 1 ∨ a = 3) (g : Fin 2) (e c p : Dev nD) : O₀ e (cell c a g p) () = if p = e ∧ c ≠ e then N else 0 := by
  unfold O₀ oXfer oAg
  simp only [Pi.add_apply, Finsupp.add_apply, oD_cell, oB_cell, Nat.add_zero]
  rcases ha with rfl | rfl <;> fin_cases g <;> simp

/-- All devices together owe a barrier semaphore fifteen units, -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun e _ => O₀_bar e c]
  revert c; decide

/-- and a receiving semaphore one slab's credit. -/
theorem launch_cell (a : Fin 4) (ha : a = 1 ∨ a = 3) (g : Fin 2) (c p : Dev nD) (hp : p ≠ c) :
    tallyOn (cell c a g p) (launchCredit (Pipeline.owing O₀) 0 (cell c a g p)) = (tallyAt (cell c a g p) () N : CellTallies nD τ sig Unit) := by
  unfold tallyAt; refine congrArg _ (Finsupp.ext fun u => ?_); cases u
  have h (e : Dev nD) : O₀ e (cell c a g p) () = if p = e then N else 0 := by
    rw [O₀_cell a ha]
    exact if_congr ⟨fun h => h.1, fun h => ⟨h, fun h' => hp (h.trans h'.symm)⟩⟩ rfl rfl
  rw [Pipeline.launchCredit_owing, Finsupp.single_eq_same, Finset.sum_congr rfl fun e _ => h e, Finset.sum_ite_eq, if_pos (Finset.mem_univ _)]

/-- A device's credits at launch. -/
def credits (c : Dev nD) : sProp 𝕄 := iprop(cred (tallyAt (barCell c) () 15) ∗ (credS c 1 0 ∗ credS c 1 1) ∗ credS c 3 0 ∗ credS c 3 1)

/-- So the launch gives each device the credits of its waits. -/
theorem creds (c : Dev nD) : (Pipeline.launchCred O₀ c : sProp 𝕄) ⊢ credits c := by
  have h1 : (Pipeline.launchCred O₀ c : sProp 𝕄)
      ⊢ bigSep Finset.univ fun k : Option Key => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]
    exact BI.Entails.refl _
  have h2 (a : Fin 4) (ha : a = 1 ∨ a = 3) (g : Fin 2) :
      (bigSep (Finset.Ico 1 16) fun d => cred (tallyOn (kcell (c, some (a, g, pe c d))) (launchCredit (Pipeline.owing O₀) 0 (kcell (c, some (a, g, pe c d))))) : sProp 𝕄)
        = credS c a g := by
    unfold credS
    exact bigSep_congr fun d hd => congrArg cred (launch_cell a ha g c (pe c d) (pe_ne (Finset.mem_Ico.mp hd).1 (Finset.mem_Ico.mp hd).2 c))
  refine h1.trans ?_
  rw [bigSep_keys c]
  simp only [bigSep_sides]
  unfold credits
  rw [h2 1 (Or.inl rfl), h2 1 (Or.inl rfl), h2 3 (Or.inr rfl), h2 3 (Or.inr rfl), launch_bar c]
  iintro ⟨H, -, -, ⟨H1, H2⟩, -, H3, H4⟩
  iframe

/-! ## What the launch deals out -/

variable (P : Dev nD → Cont F) (A : Cont F)

def cells : Finset (GSem nD τ sig) := Finset.univ.map ⟨kcell, kcell_injective⟩

/-- A duty of every device at every semaphore. -/
abbrev tokOf (x : (Dev nD × Option Key) × Dev nD) : GSem nD τ sig × ℕ × Dev nD := (kcell x.1, 0, x.2)
/-- The duties named at launch are all different. -/
theorem tokOf_injective : Function.Injective tokOf := fun x y h => by
  have h1 := kcell_injective (congrArg Prod.fst h)
  have h2 := congrArg (fun z : GSem nD τ sig × ℕ × Dev nD => z.2.2) h
  exact Prod.ext h1 h2
def duty : Finset (GSem nD τ sig × ℕ × Dev nD) := Finset.univ.map ⟨tokOf, tokOf_injective⟩

def u₀ : UU := (initOf (Pipeline.cells cfgs cellOf_inj) (Pipeline.launchToks cfgs cellOf_inj), initOf cells duty)

/-- The duties at device `c`'s own semaphores. -/
def toks (c : Dev nD) : sProp 𝕄 := bigSep Finset.univ fun k : Option Key => bigSep Finset.univ fun e : Dev nD => dutyTok ER (kcell (c, k)) 0 e

/-- What the launch deals device `c`. -/
def G (c : Dev nD) : sProp 𝕄 :=
  iprop((bigSep Finset.univ fun k : Option Key => roundState ER (Rd P A) (kcell (c, k)) 0)
    ∗ (bigSep Finset.univ fun k : Option Key => reached ER (kcell (c, k)) 0)
    ∗ (bigSep Finset.univ fun k : Option Key => atPos ER (kcell (c, k)) 0 ∅ 0) ∗ toks c)

/-- From the empty rounds come every semaphore's state and duties, dealt out to the devices. -/
theorem fund : BI.own (ER (initOf cells duty)) ⊢ (|==> bigSep Finset.univ (G P A) : sProp 𝕄) := by
  have hX (Φ : GSem nD τ sig → sProp 𝕄) : bigSep cells Φ = bigSep Finset.univ fun c : Dev nD => bigSep Finset.univ fun k : Option Key => Φ (kcell (c, k)) := by
    unfold cells; rw [bigSep_map, bigSep_univ_prod]; rfl
  have hT : bigSep duty (fun x => (dutyTok ER x.1 x.2.1 x.2.2 : sProp 𝕄)) = bigSep Finset.univ fun c : Dev nD => toks c := by
    unfold duty toks; rw [bigSep_map, bigSep_univ_prod, bigSep_univ_prod]; rfl
  have h := Rounds.fund ER (Rd P A) cells duty
  simp only [hX, hT] at h
  refine BIBase.Entails.trans h (BI.bupd_mono ?_)
  unfold G; simp only [bigSep_sep']
  exact BI.Entails.refl _

/-! ## The semaphores at zero -/

/-- A product over the barrier and the keys is the barrier's factor and the product over the keys. -/
theorem bigSep_option (Φ : Option Key → sProp 𝕄) : bigSep Finset.univ Φ = iprop(Φ none ∗ bigSep Finset.univ fun k : Key => Φ (some k)) := by
  have h : (Finset.univ : Finset (Option Key)) = insert none (Finset.univ.map Function.Embedding.some) := by
    ext k; cases k <;> simp
  have h3 : bigSep (insert none (Finset.univ.map Function.Embedding.some)) Φ = iprop(Φ none ∗ bigSep (Finset.univ.map Function.Embedding.some) Φ) :=
    bigSep_insert (by simp)
  rw [h, h3, bigSep_map]; rfl

/-- The semaphore that outlives the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores of a device at zero. -/
abbrev ownS (c : Dev nD) : sProp 𝕄 := Pipeline.ownSems0 (Ix := Unit) (Name := ℕ) (U := UU) (Lvl := ℕ) (Val := Elt F) (τ := τ) osem c

/-- The barrier semaphore and the kernel's own, all at zero. -/
theorem sems0_eq (c : Dev nD) : (bigSep Finset.univ fun k : Option Key => semVal (kcell (c, k)) 0 : sProp 𝕄) = iprop(unscopedSems0 c ∗ ownS c) := by
  rw [unscopedSems0_eq, bigSep_option]; rfl

/-! ## The invariants allocated and the duties handed round -/

/-- A device puts its semaphores at zero into their invariants and keeps positions and duties. -/
theorem core_alloc (c : Dev nD) : iprop(ownS c ∗ unscopedSems0 c ∗ G P A c)
    ⊢ |={Set.univ}=> iprop((bigSep Finset.univ fun k => iprop(∃ κ : ℕ, cellInv ER (Rd P A) κ (kcell (c, k))))
        ∗ (bigSep Finset.univ fun k : Option Key => reached ER (kcell (c, k)) 0)
        ∗ (bigSep Finset.univ fun k : Option Key => atPos ER (kcell (c, k)) 0 ∅ 0) ∗ toks c) := by
  have hinv : iprop((bigSep Finset.univ fun k : Option Key => semVal (kcell (c, k)) 0) ∗ bigSep Finset.univ fun k : Option Key => roundState ER (Rd P A) (kcell (c, k)) 0)
      ⊢ (|={Set.univ}=> bigSep Finset.univ fun k => iprop(∃ κ : ℕ, cellInv ER (Rd P A) κ (kcell (c, k))) : sProp 𝕄) := by
    rw [← bigSep_sep']
    exact (bigSep_mono fun k _ => (Rounds.body_intro ER (Rd P A) (kcell (c, k))).trans inv_alloc).trans (bigSep_fupd _ _)
  rw [sems0_eq] at hinv
  unfold G
  iintro ⟨Ho, Hu, Hst, Hre, Hat, Htok⟩
  imod hinv $$ [Ho Hu Hst] with Hinv
  · isplitl [Ho Hu]; · isplitl [Hu] <;> iassumption
    iexact Hst
  imodintro
  iframe

/-- The duties device `c` performs. -/
def payToks (c : Dev nD) : sProp 𝕄 := iprop(sigTok c ∗ (rsTok c 0 ∗ rsTok c 1) ∗ agTok c 0 ∗ agTok c 1)

/-- Of all ordered pairs of devices, grouped by the first or by the second. -/
theorem swap_others (Φ : Dev nD → Dev nD → sProp 𝕄) :
    (bigSep Finset.univ fun c : Dev nD => bigSep (Finset.Ico 1 16) fun d => Φ c (pe c d))
      = bigSep Finset.univ fun c : Dev nD => bigSep (Finset.Ico 1 16) fun d => Φ (pe c d) c := by
  have h1 (c : Dev nD) := bigSep_others (F := F) c (Φ c)
  have h2 (c : Dev nD) := bigSep_others (F := F) c (fun e => Φ e c)
  simp only [← h1, ← h2]
  exact bigSep_erase_comm Φ

/-- The duties at a device's semaphores go to the devices that pay them. -/
theorem toks_around : (bigSep Finset.univ fun c : Dev nD => (toks c : sProp 𝕄)) ⊢ bigSep Finset.univ fun c : Dev nD => payToks c := by
  have h1 (c : Dev nD) : (toks c : sProp 𝕄) ⊢ iprop((bigSep (Finset.Ico 1 16) fun d => dutyTok ER (barCell c) 0 (pe c d))
      ∗ bigSep Finset.univ fun a : Fin 4 => bigSep Finset.univ fun g : Fin 2 => bigSep (Finset.Ico 1 16) fun d => dutyTok ER (cell c a g (pe c d)) 0 (0 : Fin 16)) := by
    have hk (a g d) : (bigSep Finset.univ fun e : Dev nD => dutyTok ER (kcell (c, some (a, g, pe c d))) 0 e : sProp 𝕄) ⊢ dutyTok ER (cell c a g (pe c d)) 0 (0 : Fin 16) :=
      bigSep_elim (Finset.mem_univ (0 : Fin 16))
    have hk' : (bigSep Finset.univ fun a : Fin 4 => bigSep Finset.univ fun g : Fin 2 => bigSep (Finset.Ico 1 16) fun d =>
          bigSep Finset.univ fun e : Dev nD => dutyTok ER (kcell (c, some (a, g, pe c d))) 0 e : sProp 𝕄)
        ⊢ bigSep Finset.univ fun a : Fin 4 => bigSep Finset.univ fun g : Fin 2 => bigSep (Finset.Ico 1 16) fun d => dutyTok ER (cell c a g (pe c d)) 0 (0 : Fin 16) :=
      bigSep_mono fun a _ => bigSep_mono fun g _ => bigSep_mono fun d _ => hk a g d
    have hb : (bigSep Finset.univ fun e : Dev nD => dutyTok ER (kcell (c, none)) 0 e : sProp 𝕄) ⊢ bigSep (Finset.Ico 1 16) fun d => dutyTok ER (barCell c) 0 (pe c d) := by
      rw [← bigSep_others c fun e => dutyTok ER (barCell c) 0 e]
      exact bigSep_subset (Finset.erase_subset _ _)
    unfold toks
    rw [bigSep_keys c]
    iintro ⟨H1, -, H2⟩
    isplitl [H1]; · iapply hb; iexact H1
    iapply hk'; iexact H2
  have hs (a : Fin 4) (g : Fin 2) := swap_others (F := F) fun c p => dutyTok ER (cell c a g p) 0 (0 : Fin 16)
  have hsb := swap_others (F := F) fun c p => dutyTok ER (barCell c) 0 p
  refine (bigSep_mono fun c _ => h1 c).trans ?_
  unfold payToks sigTok rsTok agTok
  have h4 (c : Dev nD) := bigSep_sides (F := F) fun a g => bigSep (Finset.Ico 1 16) fun d => dutyTok ER (cell c a g (pe c d)) 0 (0 : Fin 16)
  simp only [h4, bigSep_sep']
  rw [hsb, hs 1 0, hs 1 1, hs 3 0, hs 3 1]
  show (_ : sProp 𝕄) ⊢ _
  iintro ⟨H, ⟨H00, H01⟩, ⟨H10, H11⟩, ⟨H20, H21⟩, H30, H31⟩
  iframe

/-- Every cell's invariant and that every cell has reached round 0. -/
def recs (K : Dev nD × Option Key → ℕ) : sProp 𝕄 :=
  iprop((bigSep Finset.univ fun ck : Dev nD × Option Key => cellInv ER (Rd P A) (K ck) (kcell ck))
    ∗ bigSep Finset.univ fun ck : Dev nD × Option Key => reached ER (kcell ck) 0)

instance recs_persistent (K : Dev nD × Option Key → ℕ) : BI.Persistent (recs P A K) := by unfold recs; infer_instance

/-- What stays with device `c`. -/
def linear (c : Dev nD) : sProp 𝕄 := iprop((bigSep Finset.univ fun k : Option Key => atPos ER (kcell (c, k)) 0 ∅ 0) ∗ payToks c)

/-- What device `c` has once the invariants are allocated. -/
def G' (c : Dev nD) : sProp 𝕄 := iprop(∃ K, recs P A K ∗ linear c)

/-- Knowledge held once serves every factor of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants become common knowledge, and the duties go to those who pay them. -/
theorem regroup :
    (bigSep Finset.univ fun c : Dev nD => iprop((bigSep Finset.univ fun k => iprop(∃ κ : ℕ, cellInv ER (Rd P A) κ (kcell (c, k))))
        ∗ (bigSep Finset.univ fun k : Option Key => reached ER (kcell (c, k)) 0)
        ∗ (bigSep Finset.univ fun k : Option Key => atPos ER (kcell (c, k)) 0 ∅ 0) ∗ toks c) : sProp 𝕄)
      ⊢ bigSep Finset.univ (G' P A) := by
  rw [bigSep_sep', bigSep_sep', bigSep_sep', ← bigSep_univ_prod (fun ck : Dev nD × Option Key => iprop(∃ κ : ℕ, cellInv ER (Rd P A) κ (kcell ck))),
    ← bigSep_univ_prod (fun ck : Dev nD × Option Key => (reached ER (kcell ck) 0 : sProp 𝕄))]
  iintro ⟨HI, #HR, Hat, Htok⟩
  ihave HK := (BI.bigSep_exists_pi Finset.univ (fun (ck : Dev nD × Option Key) (κ : ℕ) => (cellInv ER (Rd P A) κ (kcell ck) : sProp 𝕄))) $$ HI
  icases HK with ⟨%K, #HI⟩
  ihave Htk := (toks_around (F := F)) $$ Htok
  have hl (c : Dev nD) : iprop(recs P A K ∗ linear c) ⊢ G' P A c := by
    unfold G'
    iintro H
    iexists K; iexact H
  iapply (with_persistent (R := recs P A K) fun c _ => hl c)
  isplitr
  · unfold recs; isplitl; · iexact HI
    iexact HR
  · unfold linear
    rw [bigSep_sep']
    isplitl [Hat] <;> iassumption

/-- Every device's semaphores allocated at once. -/
theorem glob : (bigSep Finset.univ fun c => iprop(ownS c ∗ unscopedSems0 c ∗ G P A c) : sProp 𝕄) ⊢ |={Set.univ}=> bigSep Finset.univ (G' P A) :=
  ((bigSep_mono fun c _ => core_alloc P A c).trans (bigSep_fupd _ _)).trans (BI.fupd_mono (regroup P A))

end Cert.KernelIdealProof

end
-- ==== Proof.KernelIdealBody.lean ====
/-
# One device's run of the kernel

The program, effect by effect, from what the device starts with to what it ends with.
-/
module

public import proofs.«01_k».proof.Proof.KernelIdealPhases
public import Idealize.ShloMosaic.Lib.Pointwise.Reshape

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

/-! ## Where the copies go -/

/-- The offsets of the semaphores of the device at distance `d`; -/
theorem off2_eq (c : Dev nD) (d : ℕ) (hd : d < 16) : k0_off2 c (BitVec.ofNat 32 d) = ![(0 : Fin 2).val, (pe c d).val] :=
  (by decide +kernel : ∀ (c : Dev nD) (w : Fin 16), k0_off2 c (BitVec.ofNat 32 w.val) = ![(0 : Fin 2).val, (pe c w.val).val]) c ⟨d, hd⟩
/-- in the second group likewise; -/
theorem off6_eq (c : Dev nD) (d : ℕ) (hd : d < 16) : k0_off6 c (BitVec.ofNat 32 d) = ![(1 : Fin 2).val, (pe c d).val] :=
  (by decide +kernel : ∀ (c : Dev nD) (w : Fin 16), k0_off6 c (BitVec.ofNat 32 w.val) = ![(1 : Fin 2).val, (pe c w.val).val]) c ⟨d, hd⟩
/-- of that device's slab. -/
theorem off5_eq (g : Fin 2) (c : Dev nD) (d : ℕ) (hd : d < 16) :
    k0_off5 c (BitVec.ofNat 32 (256 * g.val)) (BitVec.ofNat 32 d) = ![256 * g.val + 16 * (pe c d).val, 0] :=
  (by decide +kernel : ∀ (g : Fin 2) (c : Dev nD) (w : Fin 16),
    k0_off5 c (BitVec.ofNat 32 (256 * g.val)) (BitVec.ofNat 32 w.val) = ![256 * g.val + 16 * (pe c w.val).val, 0]) g c ⟨d, hd⟩

/-- The program on a core, its staged arrays and its own arrays given. -/
abbrev body (F : FTy → Type) [FloatOps F] : Prog (TpuEff nD τ sig (Elt F) Λ₀ .tc) PUnit :=
  cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    attnM (Memref.isWhole_whole _) partM (Memref.isWhole_whole _) rsM (Memref.isWhole_whole _) agM (Memref.isWhole_whole _)
    cc0_scratch4 cc0_scratch5 cc0_scratch6 cc0_scratch7

variable (I : Dev nD → Ins F) (K : Dev nD × Option Key → ℕ) (c : Dev nD)

set_option maxHeartbeats 4000000
set_option maxRecDepth 100000

/-- The whole body, at any device: from what the device starts with to the result stored and everything paid. -/
theorem run_body (Q : PUnit → sProp 𝕄) (hQ : iprop(Done c ∗ owesE c 0 ∗ Stg (I c) c ∗ outPts c (outF I)) ⊢ Q ⟨⟩) :
    iprop(Start (PF I) (AF I) K c ∗ owesE c (O₀ c) ∗ Stg (I c) c ∗ outAny c)
      ⊢ wp frame (wpE (defs₀ (F := F)) 𝒱₀ (c : Thread nD τ) none) Set.univ (body F) Q := by
  refine (st_begin (PF I) (AF I) K (I c) c).trans ?_
  unfold body
  rw [cc0_body_eq_skeleton]; unfold cc0_body_skel
  rw [k0_part109_eq_skeleton]; unfold k0_part109_skel
  simp only [k0_part1_eq_skeleton, k0_part1_skel, semSignalWord, semWaitWord, Prog.lift, Prog.bind_op, Prog.bind_ret, Prog.pure_eq_ret, wp_deviceId]
  iterate 2 refine sig_step _ _ _ c _ (by decide) (by decide +kernel) ?_
  simp only [k0_part2_eq_skeleton, k0_part2_skel, semSignalWord, semWaitWord, Prog.lift, Prog.bind_op, Prog.bind_ret, Prog.pure_eq_ret]
  iterate 2 refine sig_step _ _ _ c _ (by decide) (by decide +kernel) ?_
  simp only [k0_part3_eq_skeleton, k0_part3_skel, semSignalWord, semWaitWord, Prog.lift, Prog.bind_op, Prog.bind_ret, Prog.pure_eq_ret]
  iterate 3 refine sig_step _ _ _ c _ (by decide) (by decide +kernel) ?_
  simp only [k0_part4_eq_skeleton, k0_part4_skel, semSignalWord, semWaitWord, Prog.lift, Prog.bind_op, Prog.bind_ret, Prog.pure_eq_ret]
  iterate 2 refine sig_step _ _ _ c _ (by decide) (by decide +kernel) ?_
  simp only [k0_part5_eq_skeleton, k0_part5_skel, semSignalWord, semWaitWord, Prog.lift, Prog.bind_op, Prog.bind_ret, Prog.pure_eq_ret]
  iterate 3 refine sig_step _ _ _ c _ (by decide) (by decide +kernel) ?_
  simp only [k0_part6_eq_skeleton, k0_part6_skel, semSignalWord, semWaitWord, Prog.lift, Prog.bind_op, Prog.bind_ret, Prog.pure_eq_ret]
  iterate 2 refine sig_step _ _ _ c _ (by decide) (by decide +kernel) ?_
  simp only [k0_part7_eq_skeleton, k0_part7_skel, semSignalWord, semWaitWord, Prog.lift, Prog.bind_op, Prog.bind_ret, Prog.pure_eq_ret]
  refine sig_step _ _ _ c _ (by decide) (by decide +kernel) ?_
  refine (st_bar _ _ _ c).trans ?_
  refine bar_step _ _ _ c (above_oXfer c) ?_
  refine (st_compute0 _ _ _ (I c) c).trans ?_
  refine load_x _ _ _ _ c ?_
  refine load_wk _ _ _ _ c ?_
  refine load_wv _ _ _ _ c ?_
  refine load_wq _ _ _ _ c ?_
  refine attn_load _ _ _ _ c 0 _ fun _ => ?_
  simp only [k0_part8_eq_skeleton, k0_part8_skel, semSignalWord, semWaitWord, Prog.lift, Prog.bind_op, Prog.bind_ret, Prog.pure_eq_ret]
  refine attn_store _ _ _ _ c 0 0 rfl rfl rfl (by exact head00 (I c)) rfl ?_
  refine attn_load _ _ _ _ c 0 _ fun _ => ?_
  refine attn_store _ _ _ _ c 0 1 rfl rfl rfl (by exact head01 (I c)) rfl ?_
  refine attn_load _ _ _ _ c 0 _ fun _ => ?_
  refine attn_store _ _ _ _ c 0 2 rfl rfl rfl (by exact head02 (I c)) rfl ?_
  simp only [k0_part9_eq_skeleton, k0_part9_skel, semSignalWord, semWaitWord, Prog.lift, Prog.bind_op, Prog.bind_ret, Prog.pure_eq_ret]
  refine attn_load _ _ _ _ c 0 _ fun _ => ?_
  refine attn_store _ _ _ _ c 0 3 rfl rfl rfl (by exact head03 (I c)) rfl ?_
  refine attn_load _ _ _ _ c 0 _ fun _ => ?_
  refine attn_store _ _ _ _ c 0 4 rfl rfl rfl (by exact head04 (I c)) rfl ?_
  simp only [k0_part10_eq_skeleton, k0_part10_skel, semSignalWord, semWaitWord, Prog.lift, Prog.bind_op, Prog.bind_ret, Prog.pure_eq_ret]
  refine attn_load _ _ _ _ c 0 _ fun _ => ?_
  refine attn_store _ _ _ _ c 0 5 rfl rfl rfl (by exact head05 (I c)) rfl ?_
  refine attn_load _ _ _ _ c 0 _ fun _ => ?_
  refine attn_store _ _ _ _ c 0 6 rfl rfl rfl (by exact head06 (I c)) rfl ?_
  simp only [k0_part11_eq_skeleton, k0_part11_skel, semSignalWord, semWaitWord, Prog.lift, Prog.bind_op, Prog.bind_ret, Prog.pure_eq_ret]
  refine attn_load _ _ _ _ c 0 _ fun _ => ?_
  refine attn_store _ _ _ _ c 0 7 rfl rfl rfl (by exact head07 (I c)) rfl ?_
  refine attn_rows _ _ _ _ c 0 rfl ?_
  refine load_wo _ _ _ _ c ?_
  refine (st_product _ _ _ _ c 0).trans ?_
  refine part_load _ _ _ _ c 0 rfl fun _ => ?_
  refine part_step _ _ _ _ c 0 rfl (by rfl) rfl ?_
  refine part_own _ _ _ _ c 0 _ (by exact k0_off1_eq c 0) ?_
  refine rs_load _ _ _ _ c 0 (by exact k0_off1_eq c 0) fun _ => ?_
  refine rs_own _ _ _ _ c 0 rfl (by exact shapeCast_id _ _) (by exact k0_off1_eq c 0) ?_
  refine (st_rs _ _ _ _ c 0).trans ?_
  simp only [k0_part12_eq_skeleton, k0_part12_skel, semSignalWord, semWaitWord, Prog.lift, Prog.bind_op, Prog.bind_ret, Prog.pure_eq_ret]
  refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part13_eq_skeleton, k0_part13_skel, semSignalWord, semWaitWord, Prog.lift, Prog.bind_op, Prog.bind_ret, Prog.pure_eq_ret]
  iterate 2 refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part14_eq_skeleton, k0_part14_skel, semSignalWord, semWaitWord, Prog.lift, Prog.bind_op, Prog.bind_ret, Prog.pure_eq_ret]
  refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part15_eq_skeleton, k0_part15_skel, semSignalWord, semWaitWord, Prog.lift, Prog.bind_op, Prog.bind_ret, Prog.pure_eq_ret]
  iterate 2 refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part16_eq_skeleton, k0_part16_skel, semSignalWord, semWaitWord, Prog.lift, Prog.bind_op, Prog.bind_ret, Prog.pure_eq_ret]
  refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part17_eq_skeleton, k0_part17_skel, semSignalWord, semWaitWord, Prog.lift, Prog.bind_op, Prog.bind_ret, Prog.pure_eq_ret]
  iterate 2 refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part18_eq_skeleton, k0_part18_skel, semSignalWord, semWaitWord, Prog.lift, Prog.bind_op, Prog.bind_ret, Prog.pure_eq_ret]
  refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part19_eq_skeleton, k0_part19_skel, semSignalWord, semWaitWord, Prog.lift, Prog.bind_op, Prog.bind_ret, Prog.pure_eq_ret]
  iterate 2 refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part20_eq_skeleton, k0_part20_skel, semSignalWord, semWaitWord, Prog.lift, Prog.bind_op, Prog.bind_ret, Prog.pure_eq_ret]
  refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part21_eq_skeleton, k0_part21_skel, semSignalWord, semWaitWord, Prog.lift, Prog.bind_op, Prog.bind_ret, Prog.pure_eq_ret]
  iterate 2 refine rs_step _ _ _ c 0 _ (by decide) (Fin.ext (by clear * - c; revert c; decide +kernel)) (by exact off5_eq 0 c _ (by decide)) (by exact k0_off4_eq c 0) (by exact sem_eq _ _ sem4 (off2_eq c _ (by decide))) (by exact sem_eq _ _ sem5 (k0_off3_eq c)) ?_
  simp only [k0_part22_eq_skeleton, k0_part22_skel, semSignalWord, semWaitWord, Prog.lift, Prog.bind_op, Prog.bind_ret, Prog.pure_eq_ret]
  refine (st_compute1 _ _ _ _ c (O' := oAg c + oD 1 1 c 1) (by rw [oD_last, add_zero])).trans ?_
  refine load_wq _ _ _ _ c ?_
  refine attn_load _ _ _ _ c 1 _ fun _ => ?_
  refine attn_store _ _ _ _ c 1 0 rfl rfl rfl (by exact head10 (I c)) rfl ?_
  refine attn_load _ _ _ _ c 1 _ fun _ => ?_
  refine attn_store _ _ _ _ c 1 1 rfl rfl rfl (by exact head11 (I c)) rfl ?_
  simp only [k0_part23_eq_skeleton, k0_part23_skel, semSignalWord, semWaitWord, Prog.lift, Prog.bind_op, Prog.bind_ret, Prog.pure_eq_ret]
  refine attn_load _ _ _ _ c 1 _ fun _ => ?_
  refine attn_store _ _ _ _ c 1 2 rfl rfl rfl (by exact head12 (I c)) rfl ?_
  refine attn_load _ _ _ _ c 1 _ fun _ => ?_
  refine attn_store _ _ _ _ c 1 3 rfl rfl rfl (by exact head13 (I c)) rfl ?_
  simp only [k0_part24_eq_skeleton, k0_part24_skel, semSignalWord, semWaitWord, Prog.lift, Prog.bind_op, Prog.bind_ret, Prog.pure_eq_ret]
  refine attn_load _ _ _ _ c 1 _ fun _ => ?_
  refine attn_store _ _ _ _ c 1 4 rfl rfl rfl (by exact head14 (I c)) rfl ?_
  refine attn_load _ _ _ _ c 1 _ fun _ => ?_
  refine attn_store _ _ _ _ c 1 5 rfl rfl rfl (by exact head15 (I c)) rfl ?_
  simp only [k0_part25_eq_skeleton, k0_part25_skel, semSignalWord, semWaitWord, Prog.lift, Prog.bind_op, Prog.bind_ret, Prog.pure_eq_ret]
  refine attn_load _ _ _ _ c 1 _ fun _ => ?_
  refine attn_store _ _ _ _ c 1 6 rfl rfl rfl (by exact head16 (I c)) rfl ?_
  refine attn_load _ _ _ _ c 1 _ fun _ => ?_
  refine attn_store _ _ _ _ c 1 7 rfl rfl rfl (by exact head17 (I c)) rfl ?_
  refine attn_rows _ _ _ _ c 1 rfl ?_
  refine load_wo _ _ _ _ c ?_
  refine (st_product _ _ _ _ c 1).trans ?_
  refine part_load _ _ _ _ c 1 rfl fun _ => ?_
  refine part_step _ _ _ _ c 1 rfl (by rfl) rfl ?_
  simp only [k0_part26_eq_skeleton, k0_part26_skel, semSignalWord, semWaitWord, Prog.lift, Prog.bind_op, Prog.bind_ret, Prog.pure_eq_ret]
  refine part_own _ _ _ _ c 1 _ (by exact k0_off1_eq c 1) ?_
  refine rs_load _ _ _ _ c 1 (by exact k0_off1_eq c 1) fun _ => ?_
  refine rs_own _ _ _ _ c 1 rfl (by exact shapeCast_id _ _) (by exact k0_off1_eq c 1) ?_
  refine (st_rs _ _ _ _ c 1).trans ?_
  refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part27_eq_skeleton, k0_part27_skel, semSignalWord, semWaitWord, Prog.lift, Prog.bind_op, Prog.bind_ret, Prog.pure_eq_ret]
  refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part28_eq_skeleton, k0_part28_skel, semSignalWord, semWaitWord, Prog.lift, Prog.bind_op, Prog.bind_ret, Prog.pure_eq_ret]
  iterate 2 refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part29_eq_skeleton, k0_part29_skel, semSignalWord, semWaitWord, Prog.lift, Prog.bind_op, Prog.bind_ret, Prog.pure_eq_ret]
  refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part30_eq_skeleton, k0_part30_skel, semSignalWord, semWaitWord, Prog.lift, Prog.bind_op, Prog.bind_ret, Prog.pure_eq_ret]
  refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part31_eq_skeleton, k0_part31_skel, semSignalWord, semWaitWord, Prog.lift, Prog.bind_op, Prog.bind_ret, Prog.pure_eq_ret]
  iterate 2 refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part32_eq_skeleton, k0_part32_skel, semSignalWord, semWaitWord, Prog.lift, Prog.bind_op, Prog.bind_ret, Prog.pure_eq_ret]
  refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part33_eq_skeleton, k0_part33_skel, semSignalWord, semWaitWord, Prog.lift, Prog.bind_op, Prog.bind_ret, Prog.pure_eq_ret]
  iterate 2 refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part34_eq_skeleton, k0_part34_skel, semSignalWord, semWaitWord, Prog.lift, Prog.bind_op, Prog.bind_ret, Prog.pure_eq_ret]
  refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part35_eq_skeleton, k0_part35_skel, semSignalWord, semWaitWord, Prog.lift, Prog.bind_op, Prog.bind_ret, Prog.pure_eq_ret]
  iterate 2 refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  simp only [k0_part36_eq_skeleton, k0_part36_skel, semSignalWord, semWaitWord, Prog.lift, Prog.bind_op, Prog.bind_ret, Prog.pure_eq_ret]
  refine rs_step _ _ _ c 1 _ (by decide) (Fin.ext (by clear * - c; revert c; decide +kernel)) (by exact off5_eq 1 c _ (by decide)) (by exact k0_off4_eq c 1) (by exact sem_eq _ _ sem4 (off6_eq c _ (by decide))) (by exact sem_eq _ _ sem5 (k0_off7_eq c)) ?_
  refine (st_recv0 _ _ _ c (O' := oAg c) (by rw [oD_last, add_zero])).trans ?_
  simp only [k0_part37_eq_skeleton, k0_part37_skel, semSignalWord, semWaitWord, Prog.lift, Prog.bind_op, Prog.bind_ret, Prog.pure_eq_ret]
  iterate 2 refine wait_step _ _ _ c 1 0 2 (above_oAg c) (by decide) _ (by decide) (by exact sem_eq _ _ sem5 (off2_eq c _ (by decide))) (by rfl) ?_
  simp only [k0_part38_eq_skeleton, k0_part38_skel, semSignalWord, semWaitWord, Prog.lift, Prog.bind_op, Prog.bind_ret, Prog.pure_eq_ret]
  refine wait_step _ _ _ c 1 0 2 (above_oAg c) (by decide) _ (by decide) (by exact sem_eq _ _ sem5 (off2_eq c _ (by decide))) (by rfl) ?_
  simp only [k0_part39_eq_skeleton, k0_part39_skel, semSignalWord, semWaitWord, Prog.lift, Prog.bind_op, Prog.bind_ret, Prog.pure_eq_ret]
  iterate 2 refine wait_step _ _ _ c 1 0 2 (above_oAg c) (by decide) _ (by decide) (by exact sem_eq _ _ sem5 (off2_eq c _ (by decide))) (by rfl) ?_
  simp only [k0_part40_eq_skeleton, k0_part40_skel, semSignalWord, semWaitWord, Prog.lift, Prog.bind_op, Prog.bind_ret, Prog.pure_eq_ret]
  refine wait_step _ _ _ c 1 0 2 (above_oAg c) (by decide) _ (by decide) (by exact sem_eq _ _ sem5 (off2_eq c _ (by decide))) (by rfl) ?_
  simp only [k0_part41_eq_skeleton, k0_part41_skel, semSignalWord, semWaitWord, Prog.lift, Prog.bind_op, Prog.bind_ret, Prog.pure_eq_ret]
  iterate 2 refine wait_step _ _ _ c 1 0 2 (above_oAg c) (by decide) _ (by decide) (by exact sem_eq _ _ sem5 (off2_eq c _ (by decide))) (by rfl) ?_
  simp only [k0_part42_eq_skeleton, k0_part42_skel, semSignalWord, semWaitWord, Prog.lift, Prog.bind_op, Prog.bind_ret, Prog.pure_eq_ret]
  iterate 2 refine wait_step _ _ _ c 1 0 2 (above_oAg c) (by decide) _ (by decide) (by exact sem_eq _ _ sem5 (off2_eq c _ (by decide))) (by rfl) ?_
  simp only [k0_part43_eq_skeleton, k0_part43_skel, semSignalWord, semWaitWord, Prog.lift, Prog.bind_op, Prog.bind_ret, Prog.pure_eq_ret]
  refine wait_step _ _ _ c 1 0 2 (above_oAg c) (by decide) _ (by decide) (by exact sem_eq _ _ sem5 (off2_eq c _ (by decide))) (by rfl) ?_
  simp only [k0_part44_eq_skeleton, k0_part44_skel, semSignalWord, semWaitWord, Prog.lift, Prog.bind_op, Prog.bind_ret, Prog.pure_eq_ret]
  iterate 2 refine wait_step _ _ _ c 1 0 2 (above_oAg c) (by decide) _ (by decide) (by exact sem_eq _ _ sem5 (off2_eq c _ (by decide))) (by rfl) ?_
  simp only [k0_part45_eq_skeleton, k0_part45_skel, semSignalWord, semWaitWord, Prog.lift, Prog.bind_op, Prog.bind_ret, Prog.pure_eq_ret]
  refine wait_step _ _ _ c 1 0 2 (above_oAg c) (by decide) _ (by decide) (by exact sem_eq _ _ sem5 (off2_eq c _ (by decide))) (by rfl) ?_
  simp only [k0_part46_eq_skeleton, k0_part46_skel, semSignalWord, semWaitWord, Prog.lift, Prog.bind_op, Prog.bind_ret, Prog.pure_eq_ret]
  refine wait_step _ _ _ c 1 0 2 (above_oAg c) (by decide) _ (by decide) (by exact sem_eq _ _ sem5 (off2_eq c _ (by decide))) (by rfl) ?_
  refine (st_sum _ _ _ c 0).trans ?_
  refine sum_load _ _ _ c 0 0 _ rfl ?_
  refine sum_load _ _ _ c 0 1 _ rfl ?_
  refine sum_load _ _ _ c 0 2 _ rfl ?_
  refine sum_load _ _ _ c 0 3 _ rfl ?_
  refine sum_load _ _ _ c 0 4 _ rfl ?_
  refine sum_load _ _ _ c 0 5 _ rfl ?_
  refine sum_load _ _ _ c 0 6 _ rfl ?_
  refine sum_load _ _ _ c 0 7 _ rfl ?_
  refine sum_load _ _ _ c 0 8 _ rfl ?_
  simp only [k0_part47_eq_skeleton, k0_part47_skel, semSignalWord, semWaitWord, Prog.lift, Prog.bind_op, Prog.bind_ret, Prog.pure_eq_ret]
  refine sum_load _ _ _ c 0 9 _ rfl ?_
  refine sum_load _ _ _ c 0 10 _ rfl ?_
  refine sum_load _ _ _ c 0 11 _ rfl ?_
  refine sum_load _ _ _ c 0 12 _ rfl ?_
  refine sum_load _ _ _ c 0 13 _ rfl ?_
  refine sum_load _ _ _ c 0 14 _ rfl ?_
  refine sum_load _ _ _ c 0 15 _ rfl ?_
  refine ag_load _ _ _ c 0 (by exact k0_off1_eq c 0) fun _ => ?_
  refine ag_own _ _ _ c I 0 rfl (by exact sum_of_parts fun p => slabRow (rsF (PF I) c) 0 p) (by exact k0_off1_eq c 0) ?_
  refine (st_ag _ _ _ c 0).trans ?_
  rw [show oAg c = oD 3 1 c 1 + oD 3 0 c 1 from rfl]
  simp only [k0_part48_eq_skeleton, k0_part48_skel, semSignalWord, semWaitWord, Prog.lift, Prog.bind_op, Prog.bind_ret, Prog.pure_eq_ret]
  refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part49_eq_skeleton, k0_part49_skel, semSignalWord, semWaitWord, Prog.lift, Prog.bind_op, Prog.bind_ret, Prog.pure_eq_ret]
  iterate 2 refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part50_eq_skeleton, k0_part50_skel, semSignalWord, semWaitWord, Prog.lift, Prog.bind_op, Prog.bind_ret, Prog.pure_eq_ret]
  refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part51_eq_skeleton, k0_part51_skel, semSignalWord, semWaitWord, Prog.lift, Prog.bind_op, Prog.bind_ret, Prog.pure_eq_ret]
  iterate 2 refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part52_eq_skeleton, k0_part52_skel, semSignalWord, semWaitWord, Prog.lift, Prog.bind_op, Prog.bind_ret, Prog.pure_eq_ret]
  refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part53_eq_skeleton, k0_part53_skel, semSignalWord, semWaitWord, Prog.lift, Prog.bind_op, Prog.bind_ret, Prog.pure_eq_ret]
  iterate 2 refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part54_eq_skeleton, k0_part54_skel, semSignalWord, semWaitWord, Prog.lift, Prog.bind_op, Prog.bind_ret, Prog.pure_eq_ret]
  refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part55_eq_skeleton, k0_part55_skel, semSignalWord, semWaitWord, Prog.lift, Prog.bind_op, Prog.bind_ret, Prog.pure_eq_ret]
  iterate 2 refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part56_eq_skeleton, k0_part56_skel, semSignalWord, semWaitWord, Prog.lift, Prog.bind_op, Prog.bind_ret, Prog.pure_eq_ret]
  refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part57_eq_skeleton, k0_part57_skel, semSignalWord, semWaitWord, Prog.lift, Prog.bind_op, Prog.bind_ret, Prog.pure_eq_ret]
  refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  simp only [k0_part58_eq_skeleton, k0_part58_skel, semSignalWord, semWaitWord, Prog.lift, Prog.bind_op, Prog.bind_ret, Prog.pure_eq_ret]
  refine ag_step _ _ _ c 0 _ (by decide) (Fin.ext (by clear * - c; revert c; decide +kernel)) (by exact k0_off4_eq c 0) (by exact k0_off4_eq c 0) (by exact sem_eq _ _ sem6 (off2_eq c _ (by decide))) (by exact sem_eq _ _ sem7 (k0_off3_eq c)) ?_
  refine (st_recv1 _ _ _ c (O' := oD 3 1 c 1) (by rw [oD_last, add_zero])).trans ?_
  refine wait_step _ _ _ c 1 1 2 (above_oD3 _ _ _) (by decide) _ (by decide) (by exact sem_eq _ _ sem5 (off6_eq c _ (by decide))) (by rfl) ?_
  simp only [k0_part59_eq_skeleton, k0_part59_skel, semSignalWord, semWaitWord, Prog.lift, Prog.bind_op, Prog.bind_ret, Prog.pure_eq_ret]
  iterate 2 refine wait_step _ _ _ c 1 1 2 (above_oD3 _ _ _) (by decide) _ (by decide) (by exact sem_eq _ _ sem5 (off6_eq c _ (by decide))) (by rfl) ?_
  simp only [k0_part60_eq_skeleton, k0_part60_skel, semSignalWord, semWaitWord, Prog.lift, Prog.bind_op, Prog.bind_ret, Prog.pure_eq_ret]
  refine wait_step _ _ _ c 1 1 2 (above_oD3 _ _ _) (by decide) _ (by decide) (by exact sem_eq _ _ sem5 (off6_eq c _ (by decide))) (by rfl) ?_
  rw [k0_part110_eq_skeleton]; unfold k0_part110_skel
  simp only [k0_part61_eq_skeleton, k0_part61_skel, semSignalWord, semWaitWord, Prog.lift, Prog.bind_op, Prog.bind_ret, Prog.pure_eq_ret]
  iterate 2 refine wait_step _ _ _ c 1 1 2 (above_oD3 _ _ _) (by decide) _ (by decide) (by exact sem_eq _ _ sem5 (off6_eq c _ (by decide))) (by rfl) ?_
  simp only [k0_part62_eq_skeleton, k0_part62_skel, semSignalWord, semWaitWord, Prog.lift, Prog.bind_op, Prog.bind_ret, Prog.pure_eq_ret]
  refine wait_step _ _ _ c 1 1 2 (above_oD3 _ _ _) (by decide) _ (by decide) (by exact sem_eq _ _ sem5 (off6_eq c _ (by decide))) (by rfl) ?_
  simp only [k0_part63_eq_skeleton, k0_part63_skel, semSignalWord, semWaitWord, Prog.lift, Prog.bind_op, Prog.bind_ret, Prog.pure_eq_ret]
  iterate 2 refine wait_step _ _ _ c 1 1 2 (above_oD3 _ _ _) (by decide) _ (by decide) (by exact sem_eq _ _ sem5 (off6_eq c _ (by decide))) (by rfl) ?_
  simp only [k0_part64_eq_skeleton, k0_part64_skel, semSignalWord, semWaitWord, Prog.lift, Prog.bind_op, Prog.bind_ret, Prog.pure_eq_ret]
  refine wait_step _ _ _ c 1 1 2 (above_oD3 _ _ _) (by decide) _ (by decide) (by exact sem_eq _ _ sem5 (off6_eq c _ (by decide))) (by rfl) ?_
  simp only [k0_part65_eq_skeleton, k0_part65_skel, semSignalWord, semWaitWord, Prog.lift, Prog.bind_op, Prog.bind_ret, Prog.pure_eq_ret]
  iterate 2 refine wait_step _ _ _ c 1 1 2 (above_oD3 _ _ _) (by decide) _ (by decide) (by exact sem_eq _ _ sem5 (off6_eq c _ (by decide))) (by rfl) ?_
  simp only [k0_part66_eq_skeleton, k0_part66_skel, semSignalWord, semWaitWord, Prog.lift, Prog.bind_op, Prog.bind_ret, Prog.pure_eq_ret]
  refine wait_step _ _ _ c 1 1 2 (above_oD3 _ _ _) (by decide) _ (by decide) (by exact sem_eq _ _ sem5 (off6_eq c _ (by decide))) (by rfl) ?_
  simp only [k0_part67_eq_skeleton, k0_part67_skel, semSignalWord, semWaitWord, Prog.lift, Prog.bind_op, Prog.bind_ret, Prog.pure_eq_ret]
  iterate 2 refine wait_step _ _ _ c 1 1 2 (above_oD3 _ _ _) (by decide) _ (by decide) (by exact sem_eq _ _ sem5 (off6_eq c _ (by decide))) (by rfl) ?_
  refine (st_sum _ _ _ c 1).trans ?_
  refine sum_load _ _ _ c 1 0 _ rfl ?_
  refine sum_load _ _ _ c 1 1 _ rfl ?_
  simp only [k0_part68_eq_skeleton, k0_part68_skel, semSignalWord, semWaitWord, Prog.lift, Prog.bind_op, Prog.bind_ret, Prog.pure_eq_ret]
  refine sum_load _ _ _ c 1 2 _ rfl ?_
  refine sum_load _ _ _ c 1 3 _ rfl ?_
  refine sum_load _ _ _ c 1 4 _ rfl ?_
  refine sum_load _ _ _ c 1 5 _ rfl ?_
  refine sum_load _ _ _ c 1 6 _ rfl ?_
  refine sum_load _ _ _ c 1 7 _ rfl ?_
  refine sum_load _ _ _ c 1 8 _ rfl ?_
  refine sum_load _ _ _ c 1 9 _ rfl ?_
  refine sum_load _ _ _ c 1 10 _ rfl ?_
  refine sum_load _ _ _ c 1 11 _ rfl ?_
  refine sum_load _ _ _ c 1 12 _ rfl ?_
  refine sum_load _ _ _ c 1 13 _ rfl ?_
  simp only [k0_part69_eq_skeleton, k0_part69_skel, semSignalWord, semWaitWord, Prog.lift, Prog.bind_op, Prog.bind_ret, Prog.pure_eq_ret]
  refine sum_load _ _ _ c 1 14 _ rfl ?_
  refine sum_load _ _ _ c 1 15 _ rfl ?_
  refine ag_load _ _ _ c 1 (by exact k0_off1_eq c 1) fun _ => ?_
  refine ag_own _ _ _ c I 1 rfl (by exact sum_of_parts fun p => slabRow (rsF (PF I) c) 1 p) (by exact k0_off1_eq c 1) ?_
  refine (st_ag _ _ _ c 1).trans ?_
  rw [show oD 3 1 c 1 = 0 + oD 3 1 c 1 from (zero_add _).symm]
  simp only [k0_part70_eq_skeleton, k0_part70_skel, semSignalWord, semWaitWord, Prog.lift, Prog.bind_op, Prog.bind_ret, Prog.pure_eq_ret]
  iterate 2 refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part71_eq_skeleton, k0_part71_skel, semSignalWord, semWaitWord, Prog.lift, Prog.bind_op, Prog.bind_ret, Prog.pure_eq_ret]
  refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part72_eq_skeleton, k0_part72_skel, semSignalWord, semWaitWord, Prog.lift, Prog.bind_op, Prog.bind_ret, Prog.pure_eq_ret]
  iterate 2 refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part73_eq_skeleton, k0_part73_skel, semSignalWord, semWaitWord, Prog.lift, Prog.bind_op, Prog.bind_ret, Prog.pure_eq_ret]
  refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part74_eq_skeleton, k0_part74_skel, semSignalWord, semWaitWord, Prog.lift, Prog.bind_op, Prog.bind_ret, Prog.pure_eq_ret]
  iterate 2 refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part75_eq_skeleton, k0_part75_skel, semSignalWord, semWaitWord, Prog.lift, Prog.bind_op, Prog.bind_ret, Prog.pure_eq_ret]
  refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part76_eq_skeleton, k0_part76_skel, semSignalWord, semWaitWord, Prog.lift, Prog.bind_op, Prog.bind_ret, Prog.pure_eq_ret]
  iterate 2 refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part77_eq_skeleton, k0_part77_skel, semSignalWord, semWaitWord, Prog.lift, Prog.bind_op, Prog.bind_ret, Prog.pure_eq_ret]
  refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part78_eq_skeleton, k0_part78_skel, semSignalWord, semWaitWord, Prog.lift, Prog.bind_op, Prog.bind_ret, Prog.pure_eq_ret]
  iterate 2 refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  simp only [k0_part79_eq_skeleton, k0_part79_skel, semSignalWord, semWaitWord, Prog.lift, Prog.bind_op, Prog.bind_ret, Prog.pure_eq_ret]
  refine ag_step _ _ _ c 1 _ (by decide) (Fin.ext (by clear * - c; revert c; decide +kernel)) (by exact k0_off4_eq c 1) (by exact k0_off4_eq c 1) (by exact sem_eq _ _ sem6 (off6_eq c _ (by decide))) (by exact sem_eq _ _ sem7 (k0_off7_eq c)) ?_
  refine (st_next _ _ _ c (O' := 0) (by rw [oD_last, add_zero])).trans ?_
  simp only [k0_part80_eq_skeleton, k0_part80_skel, semSignalWord, semWaitWord, Prog.lift, Prog.bind_op, Prog.bind_ret, Prog.pure_eq_ret]
  iterate 2 refine wait_step _ _ _ c 3 0 3 (above_zero _) (by decide) _ (by decide) (by exact sem_eq _ _ sem7 (off2_eq c _ (by decide))) (by rfl) ?_
  simp only [k0_part81_eq_skeleton, k0_part81_skel, semSignalWord, semWaitWord, Prog.lift, Prog.bind_op, Prog.bind_ret, Prog.pure_eq_ret]
  refine wait_step _ _ _ c 3 0 3 (above_zero _) (by decide) _ (by decide) (by exact sem_eq _ _ sem7 (off2_eq c _ (by decide))) (by rfl) ?_
  simp only [k0_part82_eq_skeleton, k0_part82_skel, semSignalWord, semWaitWord, Prog.lift, Prog.bind_op, Prog.bind_ret, Prog.pure_eq_ret]
  iterate 2 refine wait_step _ _ _ c 3 0 3 (above_zero _) (by decide) _ (by decide) (by exact sem_eq _ _ sem7 (off2_eq c _ (by decide))) (by rfl) ?_
  simp only [k0_part83_eq_skeleton, k0_part83_skel, semSignalWord, semWaitWord, Prog.lift, Prog.bind_op, Prog.bind_ret, Prog.pure_eq_ret]
  refine wait_step _ _ _ c 3 0 3 (above_zero _) (by decide) _ (by decide) (by exact sem_eq _ _ sem7 (off2_eq c _ (by decide))) (by rfl) ?_
  simp only [k0_part84_eq_skeleton, k0_part84_skel, semSignalWord, semWaitWord, Prog.lift, Prog.bind_op, Prog.bind_ret, Prog.pure_eq_ret]
  iterate 2 refine wait_step _ _ _ c 3 0 3 (above_zero _) (by decide) _ (by decide) (by exact sem_eq _ _ sem7 (off2_eq c _ (by decide))) (by rfl) ?_
  simp only [k0_part85_eq_skeleton, k0_part85_skel, semSignalWord, semWaitWord, Prog.lift, Prog.bind_op, Prog.bind_ret, Prog.pure_eq_ret]
  refine wait_step _ _ _ c 3 0 3 (above_zero _) (by decide) _ (by decide) (by exact sem_eq _ _ sem7 (off2_eq c _ (by decide))) (by rfl) ?_
  simp only [k0_part86_eq_skeleton, k0_part86_skel, semSignalWord, semWaitWord, Prog.lift, Prog.bind_op, Prog.bind_ret, Prog.pure_eq_ret]
  iterate 2 refine wait_step _ _ _ c 3 0 3 (above_zero _) (by decide) _ (by decide) (by exact sem_eq _ _ sem7 (off2_eq c _ (by decide))) (by rfl) ?_
  simp only [k0_part87_eq_skeleton, k0_part87_skel, semSignalWord, semWaitWord, Prog.lift, Prog.bind_op, Prog.bind_ret, Prog.pure_eq_ret]
  refine wait_step _ _ _ c 3 0 3 (above_zero _) (by decide) _ (by decide) (by exact sem_eq _ _ sem7 (off2_eq c _ (by decide))) (by rfl) ?_
  simp only [k0_part88_eq_skeleton, k0_part88_skel, semSignalWord, semWaitWord, Prog.lift, Prog.bind_op, Prog.bind_ret, Prog.pure_eq_ret]
  iterate 2 refine wait_step _ _ _ c 3 0 3 (above_zero _) (by decide) _ (by decide) (by exact sem_eq _ _ sem7 (off2_eq c _ (by decide))) (by rfl) ?_
  simp only [k0_part89_eq_skeleton, k0_part89_skel, semSignalWord, semWaitWord, Prog.lift, Prog.bind_op, Prog.bind_ret, Prog.pure_eq_ret]
  refine wait_step _ _ _ c 3 0 3 (above_zero _) (by decide) _ (by decide) (by exact sem_eq _ _ sem7 (off2_eq c _ (by decide))) (by rfl) ?_
  refine (st_next _ _ _ c rfl).trans ?_
  refine wait_step _ _ _ c 3 1 3 (above_zero _) (by decide) _ (by decide) (by exact sem_eq _ _ sem7 (off6_eq c _ (by decide))) (by rfl) ?_
  simp only [k0_part90_eq_skeleton, k0_part90_skel, semSignalWord, semWaitWord, Prog.lift, Prog.bind_op, Prog.bind_ret, Prog.pure_eq_ret]
  refine wait_step _ _ _ c 3 1 3 (above_zero _) (by decide) _ (by decide) (by exact sem_eq _ _ sem7 (off6_eq c _ (by decide))) (by rfl) ?_
  simp only [k0_part91_eq_skeleton, k0_part91_skel, semSignalWord, semWaitWord, Prog.lift, Prog.bind_op, Prog.bind_ret, Prog.pure_eq_ret]
  iterate 2 refine wait_step _ _ _ c 3 1 3 (above_zero _) (by decide) _ (by decide) (by exact sem_eq _ _ sem7 (off6_eq c _ (by decide))) (by rfl) ?_
  simp only [k0_part92_eq_skeleton, k0_part92_skel, semSignalWord, semWaitWord, Prog.lift, Prog.bind_op, Prog.bind_ret, Prog.pure_eq_ret]
  refine wait_step _ _ _ c 3 1 3 (above_zero _) (by decide) _ (by decide) (by exact sem_eq _ _ sem7 (off6_eq c _ (by decide))) (by rfl) ?_
  simp only [k0_part93_eq_skeleton, k0_part93_skel, semSignalWord, semWaitWord, Prog.lift, Prog.bind_op, Prog.bind_ret, Prog.pure_eq_ret]
  iterate 2 refine wait_step _ _ _ c 3 1 3 (above_zero _) (by decide) _ (by decide) (by exact sem_eq _ _ sem7 (off6_eq c _ (by decide))) (by rfl) ?_
  simp only [k0_part94_eq_skeleton, k0_part94_skel, semSignalWord, semWaitWord, Prog.lift, Prog.bind_op, Prog.bind_ret, Prog.pure_eq_ret]
  refine wait_step _ _ _ c 3 1 3 (above_zero _) (by decide) _ (by decide) (by exact sem_eq _ _ sem7 (off6_eq c _ (by decide))) (by rfl) ?_
  simp only [k0_part95_eq_skeleton, k0_part95_skel, semSignalWord, semWaitWord, Prog.lift, Prog.bind_op, Prog.bind_ret, Prog.pure_eq_ret]
  iterate 2 refine wait_step _ _ _ c 3 1 3 (above_zero _) (by decide) _ (by decide) (by exact sem_eq _ _ sem7 (off6_eq c _ (by decide))) (by rfl) ?_
  simp only [k0_part96_eq_skeleton, k0_part96_skel, semSignalWord, semWaitWord, Prog.lift, Prog.bind_op, Prog.bind_ret, Prog.pure_eq_ret]
  refine wait_step _ _ _ c 3 1 3 (above_zero _) (by decide) _ (by decide) (by exact sem_eq _ _ sem7 (off6_eq c _ (by decide))) (by rfl) ?_
  simp only [k0_part97_eq_skeleton, k0_part97_skel, semSignalWord, semWaitWord, Prog.lift, Prog.bind_op, Prog.bind_ret, Prog.pure_eq_ret]
  iterate 2 refine wait_step _ _ _ c 3 1 3 (above_zero _) (by decide) _ (by decide) (by exact sem_eq _ _ sem7 (off6_eq c _ (by decide))) (by rfl) ?_
  simp only [k0_part98_eq_skeleton, k0_part98_skel, semSignalWord, semWaitWord, Prog.lift, Prog.bind_op, Prog.bind_ret, Prog.pure_eq_ret]
  refine wait_step _ _ _ c 3 1 3 (above_zero _) (by decide) _ (by decide) (by exact sem_eq _ _ sem7 (off6_eq c _ (by decide))) (by rfl) ?_
  simp only [k0_part99_eq_skeleton, k0_part99_skel, semSignalWord, semWaitWord, Prog.lift, Prog.bind_op, Prog.bind_ret, Prog.pure_eq_ret]
  refine wait_step _ _ _ c 3 1 3 (above_zero _) (by decide) _ (by decide) (by exact sem_eq _ _ sem7 (off6_eq c _ (by decide))) (by rfl) ?_
  refine (st_read _ _ _ c).trans ?_
  refine all_load _ _ _ c _ _ ?_
  refine (st_out _ _ _ c).trans ?_
  refine out_load _ _ _ c fun _ => ?_
  refine out_store _ _ _ c rfl ?_
  refine (st_sent _ _ _ c).trans ?_
  iterate 4 refine wait_step _ _ _ c 0 0 0 (above_zero _) (by decide) _ (by decide) (by exact sem_eq _ _ sem4 (off2_eq c _ (by decide))) (by rfl) ?_
  simp only [k0_part100_eq_skeleton, k0_part100_skel, semSignalWord, semWaitWord, Prog.lift, Prog.bind_op, Prog.bind_ret, Prog.pure_eq_ret]
  iterate 6 refine wait_step _ _ _ c 0 0 0 (above_zero _) (by decide) _ (by decide) (by exact sem_eq _ _ sem4 (off2_eq c _ (by decide))) (by rfl) ?_
  simp only [k0_part101_eq_skeleton, k0_part101_skel, semSignalWord, semWaitWord, Prog.lift, Prog.bind_op, Prog.bind_ret, Prog.pure_eq_ret]
  iterate 5 refine wait_step _ _ _ c 0 0 0 (above_zero _) (by decide) _ (by decide) (by exact sem_eq _ _ sem4 (off2_eq c _ (by decide))) (by rfl) ?_
  refine (st_next _ _ _ c rfl).trans ?_
  refine wait_step _ _ _ c 0 1 0 (above_zero _) (by decide) _ (by decide) (by exact sem_eq _ _ sem4 (off6_eq c _ (by decide))) (by rfl) ?_
  simp only [k0_part102_eq_skeleton, k0_part102_skel, semSignalWord, semWaitWord, Prog.lift, Prog.bind_op, Prog.bind_ret, Prog.pure_eq_ret]
  iterate 6 refine wait_step _ _ _ c 0 1 0 (above_zero _) (by decide) _ (by decide) (by exact sem_eq _ _ sem4 (off6_eq c _ (by decide))) (by rfl) ?_
  simp only [k0_part103_eq_skeleton, k0_part103_skel, semSignalWord, semWaitWord, Prog.lift, Prog.bind_op, Prog.bind_ret, Prog.pure_eq_ret]
  iterate 6 refine wait_step _ _ _ c 0 1 0 (above_zero _) (by decide) _ (by decide) (by exact sem_eq _ _ sem4 (off6_eq c _ (by decide))) (by rfl) ?_
  simp only [k0_part104_eq_skeleton, k0_part104_skel, semSignalWord, semWaitWord, Prog.lift, Prog.bind_op, Prog.bind_ret, Prog.pure_eq_ret]
  iterate 2 refine wait_step _ _ _ c 0 1 0 (above_zero _) (by decide) _ (by decide) (by exact sem_eq _ _ sem4 (off6_eq c _ (by decide))) (by rfl) ?_
  refine (st_next _ _ _ c rfl).trans ?_
  iterate 4 refine wait_step _ _ _ c 2 0 0 (above_zero _) (by decide) _ (by decide) (by exact sem_eq _ _ sem6 (off2_eq c _ (by decide))) (by rfl) ?_
  simp only [k0_part105_eq_skeleton, k0_part105_skel, semSignalWord, semWaitWord, Prog.lift, Prog.bind_op, Prog.bind_ret, Prog.pure_eq_ret]
  iterate 6 refine wait_step _ _ _ c 2 0 0 (above_zero _) (by decide) _ (by decide) (by exact sem_eq _ _ sem6 (off2_eq c _ (by decide))) (by rfl) ?_
  simp only [k0_part106_eq_skeleton, k0_part106_skel, semSignalWord, semWaitWord, Prog.lift, Prog.bind_op, Prog.bind_ret, Prog.pure_eq_ret]
  iterate 5 refine wait_step _ _ _ c 2 0 0 (above_zero _) (by decide) _ (by decide) (by exact sem_eq _ _ sem6 (off2_eq c _ (by decide))) (by rfl) ?_
  refine (st_next _ _ _ c rfl).trans ?_
  refine wait_step _ _ _ c 2 1 0 (above_zero _) (by decide) _ (by decide) (by exact sem_eq _ _ sem6 (off6_eq c _ (by decide))) (by rfl) ?_
  simp only [k0_part107_eq_skeleton, k0_part107_skel, semSignalWord, semWaitWord, Prog.lift, Prog.bind_op, Prog.bind_ret, Prog.pure_eq_ret]
  iterate 6 refine wait_step _ _ _ c 2 1 0 (above_zero _) (by decide) _ (by decide) (by exact sem_eq _ _ sem6 (off6_eq c _ (by decide))) (by rfl) ?_
  simp only [k0_part108_eq_skeleton, k0_part108_skel, semSignalWord, semWaitWord, Prog.lift, Prog.bind_op, Prog.bind_ret, Prog.pure_eq_ret]
  iterate 6 refine wait_step _ _ _ c 2 1 0 (above_zero _) (by decide) _ (by decide) (by exact sem_eq _ _ sem6 (off6_eq c _ (by decide))) (by rfl) ?_
  refine wait_step _ _ _ c 2 1 0 (above_zero _) (by decide) _ (by decide) (by exact sem_eq _ _ sem6 (off6_eq c _ (by decide))) (by rfl) ?_
  refine wait_step _ _ _ c 2 1 0 (above_zero _) (by decide) _ (by decide) (by exact sem_eq _ _ sem6 (off6_eq c _ (by decide))) (by rfl) ?_
  refine (st_end _ _ _ (I c) c).trans ?_
  rw [wp_ret]
  exact BI.fupd_mono hQ

end Cert.KernelIdealProof

end
-- ==== Proof.KernelIdealRun.lean ====
/-
# The run of the whole program

Every device's arguments unchanged, its result at the computed contents, and every semaphore at zero.
-/
module

public import proofs.«01_k».proof.Proof.KernelIdealLaunch
public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s staged inputs. -/
def inp (c : Dev nD) : Ins F := ⟨iblk m c 0 t0_0, iblk m c 1 t0_0, iblk m c 2 t0_0, iblk m c 3 t0_0, iblk m c 4 t0_0⟩

/-- What device `c` starts from; -/
def start (c : Dev nD) : sProp 𝕄 := iprop(G' (PF (inp m)) (AF (inp m)) c ∗ credits c ∗ levs)
def scratch (c : Dev nD) : sProp 𝕄 := iprop(attnAny c ∗ (∃ f, partAll c f) ∗ (∃ f, rsAll c f) ∗ ∃ f, agAll c fullShare f)
def Φ₀ (c : Dev nD) : sProp 𝕄 := iprop(start m c ∗ scratch c)

/-- The staged arrays' contents after the body. -/
def dats (_ : Fin 1) (c : Dev nD) : Dat τ (Elt F) Unit ℕ UU ℕ cfg0 c where
  A w := m ((cfg0.win w).arr.view.loc (c : Thread nD τ))
  after w _ := match w with
    | ⟨0, _⟩ => (inp m c).x
    | ⟨1, _⟩ => (inp m c).wq
    | ⟨2, _⟩ => (inp m c).wo
    | ⟨3, _⟩ => (inp m c).wk
    | ⟨4, _⟩ => (inp m c).wv
    | ⟨5, _⟩ => outF (inp m)
  Φ t := match t with
    | ⟨0, _⟩ => Φ₀ m c
    | ⟨_ + 1, _⟩ => Done c
  q _ := fullShare
  owed t := match t with
    | ⟨0, _⟩ => O₀ c
    | ⟨_ + 1, _⟩ => 0

/-- A whole staged array at given contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = iprop((((c : Thread nD τ).loc b) ↦{fullShare} X)) := by
  unfold owns; simp only [Memref.view_whole, View.read_whole, View.set_whole]
  refine BI.Entails.antisymm (show (_ : sProp 𝕄) ⊢ _ from ?_) (show (_ : sProp 𝕄) ⊢ _ from ?_)
  · iintro ⟨%f, %hf, H⟩; subst hf; iexact H
  · iintro H; iexists X; isplitr; · ipureintro; rfl
    iexact H

/-- The body's start, from what the loop holds. -/
theorem start_of (c : Dev nD) : Φ₀ m c ⊢ iprop(∃ K, Start (PF (inp m)) (AF (inp m)) K c) := by
  unfold Φ₀ start G' recs linear payToks credits scratch Start records
  iintro ⟨⟨⟨%K, ⟨HI, HR⟩, Hat, Htk⟩, Hcr, Hl⟩, Hs⟩
  iexists K
  iframe

/-! Each input's staged block. -/

/-- The body starts with its arguments staged: the rows `x`, -/
theorem before_0 (c : Dev nD) (d) : (dats (F := F) m 0 c).before 0 t0_0 d = (inp m c).x := by
  unfold Dat.before; rw [if_pos (fetch0_0 t0_0)]; rfl
/-- the query weights, -/
theorem before_1 (c : Dev nD) (d) : (dats (F := F) m 0 c).before 1 t0_0 d = (inp m c).wq := by
  unfold Dat.before; rw [if_pos (fetch0_1 t0_0)]; rfl
/-- the output weights, -/
theorem before_2 (c : Dev nD) (d) : (dats (F := F) m 0 c).before 2 t0_0 d = (inp m c).wo := by
  unfold Dat.before; rw [if_pos (fetch0_2 t0_0)]; rfl
/-- the key weights, -/
theorem before_3 (c : Dev nD) (d) : (dats (F := F) m 0 c).before 3 t0_0 d = (inp m c).wk := by
  unfold Dat.before; rw [if_pos (fetch0_3 t0_0)]; rfl
/-- and the value weights. -/
theorem before_4 (c : Dev nD) (d) : (dats (F := F) m 0 c).before 4 t0_0 d = (inp m c).wv := by
  unfold Dat.before; rw [if_pos (fetch0_4 t0_0)]; rfl

set_option maxRecDepth 100000 in
/-- The body, on every device. -/
theorem body_obligation (c : Dev nD) : BodyObligation (dats (F := F) m 0 c) (defs₀ (F := F)) 𝒱₀ () Set.univ := fun t => by
  rw [fin_N0 t]
  rw [bigSep_W0, bigSep_W0]
  simp only [before_0, before_1, before_2, before_3, before_4]
  show iprop(Φ₀ m c ∗ (dats m 0 c).owesAt () t0_0.castSucc
      ∗ (∃ d : _, owns (c : Thread nD τ) (Memref.whole cc0_stg0_0) fullShare (inp m c).x)
      ∗ (∃ d : _, owns (c : Thread nD τ) (Memref.whole cc0_stg1_0) fullShare (inp m c).wq)
      ∗ (∃ d : _, owns (c : Thread nD τ) (Memref.whole cc0_stg2_0) fullShare (inp m c).wo)
      ∗ (∃ d : _, owns (c : Thread nD τ) (Memref.whole cc0_stg3_0) fullShare (inp m c).wk)
      ∗ (∃ d : _, owns (c : Thread nD τ) (Memref.whole cc0_stg4_0) fullShare (inp m c).wv)
      ∗ ∃ d, owns (c : Thread nD τ) (Memref.whole cc0_stg5_0) fullShare ((dats m 0 c).before 5 t0_0 d))
    ⊢ wp frame (wpE (defs₀ (F := F)) 𝒱₀ (c : Thread nD τ) none) Set.univ (body F)
      fun _ => iprop(Done c ∗ (dats m 0 c).owesAt () t0_0.succ
        ∗ owns (c : Thread nD τ) (Memref.whole cc0_stg0_0) fullShare (inp m c).x
        ∗ owns (c : Thread nD τ) (Memref.whole cc0_stg1_0) fullShare (inp m c).wq
        ∗ owns (c : Thread nD τ) (Memref.whole cc0_stg2_0) fullShare (inp m c).wo
        ∗ owns (c : Thread nD τ) (Memref.whole cc0_stg3_0) fullShare (inp m c).wk
        ∗ owns (c : Thread nD τ) (Memref.whole cc0_stg4_0) fullShare (inp m c).wv
        ∗ owns (c : Thread nD τ) (Memref.whole cc0_stg5_0) fullShare (outF (inp m)))
  simp only [owns_whole]
  unfold Dat.owesAt Pipeline.owesWithin
  iintro ⟨HΦ, ⟨%W, -, HO⟩, ⟨%d0, H0⟩, ⟨%d1, H1⟩, ⟨%d2, H2⟩, ⟨%d3, H3⟩, ⟨%d4, H4⟩, %d5, H5⟩
  ihave HS := (start_of m c) $$ HΦ
  icases HS with ⟨%K, HS⟩
  iapply (run_body (inp m) K c _ ?_)
  · iintro ⟨HD, HO, HS, Ho⟩
    unfold owesE Stg outPts
    icases HO with ⟨%W', HO⟩
    icases HS with ⟨H0, H1, H2, H3, H4⟩
    iframe
    iexists W'; isplitr; · ipureintro; exact fun _ _ => Or.inl trivial
    iexact HO
  · unfold owesE Stg outAny outPts
    isplitl [HS]; · iexact HS
    isplitl [HO]; · iexists W; iexact HO
    isplitr [H5]; · iframe
    iexists _; iexact H5

/-! ## The launch -/

/-- The copies' semaphores are the call's own, each named once. -/
theorem ownSemFacts : Pipeline.OwnSemFacts cfg0.spec osem := by decide

/-- Every staged array is held whole. -/
theorem share_eq (c : Dev nD) (w : Fin cfg0.W) : (dats m 0 c).share w = fullShare := by unfold Dat.share; split <;> rfl

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (PF (inp m)) (AF (inp m)) c)
      ⊢ |={Set.univ}=> iprop(start m c ∗ emp) := by
  iintro ⟨-, Hlev, Hcr, -, HG⟩
  ihave Hc := (creds (F := F) c) $$ Hcr
  imodintro
  unfold start levs
  isplitl
  · iframe
  · iempintro

/-- With its scratch arrays, that is what holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch attnAny partAll rsAll agAll
  iintro ⟨Hs, -, H⟩
  isplitl [Hs]; · iexact Hs
  iexact H

/-- After the body the semaphores are at zero and the scratch arrays are given back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Done c from rfl, scopedRest0_eq]
  unfold Done attnAny partAll rsAll agAll
  rw [sems0_eq]
  iintro ⟨⟨Hu, Ho⟩, H⟩
  isplitl [Hu]; · iexact Hu
  isplitl [Ho]; · iexact Ho
  iexact H

/-- The staging may wait at any time: its semaphores have the lowest level. -/
theorem waits (c : Dev nD) : (levAts L lv : sProp 𝕄) ⊢ Pipeline.cellsWaits cfgs (dats m) () 0 c :=
  Pipeline.cellsWaits_intro cfgs (dats m) () 0 c fun w s t =>
    mayWait_of_above c _ 0 (by fin_cases w <;> fin_cases s <;> exact Nat.le_of_eq rfl) (by
      rcases t with ⟨_ | _, ht⟩
      · exact above_O₀ c
      · exact above_zero 0)

/-! ## The run -/

set_option maxRecDepth 100000 in
/-- Every fair execution ends, every array of every device being what the loop leaves and every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (PF (inp m)) (AF (inp m))) (G' := G' (PF (inp m)) (AF (inp m))) (u₀ := u₀)
    (hu₀ := by
      unfold u₀
      iintro Hu
      ihave H := (ownU_pair _ _) $$ Hu
      icases H with ⟨HP, HX⟩
      imod (fund (PF (inp m)) (AF (inp m))) $$ HX with HG
      imodintro
      isplitl [HP] <;> iassumption)
    (hglob := glob (PF (inp m)) (AF (inp m)))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What is in the result's array at the end is what the body leaves. -/
theorem arrAt_out (c : Dev nD) : (dats (F := F) m 0 c).arrAt 5 cfg0.N = outF (inp m) := by
  rw [show cfg0.N = (t0_0 : Fin cfg0.N).val + 1 from rfl, Dat.arrAt_succ, if_pos (flush0_5 _)]
  have hz : (win0_5.rect t0_0).off = fun _ => 0 := funext fun a => by fin_cases a <;> rfl
  exact Memref.write_access_unit_zero_univ (Elt F) main_v1 hz _ _ _

/-- A staged array is the whole argument. -/
theorem iblk_eq (c : Dev nD) : inp m c = ⟨m ((c : Thread nD τ).loc main_arg0), m ((c : Thread nD τ).loc main_arg1), m ((c : Thread nD τ).loc main_arg4),
    m ((c : Thread nD τ).loc main_arg2), m ((c : Thread nD τ).loc main_arg3)⟩ := by
  have h0 : (win0_0.rect t0_0).off = fun _ => 0 := funext fun a => by fin_cases a <;> rfl
  have h1 : (win0_1.rect t0_0).off = fun _ => 0 := funext fun a => by fin_cases a <;> rfl
  have h2 : (win0_2.rect t0_0).off = fun _ => 0 := funext fun a => by fin_cases a <;> rfl
  have h3 : (win0_3.rect t0_0).off = fun _ => 0 := funext fun a => by fin_cases a <;> rfl
  have h4 : (win0_4.rect t0_0).off = fun _ => 0 := funext fun a => by fin_cases a <;> rfl
  have e0 : iblk m c 0 t0_0 = m ((c : Thread nD τ).loc main_arg0) := Memref.readAt_unit_zero (Elt F) main_arg0 h0 _ _
  have e1 : iblk m c 1 t0_0 = m ((c : Thread nD τ).loc main_arg1) := Memref.readAt_unit_zero (Elt F) main_arg1 h1 _ _
  have e2 : iblk m c 2 t0_0 = m ((c : Thread nD τ).loc main_arg4) := Memref.readAt_unit_zero (Elt F) main_arg4 h2 _ _
  have e3 : iblk m c 3 t0_0 = m ((c : Thread nD τ).loc main_arg2) := Memref.readAt_unit_zero (Elt F) main_arg2 h3 _ _
  have e4 : iblk m c 4 t0_0 = m ((c : Thread nD τ).loc main_arg3) := Memref.readAt_unit_zero (Elt F) main_arg3 h4 _ _
  unfold inp
  rw [e0, e1, e2, e3, e4]

/-- The run, read at the arguments and at the result. -/
theorem run (ρ : Dev nD → PrngReg) : θ_run defs (onTc (τ := τ) (main (F := F))) ⟨m, fun _ => 0, ρ⟩ (fun r =>
    (∀ c : Dev nD, r.2.mem ((c.tc : Thread nD τ).loc main_v1) = outF (inp m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨(h.1 c 5).trans (arrAt_out m c),
    (h.1 c 0).trans ((dats m 0 c).arrAt_in 0 rfl _), (h.1 c 1).trans ((dats m 0 c).arrAt_in 1 rfl _),
    (h.1 c 3).trans ((dats m 0 c).arrAt_in 3 rfl _), (h.1 c 4).trans ((dats m 0 c).arrAt_in 4 rfl _),
    (h.1 c 2).trans ((dats m 0 c).arrAt_in 2 rfl _)⟩, h.2⟩) (run_main m ρ)

end Cert.KernelIdealProof

end
-- ==== Proof.Attention.lean ====
/- Multi-head attention of 512 tokens over 128 heads of width 128, with an output projection, as a formula over the
   extended reals: the function that both the 16-device kernel and the reference compute. Nothing here mentions a
   program. -/
module

public import Idealize.ShloMosaic.Lib.Pointwise

@[expose] public section

noncomputable section

namespace Cert.Attention

open Idealize.ShloMosaic

/-- A query's scaled product with token `t`'s key. -/
def score (q : Fin 128 → EReal) (k : Fin 512 → Fin 128 → EReal) (t : Fin 512) : EReal :=
  (∑ e : Fin 128, q e * k t e) * Ideal.ofBits .f32 0x3DB504F3#32

/-- The greatest of a query's scores. -/
def top (s : Fin 512 → EReal) : EReal := Finset.univ.fold max (Ideal.ofBits .f32 0xFF800000#32) s

/-- The weight of token `t`, before the weights are divided by their sum. -/
def weight (s : Fin 512 → EReal) (t : Fin 512) : EReal := Ideal.exp (s t - top s)

/-- The weighted mean of `v`. -/
def mean (s v : Fin 512 → EReal) : EReal := Ideal.div (∑ t : Fin 512, weight s t * v t) (∑ t : Fin 512, weight s t)

/-- Column `e` of the head that column `n` belongs to. -/
def headCol (n : Fin 16384) (e : Fin 128) : Fin 16384 := ⟨128 * (n.val / 128) + e.val, by omega⟩

section
variable (x : Fin 512 → Fin 1024 → EReal) (wq wk wv : Fin 1024 → Fin 16384 → EReal) (wo : Fin 16384 → Fin 1024 → EReal)

/-- Token `r` projected by column `n`. -/
def proj (w : Fin 1024 → Fin 16384 → EReal) (r : Fin 512) (n : Fin 16384) : EReal := ∑ k : Fin 1024, x r k * w k n

/-- Column `n` of the concatenated heads, at token `r`. -/
def attn (r : Fin 512) (n : Fin 16384) : EReal :=
  mean (score (fun e => proj x wq r (headCol n e)) fun t e => proj x wk t (headCol n e)) fun t => proj x wv t n

/-- The layer's output. -/
def output (r : Fin 512) (d : Fin 1024) : EReal := ∑ n : Fin 16384, attn x wq wk wv r n * wo n d
end

/-- Column `j` of the sixteenth `c` of the columns. -/
def colOf (c : Fin 16) (j : Fin 1024) : Fin 16384 := ⟨c.val * 1024 + j.val, by omega⟩

/-- A sum over all columns is the sum over the sixteenths of the sums over each. -/
theorem sum_cols (f : Fin 16384 → EReal) : ∑ n, f n = ∑ c : Fin 16, ∑ j : Fin 1024, f (colOf c j) := by
  rw [← Fintype.sum_prod_type' (fun c j => f (colOf c j))]
  refine (Fintype.sum_equiv (finProdFinEquiv (m := 16) (n := 1024)) _ _ fun p => ?_).symm
  refine congrArg f (Fin.ext ?_)
  show p.1.val * 1024 + p.2.val = p.2.val + 1024 * p.1.val
  omega

end Cert.Attention

end
-- ==== Proof.KernelIdealValue.lean ====
/- What the kernel leaves on every device, over the extended reals, is the attention layer of the whole arrays whose
   blocks the devices hold. -/
module

public import proofs.«01_k».proof.Proof.Attention
public import proofs.«01_k».proof.Proof.KernelIdealCont
public import Idealize.ShloMosaic.Lib.LayoutAt

@[expose] public section

noncomputable section

namespace Cert.KernelIdealProof

open Cert.KernelIdeal Cert.KernelIdeal.Gen
open Idealize.ShloMosaic Cert.Attention

/-! ## One device's payloads at an index -/

section Payloads
variable (I : Ins Ideal)

/-- Column `e` of the head that a device's column `n` belongs to. -/
def localCol (n : Fin 1024) (e : Fin 128) : Fin 1024 := ⟨128 * (n.val / 128) + e.val, by omega⟩

/-- Row `r` of group `g`. -/
def rowOf (g : Fin 2) (r : Fin 256) : Fin 512 := ⟨256 * g.val + r.val, by omega⟩

/-- A device's projection of token `r` by its column `n` of `w`. -/
def dproj (w : Vec Ideal S1024x1024 .f32) (r : Fin 512) (n : Fin 1024) : EReal := ∑ k : Fin 1024, I.x (ix3 0 r k) * w (ix2 k n)

/-- The queries of a group are its rows times the query weights; -/
theorem q_apply (g : Fin 2) (r : Fin 256) (n : Fin 1024) : I.q g (ix2 r n) = dproj I I.wq (rowOf g r) n := by
  match g with
  | 0 =>
    have h : (⟨r.val, by omega⟩ : Fin 512) = rowOf 0 r := Fin.ext (by simp [rowOf])
    pointwise [Ins.q, k0_pay4, k0_pay1, dproj]
    rw [← h]
  | 1 =>
    have h : (⟨256 + r.val, by omega⟩ : Fin 512) = rowOf 1 r := Fin.ext (by simp [rowOf])
    pointwise [Ins.q, k0_pay26, k0_pay25, k0_pay1, dproj]
    rw [← h]

/-- the keys are the rows times the key weights, -/
theorem k_apply (r : Fin 512) (n : Fin 1024) : I.k (ix2 r n) = dproj I I.wk r n := by
  pointwise [Ins.k, k0_pay2, k0_pay1, dproj]

/-- and the values the rows times the value weights. -/
theorem v_apply (r : Fin 512) (n : Fin 1024) : I.v (ix2 r n) = dproj I I.wv r n := by
  pointwise [Ins.v, k0_pay3, k0_pay1, dproj]

set_option maxRecDepth 16384 in
/-- One head of one group of rows. -/
theorem headV_apply (q : FVec Ideal S256x1024 .f32) (k v : FVec Ideal S512x1024 .f32) (j : Fin 8) (r : Fin 256) (d : Fin 128) :
    headV q k v j (ix2 r d)
      = mean (score (fun e => q (ix2 r ⟨128 * j.val + e.val, by omega⟩)) fun t e => k (ix2 t ⟨128 * j.val + e.val, by omega⟩))
          fun t => v (ix2 t ⟨128 * j.val + d.val, by omega⟩) := by
  pointwise [headV, k0_pay12, mean, weight, top, score]

/-- A device's column `n` of its heads, at row `r` of group `g`. -/
theorem attn_apply (g : Fin 2) (r : Fin 256) (n : Fin 1024) :
    I.attn g (ix2 r n)
      = mean (score (fun e => dproj I I.wq (rowOf g r) (localCol n e)) fun t e => dproj I I.wk t (localCol n e))
          fun t => dproj I I.wv t n := by
  have h : (⟨128 * (n.val / 128) + n.val % 128, by omega⟩ : Fin 1024) = n := Fin.ext (Nat.div_add_mod n.val 128)
  refine (headV_apply (I.q g) I.k I.v ⟨n.val / 128, by omega⟩ r ⟨n.val % 128, by omega⟩).trans ?_
  simp only [q_apply, k_apply, v_apply, h]
  rfl

/-- The partial product of a group is its attention times the output weights. -/
theorem prod_apply (g : Fin 2) (r : Fin 256) (d : Fin 1024) :
    I.prod g (ix2 r d) = ∑ n : Fin 1024, I.attn g (ix2 r n) * I.wo (ix2 n d) := by
  pointwise [Ins.prod, k0_pay23]

/-- A device's partial product, at token `r`. -/
theorem part_apply (r : Fin 512) (d : Fin 1024) :
    I.part (ix2 r d)
      = ∑ n : Fin 1024, mean (score (fun e => dproj I I.wq r (localCol n e)) fun t e => dproj I I.wk t (localCol n e))
          (fun t => dproj I I.wv t n) * I.wo (ix2 n d) := by
  have h : rowOf ⟨r.val / 256, by omega⟩ ⟨r.val % 256, by omega⟩ = r := Fin.ext (by show 256 * (r.val / 256) + r.val % 256 = r.val; omega)
  refine (prod_apply I ⟨r.val / 256, by omega⟩ ⟨r.val % 256, by omega⟩ d).trans ?_
  simp only [attn_apply, h]

end Payloads

/-! ## The exchange -/

/-- The sum of sixteen slabs. -/
theorem sumV_apply (s : Dev nD → Vec Ideal S16x1024 .bf16) (r : Fin 16) (d : Fin 1024) : sumV s (ix2 r d) = ∑ p : Fin 16, s p (ix2 r d) := by
  pointwise [sumV, k0_pay43, k0_pay42]
  simp only [Fin.sum_univ_succ, Fin.sum_univ_zero, add_zero, add_assoc]
  rfl

/-- After the reduce-scatter and the all-gather every device holds the sum of the devices' partial products. -/
theorem AF_apply (I : Dev nD → Ins Ideal) (r : Fin 512) (d : Fin 1024) : AF I (ix2 r d) = ∑ p : Fin 16, (I p).part (ix2 r d) := by
  refine (sumV_apply _ ⟨r.val % 16, Nat.mod_lt _ (by decide)⟩ d).trans (Finset.sum_congr rfl fun p _ => ?_)
  have hr : r.val < 512 := r.isLt
  have hp : p.val < 16 := p.isLt
  unfold slabRow rsF
  have e : ∀ j : S512x1024.Idx, row j = 256 * (r.val / 256) + 16 * p.val + r.val % 16 → col j = d.val →
      PF I (slabOf j) (toSlab (slabOf (ix2 r d)) j) = (I p).part (ix2 r d) := by
    intro j h0 h1
    have hs : slabOf j = p := Fin.ext (show row j / 16 % 16 = p.val by omega)
    rw [hs]
    refine congrArg (I p).part (idx_ext ?_ ?_)
    · rw [row_toSlab, h0]
      show 256 * _ + 16 * (r.val / 16 % 16) + _ = r.val
      omega
    · exact (congrArg Fin.val (toSlab_one _ j)).trans h1
  exact e _ rfl rfl

/-- The result is the sum of all devices' partial products. -/
theorem outF_apply (I : Dev nD → Ins Ideal) (z : Fin 1) (r : Fin 512) (d : Fin 1024) : outF I (ix3 z r d) = ∑ p : Fin 16, (I p).part (ix2 r d) := by
  rw [← AF_apply]
  pointwise [outF, k0_pay47]

/-! ## The whole arrays -/

section Whole
variable (X : Vec Ideal S1x512x1024 .f32) (Wq Wk Wv : FVec Ideal ⟨2, ![1024, 16384]⟩ .f32) (Wo : FVec Ideal ⟨2, ![16384, 1024]⟩ .f32)

/-- What device `c` is given of the whole arrays. -/
def blocks (c : Dev nD) : Ins Ideal where
  x := X
  wq := Layout.block ⟨2, ![1024, 1024]⟩ ⟨2, ![1024, 16384]⟩ 1 16 c Wq
  wo := Layout.block ⟨2, ![1024, 1024]⟩ ⟨2, ![16384, 1024]⟩ 0 16 c Wo
  wk := Layout.block ⟨2, ![1024, 1024]⟩ ⟨2, ![1024, 16384]⟩ 1 16 c Wk
  wv := Layout.block ⟨2, ![1024, 1024]⟩ ⟨2, ![1024, 16384]⟩ 1 16 c Wv

/-- An entry of a device's block of columns, in the whole matrix; -/
theorem block_col (c : Fin 16) (W : FVec Ideal ⟨2, ![1024, 16384]⟩ .f32) (k n : Fin 1024) :
    Layout.block ⟨2, ![1024, 1024]⟩ ⟨2, ![1024, 16384]⟩ 1 16 c W (by decide) (ix2 k n) = W (ix2 k (colOf c n)) := by
  rw [Layout.block_apply]
  refine congrArg W (funext fun a => ?_)
  match a with
  | ⟨0, _⟩ => rfl
  | ⟨1, _⟩ => rfl

/-- and of its block of rows. -/
theorem block_row (c : Fin 16) (W : FVec Ideal ⟨2, ![16384, 1024]⟩ .f32) (k n : Fin 1024) :
    Layout.block ⟨2, ![1024, 1024]⟩ ⟨2, ![16384, 1024]⟩ 0 16 c W (by decide) (ix2 k n) = W (ix2 (colOf c k) n) := by
  rw [Layout.block_apply]
  refine congrArg W (funext fun a => ?_)
  match a with
  | ⟨0, _⟩ => rfl
  | ⟨1, _⟩ => rfl

/-- The layer's output from the whole arrays. -/
def layer : FVec Ideal S1x512x1024 .f32 := fun i =>
  output (fun r k => X (ix3 0 r k)) (fun k n => Wq (ix2 k n)) (fun k n => Wk (ix2 k n)) (fun k n => Wv (ix2 k n)) (fun n d => Wo (ix2 n d))
    (i (1 : Fin 3)) (i (2 : Fin 3))

/-- A column's head is the same on the device and in the whole matrix. -/
theorem headCol_colOf (c : Fin 16) (n : Fin 1024) (e : Fin 128) : headCol (colOf c n) e = colOf c (localCol n e) :=
  Fin.ext (by show 128 * ((c.val * 1024 + n.val) / 128) + e.val = c.val * 1024 + (128 * (n.val / 128) + e.val); omega)

/-- Every device ends with the layer's output. -/
theorem outF_blocks : outF (blocks X Wq Wk Wv Wo) = layer X Wq Wk Wv Wo := by
  funext i
  obtain ⟨z, r, d, rfl⟩ : ∃ (z : Fin 1) (r : Fin 512) (d : Fin 1024), i = ix3 z r d := ⟨_, _, _, eq_ix3 i⟩
  rw [outF_apply]
  show _ = output _ _ _ _ _ r d
  unfold output
  rw [sum_cols]
  refine Finset.sum_congr rfl fun c _ => ?_
  rw [part_apply]
  refine Finset.sum_congr rfl fun n _ => ?_
  unfold attn proj
  simp only [dproj, blocks, block_col, block_row, headCol_colOf]

end Whole

end Cert.KernelIdealProof

end
-- ==== Proof.Reference.lean ====
/- What the reference leaves, over the extended reals, is the attention layer of its arguments. The reference runs the
   online softmax over a single block of keys, starting from the maximum `-∞`, the sum `0` and the output `0`: the factor
   that rescales the old sum and output is `exp (-∞ - m)`, which is `0`, so that only the block's own sum and output
   are left. -/
module

public import proofs.«01_k».proof.Proof.Attention
public import proofs.«01_k».proof.Proof.Gen.ReferenceIdeal.Run

@[expose] public section

noncomputable section

namespace Cert.ReferenceValue

open Cert.ReferenceIdeal Cert.ReferenceIdeal.Gen
open Idealize.ShloMosaic Cert.Attention

section
variable (x : FVec Ideal S1x512x1024 .f32) (wq wk wv : FVec Ideal S1024x16384 .f32) (wo : FVec Ideal S16384x1024 .f32)

/-! ## The reference's arrays, in its own operations -/

/-- A projection, its columns split into heads. -/
def heads (w : FVec Ideal S1024x16384 .f32) : FVec Ideal S1x512x128x128 .f32 :=
  shapeCast S1x512x128x128 (Host.dotGeneral dot_S1x512x1024_S1024x16384_S1x512x16384_2_0_01_1_n_n none x w : FVec Ideal S1x512x16384 .f32) shapeCasts_S1x512x16384_S1x512x128x128

/-- The scaled scores. -/
def scores : FVec Ideal S1x128x512x512 .f32 :=
  mulf (Host.dotGeneral dot_S1x512x128x128_S1x512x128x128_S1x128x512x512_3_3_1_1_02_02 none (heads x wq) (heads x wk))
    (broadcastInDim S1x128x512x512 ![] bcast_S_S1x128x512x512 (constant S_ .f32 0x3DB504F3#32))

/-- The maximum that the online softmax starts from. -/
def start : FVec Ideal S1x128x512x1 .f32 := broadcastInDim S1x128x512x1 ![] bcast_S_S1x128x512x1 (constant S_ .f32 0xFF800000#32)

/-- The block's own maximum. -/
def blockMax (s : FVec Ideal S1x128x512x512 .f32) : FVec Ideal S1x128x512 .f32 :=
  Host.reduce FloatOps.maximumf s (constant S_ .f32 0xFF800000#32) reducesTo_S1x128x512x512_S1x128x512_d3 h_S_

/-- The maximum after the block. -/
def maxes (s : FVec Ideal S1x128x512x512 .f32) : FVec Ideal S1x128x512x1 .f32 :=
  maximumf start (broadcastInDim S1x128x512x1 ![0, 1, 2] bcast_S1x128x512_S1x128x512x1_0_1_2 (blockMax s))

/-- The factor of the old sum and output. -/
def rescale (m : FVec Ideal S1x128x512x1 .f32) : FVec Ideal S1x128x512x1 .f32 := Host.exp (subf start m)

/-- The weights. -/
def weights (s : FVec Ideal S1x128x512x512 .f32) : FVec Ideal S1x128x512x512 .f32 :=
  Host.exp (subf s (broadcastInDim S1x128x512x512 ![0, 1, 2, 3] bcast_S1x128x512x1_S1x128x512x512_0_1_2_3 (maxes s)))

/-- The sum of the weights after the block. -/
def sums (s : FVec Ideal S1x128x512x512 .f32) : FVec Ideal S1x128x512x1 .f32 :=
  addf (mulf (broadcastInDim S1x128x512x1 ![] bcast_S_S1x128x512x1 (constant S_ .f32 0x00000000#32)) (rescale (maxes s)))
    (broadcastInDim S1x128x512x1 ![0, 1, 2] bcast_S1x128x512_S1x128x512x1_0_1_2
      (Host.reduceAdd (weights s) (constant S_ .f32 0x00000000#32) reducesTo_S1x128x512x512_S1x128x512_d3 h_S_))

/-- The output after the block, not yet divided. -/
def weighted (s : FVec Ideal S1x128x512x512 .f32) (v : FVec Ideal S1x512x128x128 .f32) : FVec Ideal S1x512x128x128 .f32 :=
  addf (mulf (broadcastInDim S1x512x128x128 ![] bcast_S_S1x512x128x128 (constant S_ .f32 0x00000000#32))
      (broadcastInDim S1x512x128x128 ![0, 1, 2, 3] bcast_S1x512x128x1_S1x512x128x128_0_1_2_3
        (transpose S1x512x128x1 [0, 2, 1, 3] (rescale (maxes s)) transposes_S1x128x512x1_S1x512x128x1_0_2_1_3)))
    (transpose S1x512x128x128 [0, 3, 1, 2]
      (Host.dotGeneral dot_S1x512x128x128_S1x128x512x512_S1x128x128x512_1_3_3_2_02_01 none v (weights s) : FVec Ideal S1x128x128x512 .f32)
      transposes_S1x128x128x512_S1x512x128x128_0_3_1_2)

/-- Every head's output. -/
def heads_out (s : FVec Ideal S1x128x512x512 .f32) (v : FVec Ideal S1x512x128x128 .f32) : FVec Ideal S1x512x128x128 .f32 :=
  Host.divf (weighted s v) (broadcastInDim S1x512x128x128 ![0, 1, 2, 3] bcast_S1x512x128x1_S1x512x128x128_0_1_2_3
    (transpose S1x512x128x1 [0, 2, 1, 3] (sums s) transposes_S1x128x512x1_S1x512x128x1_0_2_1_3))

/-- The reference's result. -/
def result : FVec Ideal S1x512x1024 .f32 :=
  Host.dotGeneral dot_S1x512x16384_S16384x1024_S1x512x1024_2_0_01_1_n_n none
    (shapeCast S1x512x16384 (heads_out (scores x wq wk) (heads x wv)) shapeCasts_S1x512x128x128_S1x512x16384 : FVec Ideal S1x512x16384 .f32) wo

/-! ## At an index -/

/-- An entry of a projection by heads: the row times the head's column. -/
theorem heads_apply (w : FVec Ideal S1024x16384 .f32) (z : Fin 1) (r : Fin 512) (h e : Fin 128) :
    heads x w (ix4 z r h e) = ∑ k : Fin 1024, x (ix3 0 r k) * w (ix2 k ⟨h.val * 128 + e.val, by omega⟩) := by
  pointwise [heads]

/-- The scores of a head's query. -/
theorem scores_apply (z : Fin 1) (h : Fin 128) (r t : Fin 512) :
    scores x wq wk (ix4 z h r t) = score (fun e => heads x wq (ix4 0 r h e)) (fun t e => heads x wk (ix4 0 t h e)) t := by
  obtain rfl : z = 0 := Subsingleton.elim _ _
  pointwise [scores, score]

/-- The start is the least extended real. -/
theorem ninf_eq : Ideal.ofBits .f32 0xFF800000#32 = ⊥ := by
  simp [Ideal.ofBits, Ideal.ieee]

/-- Every entry of the start is the least extended real. -/
theorem start_apply (j : S1x128x512x1.Idx) : start j = ⊥ := by
  rw [← ninf_eq]
  pointwise [start]

variable (s : FVec Ideal S1x128x512x512 .f32) (v : FVec Ideal S1x512x128x128 .f32)

/-- The maximum is taken along a row of scores. -/
theorem reduces_row : S1x128x512x512.Reduces [3] S1x128x512 := by decide

/-- The block's maximum is the greatest score of the row. -/
theorem blockMax_apply (h : Fin 128) (r : Fin 512) : blockMax s (ix3 0 h r) = top fun t => s (ix4 0 h r t) := by
  have key := Host.reduce_eq_fold_single (a := (3 : Fin 4)) (FloatOps.maximumf : Ideal .f32 → Ideal .f32 → Ideal .f32) s
    (constant S_ .f32 0xFF800000#32) reducesTo_S1x128x512x512_S1x128x512_d3 reduces_row h_S_ (ix3 0 h r)
  refine key.trans ?_
  refine congrArg (fun f => Finset.fold max (Ideal.ofBits .f32 0xFF800000#32) f (Finset.univ : Finset (Fin 512))) (funext fun t => congrArg s (funext fun a => ?_))
  match a with
  | ⟨0, _⟩ => rfl
  | ⟨1, _⟩ => rfl
  | ⟨2, _⟩ => rfl
  | ⟨3, _⟩ => rfl

/-- A maximum with the start is the other operand. -/
theorem max_start (M : FVec Ideal S1x128x512 .f32) (z y : Fin 1) (h : Fin 128) (r : Fin 512) :
    maximumf start (broadcastInDim S1x128x512x1 ![0, 1, 2] bcast_S1x128x512_S1x128x512x1_0_1_2 M) (ix4 z h r y) = M (ix3 0 h r) := by
  pointwise
  rw [start_apply]
  exact max_eq_right bot_le

/-- The new maximum is the greatest score of the row. -/
theorem maxes_apply (z y : Fin 1) (h : Fin 128) (r : Fin 512) : maxes s (ix4 z h r y) = top fun t => s (ix4 0 h r t) :=
  (max_start (blockMax s) z y h r).trans (blockMax_apply s h r)

/-- The factor for what came before the block is 0, whatever the maximum. -/
theorem rescale_apply (m : FVec Ideal S1x128x512x1 .f32) (j : S1x128x512x1.Idx) : rescale m j = 0 := by
  show Ideal.exp (start j - m j) = 0
  rw [start_apply, sub_eq_add_neg, EReal.bot_add]
  rfl

/-- The weights of a row of scores. -/
theorem weights_apply (z : Fin 1) (h : Fin 128) (r t : Fin 512) : weights s (ix4 z h r t) = weight (fun t => s (ix4 0 h r t)) t := by
  obtain rfl : z = 0 := Subsingleton.elim _ _
  pointwise [weights, weight]
  rw [maxes_apply]

/-- The sum of a row's weights: what came before adds nothing. -/
theorem sums_apply (z y : Fin 1) (h : Fin 128) (r : Fin 512) : sums s (ix4 z h r y) = ∑ t, weight (fun t => s (ix4 0 h r t)) t := by
  pointwise [sums]
  simp only [rescale_apply, weights_apply, mul_zero, zero_add]

/-- The sum of the values by a row's weights: what came before adds nothing. -/
theorem weighted_apply (z : Fin 1) (r : Fin 512) (h e : Fin 128) :
    weighted s v (ix4 z r h e) = ∑ t, weight (fun t => s (ix4 0 h r t)) t * v (ix4 0 t h e) := by
  pointwise [weighted]
  simp only [rescale_apply, weights_apply, mul_zero, zero_add]
  exact Finset.sum_congr rfl fun t _ => mul_comm _ _

/-- A head's output is the mean of its values by the weights. -/
theorem heads_out_apply (z : Fin 1) (r : Fin 512) (h e : Fin 128) :
    heads_out s v (ix4 z r h e) = mean (fun t => s (ix4 0 h r t)) fun t => v (ix4 0 t h e) := by
  pointwise [heads_out]
  rw [weighted_apply, sums_apply]
  rfl

/-- The reference computes the layer. -/
theorem result_apply (z : Fin 1) (r : Fin 512) (d : Fin 1024) :
    result x wq wk wv wo (ix3 z r d)
      = output (fun r k => x (ix3 0 r k)) (fun k n => wq (ix2 k n)) (fun k n => wk (ix2 k n)) (fun k n => wv (ix2 k n)) (fun n d => wo (ix2 n d)) r d := by
  pointwise [result]
  unfold output
  refine Finset.sum_congr rfl fun n _ => congrArg (· * wo (ix2 n d)) ?_
  have h : (⟨n.val / 128 * 128 + n.val % 128, by omega⟩ : Fin 16384) = n := Fin.ext (Nat.div_add_mod' n.val 128)
  have g : ∀ e : Fin 128, (⟨n.val / 128 * 128 + e.val, by omega⟩ : Fin 16384) = headCol n e :=
    fun e => Fin.ext (congrArg (· + e.val) (Nat.mul_comm _ _))
  rw [heads_out_apply]
  simp only [scores_apply, heads_apply, h, g]
  rfl
end

/-! ## The run -/

open Idealize.ShloMosaic.TcCoe

set_option maxRecDepth 100000 in
/-- The run's result is `result` of the arguments. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v34
  rfl

end Cert.ReferenceValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to its end with its arguments unchanged and every semaphore at zero. -/
theorem frame_kernel : Cert.quiescent_Kernel (hKernel := Cert.Kernel.Gen.facts) := fun m g _ =>
  (θ_run _ _ _).mono (fun _ h => ⟨fun c => (h.1 c).2, h.2⟩) (Cert.KernelProof.run m g)

/-- The same of its reading over the extended reals. -/
theorem frame_kernelIdeal : Cert.quiescent_KernelIdeal (hKernelIdeal := Cert.KernelIdeal.Gen.facts) := fun m g _ =>
  (θ_run _ _ _).mono (fun _ h => ⟨fun c => (h.1 c).2, h.2⟩) (Cert.KernelIdealProof.run m g)

/-- The reference runs to its end with its arguments unchanged; it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- From devices that hold their blocks of the whole arrays, every device ends with the reference's result. -/
theorem value : Cert.algebraic_KernelIdeal_ReferenceIdeal (hKernelIdeal := Cert.KernelIdeal.Gen.facts) (hReferenceIdeal := Cert.ReferenceIdeal.Gen.facts) := by
  intro m g m' g' _ hm
  refine ⟨Cert.ReferenceIdeal.Value.res_out0 m' 0, ?_, (θ_run _ _ _).mono (fun _ h => h 0) (Cert.ReferenceIdeal.Value.run m' g')⟩
  refine (θ_run _ _ _).mono (fun _ h c => ⟨(h.1 c).1.trans ?_, (h.1 c).2⟩) (Cert.KernelIdealProof.run m g)
  have hI : Cert.KernelIdealProof.inp m = Cert.KernelIdealProof.blocks
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    funext c
    obtain ⟨h0, h1, h2, h3, h4⟩ := hm c
    rw [Cert.KernelIdealProof.iblk_eq, h0, h1, h2, h3, h4]
    rfl
  rw [hI, Cert.KernelIdealProof.outF_blocks, Cert.ReferenceValue.res_eq]
  funext i
  obtain ⟨z, r, d, rfl⟩ : ∃ (z : Fin 1) (r : Fin 512) (d : Fin 1024), i = ix3 z r d := ⟨_, _, _, eq_ix3 i⟩
  exact (Cert.ReferenceValue.result_apply _ _ _ _ _ z r d).symm

theorem claim : Cert.Claim :=
  ⟨Cert.Kernel.Gen.facts, Cert.KernelIdeal.Gen.facts, Cert.ReferenceIdeal.Gen.facts, frame_kernel, frame_kernelIdeal, frame_reference, trivial, value⟩

end Cert.Proof

end
